-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S320000x128 : Shape := ⟨2, ![320000, 128]⟩
abbrev S320000 : Shape := ⟨1, ![320000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S320000x128 .f32) (main_arg3 : IVec S320000 32) (main_arg4 : FVec F S256x64 .f32) (main_arg5 : FVec F S64 .f32) (main_arg6 : FVec F S64x1 .f32) (main_arg7 : FVec F S1 .f32) (main_arg8 : FVec F S512x256 .f32) (main_arg9 : FVec F S256 .f32) (main_arg10 : FVec F S256x128 .f32) (main_arg11 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 32 := constantI S_ 32 0#32
  let main_v5 : IVec S320000 32 := broadcastInDim S320000 ![] bcast_S_S320000 main_c_1
  let main_v6 : IVec S320000 1 := cmpi .sge main_arg3 main_v5
  let main_v7 : IVec S320000 1 := andi main_v4 main_v6
  let main_c_2 : IVec S_ 32 := constantI S_ 32 10000#32
  let main_v8 : IVec S320000 32 := broadcastInDim S320000 ![] bcast_S_S320000 main_c_2
  let main_v9 : IVec S320000 1 := cmpi .slt main_arg3 main_v8
  let main_v10 : IVec S320000 1 := andi main_v7 main_v9
  let main_c_3 : IVec S_ 1 := constantI S_ 1 1#1
  let main_v11 : IVec S_ 1 := (fun x v => Host.reduce IntOp.andi x v reducesTo_S320000_S_d0 h_S_) main_v10 main_c_3
  main_v11
-- ==== Kernel.lean ====
abbrev S320000x128 : Shape := ⟨2, ![320000, 128]⟩
abbrev S320000 : Shape := ⟨1, ![320000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S512x256 : Shape := ⟨2, ![512, 256]⟩
abbrev S256 : Shape := ⟨1, ![256]⟩
abbrev S256x128 : Shape := ⟨2, ![256, 128]⟩
abbrev S128 : Shape := ⟨1, ![128]⟩
abbrev S2500x1x128 : Shape := ⟨3, ![2500, 1, 128]⟩
abbrev S320x1x1000 : Shape := ⟨3, ![320, 1, 1000]⟩
abbrev S10240x128 : Shape := ⟨2, ![10240, 128]⟩
abbrev S10240x16 : Shape := ⟨2, ![10240, 16]⟩
abbrev S1000x128 : Shape := ⟨2, ![1000, 128]⟩
abbrev S1x1x1000 : Shape := ⟨3, ![1, 1, 1000]⟩
abbrev S1000 : Shape := ⟨1, ![1000]⟩
abbrev S1x1000 : Shape := ⟨2, ![1, 1000]⟩
abbrev S1x1 : Shape := ⟨2, ![1, 1]⟩
abbrev S128x1000 : Shape := ⟨2, ![128, 1000]⟩
abbrev S128x128 : Shape := ⟨2, ![128, 128]⟩
abbrev S128x16 : Shape := ⟨2, ![128, 16]⟩
abbrev S128x1 : Shape := ⟨2, ![128, 1]⟩
abbrev S128x64 : Shape := ⟨2, ![128, 64]⟩
abbrev S1x64 : Shape := ⟨2, ![1, 64]⟩
abbrev S1024x128 : Shape := ⟨2, ![1024, 128]⟩
abbrev S1024x16 : Shape := ⟨2, ![1024, 16]⟩
abbrev S1024x1 : Shape := ⟨2, ![1024, 1]⟩
abbrev S1024x64 : Shape := ⟨2, ![1024, 64]⟩
abbrev S1x10240x128 : Shape := ⟨3, ![1, 10240, 128]⟩
abbrev S2x10240x128 : Shape := ⟨3, ![2, 10240, 128]⟩
abbrev S1x2500x1x128 : Shape := ⟨4, ![1, 2500, 1, 128]⟩
abbrev S2x2500x1x128 : Shape := ⟨4, ![2, 2500, 1, 128]⟩
abbrev S2x2500x128x128 : Shape := ⟨4, ![2, 2500, 128, 128]⟩
abbrev S1x128 : Shape := ⟨2, ![1, 128]⟩
abbrev S_ : Shape := ⟨0, ![]⟩
abbrev S1x1x128 : Shape := ⟨3, ![1, 1, 128]⟩
abbrev S1x2500x128x128 : Shape := ⟨4, ![1, 2500, 128, 128]⟩
abbrev S2500x128x128 : Shape := ⟨3, ![2500, 128, 128]⟩
abbrev S1x128x128 : Shape := ⟨3, ![1, 128, 128]⟩
abbrev S320000x16 : Shape := ⟨2, ![320000, 16]⟩
abbrev S4000x128 : Shape := ⟨2, ![4000, 128]⟩
abbrev S4000x16 : Shape := ⟨2, ![4000, 16]⟩
abbrev S4000x64 : Shape := ⟨2, ![4000, 64]⟩
abbrev S4000 : Shape := ⟨1, ![4000]⟩
abbrev S4000x1 : Shape := ⟨2, ![4000, 1]⟩
abbrev S4000x15 : Shape := ⟨2, ![4000, 15]⟩
abbrev S1000x16 : Shape := ⟨2, ![1000, 16]⟩
abbrev S1x256 : Shape := ⟨2, ![1, 256]⟩
abbrev S10000x128 : Shape := ⟨2, ![10000, 128]⟩
abbrev S1000x1 : Shape := ⟨2, ![1000, 1]⟩
abbrev S1000x512 : Shape := ⟨2, ![1000, 512]⟩
abbrev S1000x256 : Shape := ⟨2, ![1000, 256]⟩

abbrev nBuf : Table → Nat
  | .hbm => 53
  | .local .tc .vmem => 84
  | .local .scVector .vmem => 2
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S320000x128, .f32⟩
  | .hbm, ⟨3, _⟩ => ⟨S320000, .i32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S512x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S2500x1x128, .i32⟩
  | .hbm, ⟨13, _⟩ => ⟨S2500x1x128, .i32⟩
  | .hbm, ⟨14, _⟩ => ⟨S320x1x1000, .i32⟩
  | .hbm, ⟨15, _⟩ => ⟨S320x1x1000, .i32⟩
  | .hbm, ⟨16, _⟩ => ⟨S10240x128, .f32⟩
  | .hbm, ⟨17, _⟩ => ⟨S10240x16, .f32⟩
  | .hbm, ⟨18, _⟩ => ⟨S10240x128, .f32⟩
  | .hbm, ⟨19, _⟩ => ⟨S10240x16, .f32⟩
  | .hbm, ⟨20, _⟩ => ⟨S128x64, .f32⟩
  | .hbm, ⟨21, _⟩ => ⟨S128x64, .f32⟩
  | .hbm, ⟨22, _⟩ => ⟨S1x64, .f32⟩
  | .hbm, ⟨23, _⟩ => ⟨S10240x128, .f32⟩
  | .hbm, ⟨24, _⟩ => ⟨S10240x128, .f32⟩
  | .hbm, ⟨25, _⟩ => ⟨S1x10240x128, .f32⟩
  | .hbm, ⟨26, _⟩ => ⟨S1x10240x128, .f32⟩
  | .hbm, ⟨27, _⟩ => ⟨S2x10240x128, .f32⟩
  | .hbm, ⟨28, _⟩ => ⟨S1x2500x1x128, .i32⟩
  | .hbm, ⟨29, _⟩ => ⟨S1x2500x1x128, .i32⟩
  | .hbm, ⟨30, _⟩ => ⟨S2x2500x1x128, .i32⟩
  | .hbm, ⟨31, _⟩ => ⟨S2x2500x128x128, .f32⟩
  | .hbm, ⟨32, _⟩ => ⟨S1x2500x128x128, .f32⟩
  | .hbm, ⟨33, _⟩ => ⟨S2500x128x128, .f32⟩
  | .hbm, ⟨34, _⟩ => ⟨S320000x128, .f32⟩
  | .hbm, ⟨35, _⟩ => ⟨S1x2500x128x128, .f32⟩
  | .hbm, ⟨36, _⟩ => ⟨S2500x128x128, .f32⟩
  | .hbm, ⟨37, _⟩ => ⟨S320000x128, .f32⟩
  | .hbm, ⟨38, _⟩ => ⟨S1x64, .f32⟩
  | .hbm, ⟨39, _⟩ => ⟨S1x1, .f32⟩
  | .hbm, ⟨40, _⟩ => ⟨S320000x16, .f32⟩
  | .hbm, ⟨41, _⟩ => ⟨S320000x128, .f32⟩
  | .hbm, ⟨42, _⟩ => ⟨S320000x16, .f32⟩
  | .hbm, ⟨43, _⟩ => ⟨S320000x128, .f32⟩
  | .hbm, ⟨44, _⟩ => ⟨S10240x128, .f32⟩
  | .hbm, ⟨45, _⟩ => ⟨S10240x16, .f32⟩
  | .hbm, ⟨46, _⟩ => ⟨S10240x128, .f32⟩
  | .hbm, ⟨47, _⟩ => ⟨S10240x16, .f32⟩
  | .hbm, ⟨48, _⟩ => ⟨S1x256, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S10000x128, .f32⟩
  | .local .tc .vmem, ⟨0, _⟩ => ⟨S1000x128, .f32⟩
  | .local .tc .vmem, ⟨1, _⟩ => ⟨S1000x128, .f32⟩
  | .local .tc .vmem, ⟨2, _⟩ => ⟨S1x1x1000, .i32⟩
  | .local .tc .vmem, ⟨3, _⟩ => ⟨S1x1x1000, .i32⟩
  | .local .tc .vmem, ⟨4, _⟩ => ⟨S10240x128, .f32⟩
  | .local .tc .vmem, ⟨5, _⟩ => ⟨S10240x16, .f32⟩
  | .local .tc .vmem, ⟨6, _⟩ => ⟨S1000x128, .f32⟩
  | .local .tc .vmem, ⟨7, _⟩ => ⟨S1000x128, .f32⟩
  | .local .tc .vmem, ⟨8, _⟩ => ⟨S1x1x1000, .i32⟩
  | .local .tc .vmem, ⟨9, _⟩ => ⟨S1x1x1000, .i32⟩
  | .local .tc .vmem, ⟨10, _⟩ => ⟨S10240x128, .f32⟩
  | .local .tc .vmem, ⟨11, _⟩ => ⟨S10240x16, .f32⟩
  | .local .tc .vmem, ⟨12, _⟩ => ⟨S1024x128, .f32⟩
  | .local .tc .vmem, ⟨13, _⟩ => ⟨S1024x128, .f32⟩
  | .local .tc .vmem, ⟨14, _⟩ => ⟨S1024x16, .f32⟩
  | .local .tc .vmem, ⟨15, _⟩ => ⟨S1024x16, .f32⟩
  | .local .tc .vmem, ⟨16, _⟩ => ⟨S128x64, .f32⟩
  | .local .tc .vmem, ⟨17, _⟩ => ⟨S1x64, .f32⟩
  | .local .tc .vmem, ⟨18, _⟩ => ⟨S1024x128, .f32⟩
  | .local .tc .vmem, ⟨19, _⟩ => ⟨S1024x128, .f32⟩
  | .local .tc .vmem, ⟨20, _⟩ => ⟨S1024x128, .f32⟩
  | .local .tc .vmem, ⟨21, _⟩ => ⟨S1024x128, .f32⟩
  | .local .tc .vmem, ⟨22, _⟩ => ⟨S1024x16, .f32⟩
  | .local .tc .vmem, ⟨23, _⟩ => ⟨S1024x16, .f32⟩
  | .local .tc .vmem, ⟨24, _⟩ => ⟨S128x64, .f32⟩
  | .local .tc .vmem, ⟨25, _⟩ => ⟨S1x64, .f32⟩
  | .local .tc .vmem, ⟨26, _⟩ => ⟨S1024x128, .f32⟩
  | .local .tc .vmem, ⟨27, _⟩ => ⟨S1024x128, .f32⟩
  | .local .tc .vmem, ⟨28, _⟩ => ⟨S4000x128, .f32⟩
  | .local .tc .vmem, ⟨29, _⟩ => ⟨S4000x128, .f32⟩
  | .local .tc .vmem, ⟨30, _⟩ => ⟨S4000x128, .f32⟩
  | .local .tc .vmem, ⟨31, _⟩ => ⟨S4000x128, .f32⟩
  | .local .tc .vmem, ⟨32, _⟩ => ⟨S128x64, .f32⟩
  | .local .tc .vmem, ⟨33, _⟩ => ⟨S1x64, .f32⟩
  | .local .tc .vmem, ⟨34, _⟩ => ⟨S1x1, .f32⟩
  | .local .tc .vmem, ⟨35, _⟩ => ⟨S4000x16, .f32⟩
  | .local .tc .vmem, ⟨36, _⟩ => ⟨S4000x16, .f32⟩
  | .local .tc .vmem, ⟨37, _⟩ => ⟨S4000x128, .f32⟩
  | .local .tc .vmem, ⟨38, _⟩ => ⟨S4000x128, .f32⟩
  | .local .tc .vmem, ⟨39, _⟩ => ⟨S4000x128, .f32⟩
  | .local .tc .vmem, ⟨40, _⟩ => ⟨S4000x128, .f32⟩
  | .local .tc .vmem, ⟨41, _⟩ => ⟨S4000x128, .f32⟩
  | .local .tc .vmem, ⟨42, _⟩ => ⟨S4000x128, .f32⟩
  | .local .tc .vmem, ⟨43, _⟩ => ⟨S128x64, .f32⟩
  | .local .tc .vmem, ⟨44, _⟩ => ⟨S1x64, .f32⟩
  | .local .tc .vmem, ⟨45, _⟩ => ⟨S1x1, .f32⟩
  | .local .tc .vmem, ⟨46, _⟩ => ⟨S4000x16, .f32⟩
  | .local .tc .vmem, ⟨47, _⟩ => ⟨S4000x16, .f32⟩
  | .local .tc .vmem, ⟨48, _⟩ => ⟨S4000x128, .f32⟩
  | .local .tc .vmem, ⟨49, _⟩ => ⟨S4000x128, .f32⟩
  | .local .tc .vmem, ⟨50, _⟩ => ⟨S1000x128, .f32⟩
  | .local .tc .vmem, ⟨51, _⟩ => ⟨S1000x128, .f32⟩
  | .local .tc .vmem, ⟨52, _⟩ => ⟨S1000x16, .f32⟩
  | .local .tc .vmem, ⟨53, _⟩ => ⟨S1000x16, .f32⟩
  | .local .tc .vmem, ⟨54, _⟩ => ⟨S1x1x1000, .i32⟩
  | .local .tc .vmem, ⟨55, _⟩ => ⟨S1x1x1000, .i32⟩
  | .local .tc .vmem, ⟨56, _⟩ => ⟨S10240x128, .f32⟩
  | .local .tc .vmem, ⟨57, _⟩ => ⟨S10240x16, .f32⟩
  | .local .tc .vmem, ⟨58, _⟩ => ⟨S1000x128, .f32⟩
  | .local .tc .vmem, ⟨59, _⟩ => ⟨S1000x128, .f32⟩
  | .local .tc .vmem, ⟨60, _⟩ => ⟨S1000x16, .f32⟩
  | .local .tc .vmem, ⟨61, _⟩ => ⟨S1000x16, .f32⟩
  | .local .tc .vmem, ⟨62, _⟩ => ⟨S1x1x1000, .i32⟩
  | .local .tc .vmem, ⟨63, _⟩ => ⟨S1x1x1000, .i32⟩
  | .local .tc .vmem, ⟨64, _⟩ => ⟨S10240x128, .f32⟩
  | .local .tc .vmem, ⟨65, _⟩ => ⟨S10240x16, .f32⟩
  | .local .tc .vmem, ⟨66, _⟩ => ⟨S1000x128, .f32⟩
  | .local .tc .vmem, ⟨67, _⟩ => ⟨S1000x128, .f32⟩
  | .local .tc .vmem, ⟨68, _⟩ => ⟨S1000x16, .f32⟩
  | .local .tc .vmem, ⟨69, _⟩ => ⟨S1000x16, .f32⟩
  | .local .tc .vmem, ⟨70, _⟩ => ⟨S1000x128, .f32⟩
  | .local .tc .vmem, ⟨71, _⟩ => ⟨S1000x128, .f32⟩
  | .local .tc .vmem, ⟨72, _⟩ => ⟨S1000x16, .f32⟩
  | .local .tc .vmem, ⟨73, _⟩ => ⟨S1000x16, .f32⟩
  | .local .tc .vmem, ⟨74, _⟩ => ⟨S512x256, .f32⟩
  | .local .tc .vmem, ⟨75, _⟩ => ⟨S1x256, .f32⟩
  | .local .tc .vmem, ⟨76, _⟩ => ⟨S256x128, .f32⟩
  | .local .tc .vmem, ⟨77, _⟩ => ⟨S1x128, .f32⟩
  | .local .tc .vmem, ⟨78, _⟩ => ⟨S1000x128, .f32⟩
  | .local .tc .vmem, ⟨79, _⟩ => ⟨S1000x128, .f32⟩
  | .local .tc .vmem, ⟨80, _⟩ => ⟨S1000x128, .f32⟩
  | .local .tc .vmem, ⟨81, _⟩ => ⟨S1000x128, .f32⟩
  | .local .tc .vmem, ⟨82, _⟩ => ⟨S1000x128, .f32⟩
  | .local .tc .vmem, ⟨83, _⟩ => ⟨S1000x128, .f32⟩
  | .local .scVector .vmem, ⟨0, _⟩ => ⟨S128x128, .f32⟩
  | .local .scVector .vmem, ⟨1, _⟩ => ⟨S1x128, .i32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => false
  | ⟨29, _⟩ => false
  | ⟨30, _⟩ => false
  | ⟨31, _⟩ => false
  | ⟨32, _⟩ => false
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTables nBuf rfl bufTy 4 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27_0 : Ref sig .tc := ⟨.hbm, 42, rfl⟩
abbrev main_v27_1 : Ref sig .tc := ⟨.hbm, 43, rfl⟩
abbrev main_v28_0 : Ref sig .tc := ⟨.hbm, 44, rfl⟩
abbrev main_v28_1 : Ref sig .tc := ⟨.hbm, 45, rfl⟩
abbrev main_v29_0 : Ref sig .tc := ⟨.hbm, 46, rfl⟩
abbrev main_v29_1 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev main_v13_scv : Ref sig .scVector := ⟨.hbm, 27, rfl⟩
abbrev main_v16_scv : Ref sig .scVector := ⟨.hbm, 30, rfl⟩
abbrev main_v17_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg5_1 : Ref sig .tc := ⟨.vmem, 36, rfl⟩
abbrev cc5_stg6_0 : Ref sig .tc := ⟨.vmem, 37, rfl⟩
abbrev cc5_stg6_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg5_1 : Ref sig .tc := ⟨.vmem, 47, rfl⟩
abbrev cc6_stg6_0 : Ref sig .tc := ⟨.vmem, 48, rfl⟩
abbrev cc6_stg6_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg4_0 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg1_1 : Ref sig .tc := ⟨.vmem, 61, rfl⟩
abbrev cc8_stg2_0 : Ref sig .tc := ⟨.vmem, 62, rfl⟩
abbrev cc8_stg2_1 : Ref sig .tc := ⟨.vmem, 63, rfl⟩
abbrev cc8_stg3_0 : Ref sig .tc := ⟨.vmem, 64, rfl⟩
abbrev cc8_stg4_0 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg2_1 : Ref sig .tc := ⟨.vmem, 71, rfl⟩
abbrev cc9_stg3_0 : Ref sig .tc := ⟨.vmem, 72, rfl⟩
abbrev cc9_stg3_1 : Ref sig .tc := ⟨.vmem, 73, rfl⟩
abbrev cc9_stg4_0 : Ref sig .tc := ⟨.vmem, 74, rfl⟩
abbrev cc9_stg5_0 : Ref sig .tc := ⟨.vmem, 75, rfl⟩
abbrev cc9_stg6_0 : Ref sig .tc := ⟨.vmem, 76, rfl⟩
abbrev cc9_stg7_0 : Ref sig .tc := ⟨.vmem, 77, rfl⟩
abbrev cc9_stg8_0 : Ref sig .tc := ⟨.vmem, 78, rfl⟩
abbrev cc9_stg8_1 : Ref sig .tc := ⟨.vmem, 79, rfl⟩
abbrev cc9_stg9_0 : Ref sig .tc := ⟨.vmem, 80, rfl⟩
abbrev cc9_stg9_1 : Ref sig .tc := ⟨.vmem, 81, rfl⟩
abbrev cc9_stg10_0 : Ref sig .tc := ⟨.vmem, 82, rfl⟩
abbrev cc9_stg10_1 : Ref sig .tc := ⟨.vmem, 83, rfl⟩
abbrev cc4_scratch0 : Ref sig .scVector := ⟨.vmem, 0, rfl⟩
abbrev cc4_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem5_1 : DmaSem sig := 52
abbrev cc6_sem6_0 : DmaSem sig := 53
abbrev cc6_sem6_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc8_sem0_0 : DmaSem sig := 63
abbrev cc8_sem0_1 : DmaSem sig := 64
abbrev cc8_sem1_0 : DmaSem sig := 65
abbrev cc8_sem1_1 : DmaSem sig := 66
abbrev cc8_sem2_0 : DmaSem sig := 67
abbrev cc8_sem2_1 : DmaSem sig := 68
abbrev cc8_sem3_0 : DmaSem sig := 69
abbrev cc8_sem4_0 : DmaSem sig := 70
abbrev cc9_sem0_0 : DmaSem sig := 71
abbrev cc9_sem0_1 : DmaSem sig := 72
abbrev cc9_sem1_0 : DmaSem sig := 73
abbrev cc9_sem1_1 : DmaSem sig := 74
abbrev cc9_sem2_0 : DmaSem sig := 75
abbrev cc9_sem2_1 : DmaSem sig := 76
abbrev cc9_sem3_0 : DmaSem sig := 77
abbrev cc9_sem3_1 : DmaSem sig := 78
abbrev cc9_sem4_0 : DmaSem sig := 79
abbrev cc9_sem5_0 : DmaSem sig := 80
abbrev cc9_sem6_0 : DmaSem sig := 81
abbrev cc9_sem7_0 : DmaSem sig := 82
abbrev cc9_sem8_0 : DmaSem sig := 83
abbrev cc9_sem8_1 : DmaSem sig := 84
abbrev cc9_sem9_0 : DmaSem sig := 85
abbrev cc9_sem9_1 : DmaSem sig := 86
abbrev cc9_sem10_0 : DmaSem sig := 87
abbrev cc9_sem10_1 : DmaSem sig := 88
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![320], ![false]⟩

@[reducible] def k0_t1_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_20 : BitVec 32 := 1#32
  ⟨c0_i32_18, v54, c1_i32_20⟩

def k0_off1 (v8 : BitVec 32) (v30 : BitVec 32) (k0_t1 : Fin (k0_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg5 : BitVec 32 := Scf.iv c0_i32_18 c1_i32_20 k0_t1
  let c128_i32_22 : BitVec 32 := 128#32
  let v55 : BitVec 32 := Scalar.muli arg5 c128_i32_22
  let v56 : BitVec 32 := Scalar.addi v26 v55
  let v65 : Index := Scalar.indexCast v56
  let c0_23 : Index := 0#32
  ![v65.toNat, 0]
def k0_off2 (v8 : BitVec 32) (v30 : BitVec 32) (k0_t1 : Fin (k0_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg5 : BitVec 32 := Scf.iv c0_i32_18 c1_i32_20 k0_t1
  let c128_i32_22 : BitVec 32 := 128#32
  let v55 : BitVec 32 := Scalar.muli arg5 c128_i32_22
  let v56 : BitVec 32 := Scalar.addi v26 v55
  let v73 : Index := Scalar.indexCast v56
  let c0_28 : Index := 0#32
  ![v73.toNat, 0]
@[reducible] def k0_t2_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let v51 : BitVec 32 := Scalar.addi c0_i32_18 v50
  let c1_i32_21 : BitVec 32 := 1#32
  ⟨v54, v51, c1_i32_21⟩
def k0_off3 (v8 : BitVec 32) (v30 : BitVec 32) (k0_t2 : Fin (k0_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg5 : BitVec 32 := Scf.iv v54 c1_i32_21 k0_t2
  let c128_i32_22 : BitVec 32 := 128#32
  let v55 : BitVec 32 := Scalar.muli arg5 c128_i32_22
  let v56 : BitVec 32 := Scalar.addi v26 v55
  let v65 : Index := Scalar.indexCast v56
  let c0_23 : Index := 0#32
  ![v65.toNat, 0]
def k0_off4 (v8 : BitVec 32) (v30 : BitVec 32) (k0_t2 : Fin (k0_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg5 : BitVec 32 := Scf.iv v54 c1_i32_21 k0_t2
  let c128_i32_22 : BitVec 32 := 128#32
  let v55 : BitVec 32 := Scalar.muli arg5 c128_i32_22
  let v56 : BitVec 32 := Scalar.addi v26 v55
  let v73 : Index := Scalar.indexCast v56
  let c0_28 : Index := 0#32
  ![v73.toNat, 0]

def k0_chk1 (v8 : BitVec 32) (v30 : BitVec 32) : Prop :=
  ((k0_t1_loop v8 v30).OK) ∧
  (∀ k0_t1 : Fin (k0_t1_loop v8 v30).trips, ∀ a, (k0_off1 v8 v30 k0_t1) a + S128x128.size a ≤ S10240x128.size a) ∧
  (∀ k0_t1 : Fin (k0_t1_loop v8 v30).trips, ∀ a, (k0_off2 v8 v30 k0_t1) a + S128x16.size a ≤ S10240x16.size a) ∧
  ((k0_t2_loop v8 v30).OK) ∧
  (∀ k0_t2 : Fin (k0_t2_loop v8 v30).trips, ∀ a, (k0_off3 v8 v30 k0_t2) a + S128x128.size a ≤ S10240x128.size a) ∧
  (∀ k0_t2 : Fin (k0_t2_loop v8 v30).trips, ∀ a, (k0_off4 v8 v30 k0_t2) a + S128x16.size a ≤ S10240x16.size a)
theorem k0_t1_ok : ∀ (v8 : BitVec 32) (v30 : BitVec 32) (k0_hw1 : k0_chk1 v8 v30), (k0_t1_loop v8 v30).OK := fun v8 v30 k0_hw1 => k0_hw1.1
theorem k0_off1_inb : ∀ (v8 : BitVec 32) (v30 : BitVec 32) (k0_hw1 : k0_chk1 v8 v30) (k0_t1 : Fin (k0_t1_loop v8 v30).trips), ∀ a, (k0_off1 v8 v30 k0_t1) a + S128x128.size a ≤ S10240x128.size a := fun v8 v30 k0_hw1 k0_t1 => k0_hw1.2.1 k0_t1
theorem k0_off2_inb : ∀ (v8 : BitVec 32) (v30 : BitVec 32) (k0_hw1 : k0_chk1 v8 v30) (k0_t1 : Fin (k0_t1_loop v8 v30).trips), ∀ a, (k0_off2 v8 v30 k0_t1) a + S128x16.size a ≤ S10240x16.size a := fun v8 v30 k0_hw1 k0_t1 => k0_hw1.2.2.1 k0_t1
theorem k0_t2_ok : ∀ (v8 : BitVec 32) (v30 : BitVec 32) (k0_hw1 : k0_chk1 v8 v30), (k0_t2_loop v8 v30).OK := fun v8 v30 k0_hw1 => k0_hw1.2.2.2.1
theorem k0_off3_inb : ∀ (v8 : BitVec 32) (v30 : BitVec 32) (k0_hw1 : k0_chk1 v8 v30) (k0_t2 : Fin (k0_t2_loop v8 v30).trips), ∀ a, (k0_off3 v8 v30 k0_t2) a + S128x128.size a ≤ S10240x128.size a := fun v8 v30 k0_hw1 k0_t2 => k0_hw1.2.2.2.2.1 k0_t2
theorem k0_off4_inb : ∀ (v8 : BitVec 32) (v30 : BitVec 32) (k0_hw1 : k0_chk1 v8 v30) (k0_t2 : Fin (k0_t2_loop v8 v30).trips), ∀ a, (k0_off4 v8 v30 k0_t2) a + S128x16.size a ≤ S10240x16.size a := fun v8 v30 k0_hw1 k0_t2 => k0_hw1.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10240x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![320], ![false]⟩

@[reducible] def k1_t1_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_20 : BitVec 32 := 1#32
  ⟨c0_i32_18, v54, c1_i32_20⟩

def k1_off1 (v8 : BitVec 32) (v30 : BitVec 32) (k1_t1 : Fin (k1_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg5 : BitVec 32 := Scf.iv c0_i32_18 c1_i32_20 k1_t1
  let c128_i32_22 : BitVec 32 := 128#32
  let v55 : BitVec 32 := Scalar.muli arg5 c128_i32_22
  let v56 : BitVec 32 := Scalar.addi v26 v55
  let v65 : Index := Scalar.indexCast v56
  let c0_23 : Index := 0#32
  ![v65.toNat, 0]
def k1_off2 (v8 : BitVec 32) (v30 : BitVec 32) (k1_t1 : Fin (k1_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg5 : BitVec 32 := Scf.iv c0_i32_18 c1_i32_20 k1_t1
  let c128_i32_22 : BitVec 32 := 128#32
  let v55 : BitVec 32 := Scalar.muli arg5 c128_i32_22
  let v56 : BitVec 32 := Scalar.addi v26 v55
  let v73 : Index := Scalar.indexCast v56
  let c0_28 : Index := 0#32
  ![v73.toNat, 0]
@[reducible] def k1_t2_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let v51 : BitVec 32 := Scalar.addi c0_i32_18 v50
  let c1_i32_21 : BitVec 32 := 1#32
  ⟨v54, v51, c1_i32_21⟩
def k1_off3 (v8 : BitVec 32) (v30 : BitVec 32) (k1_t2 : Fin (k1_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg5 : BitVec 32 := Scf.iv v54 c1_i32_21 k1_t2
  let c128_i32_22 : BitVec 32 := 128#32
  let v55 : BitVec 32 := Scalar.muli arg5 c128_i32_22
  let v56 : BitVec 32 := Scalar.addi v26 v55
  let v65 : Index := Scalar.indexCast v56
  let c0_23 : Index := 0#32
  ![v65.toNat, 0]
def k1_off4 (v8 : BitVec 32) (v30 : BitVec 32) (k1_t2 : Fin (k1_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg5 : BitVec 32 := Scf.iv v54 c1_i32_21 k1_t2
  let c128_i32_22 : BitVec 32 := 128#32
  let v55 : BitVec 32 := Scalar.muli arg5 c128_i32_22
  let v56 : BitVec 32 := Scalar.addi v26 v55
  let v73 : Index := Scalar.indexCast v56
  let c0_28 : Index := 0#32
  ![v73.toNat, 0]

def k1_chk1 (v8 : BitVec 32) (v30 : BitVec 32) : Prop :=
  ((k1_t1_loop v8 v30).OK) ∧
  (∀ k1_t1 : Fin (k1_t1_loop v8 v30).trips, ∀ a, (k1_off1 v8 v30 k1_t1) a + S128x128.size a ≤ S10240x128.size a) ∧
  (∀ k1_t1 : Fin (k1_t1_loop v8 v30).trips, ∀ a, (k1_off2 v8 v30 k1_t1) a + S128x16.size a ≤ S10240x16.size a) ∧
  ((k1_t2_loop v8 v30).OK) ∧
  (∀ k1_t2 : Fin (k1_t2_loop v8 v30).trips, ∀ a, (k1_off3 v8 v30 k1_t2) a + S128x128.size a ≤ S10240x128.size a) ∧
  (∀ k1_t2 : Fin (k1_t2_loop v8 v30).trips, ∀ a, (k1_off4 v8 v30 k1_t2) a + S128x16.size a ≤ S10240x16.size a)
theorem k1_t1_ok : ∀ (v8 : BitVec 32) (v30 : BitVec 32) (k1_hw1 : k1_chk1 v8 v30), (k1_t1_loop v8 v30).OK := fun v8 v30 k1_hw1 => k1_hw1.1
theorem k1_off1_inb : ∀ (v8 : BitVec 32) (v30 : BitVec 32) (k1_hw1 : k1_chk1 v8 v30) (k1_t1 : Fin (k1_t1_loop v8 v30).trips), ∀ a, (k1_off1 v8 v30 k1_t1) a + S128x128.size a ≤ S10240x128.size a := fun v8 v30 k1_hw1 k1_t1 => k1_hw1.2.1 k1_t1
theorem k1_off2_inb : ∀ (v8 : BitVec 32) (v30 : BitVec 32) (k1_hw1 : k1_chk1 v8 v30) (k1_t1 : Fin (k1_t1_loop v8 v30).trips), ∀ a, (k1_off2 v8 v30 k1_t1) a + S128x16.size a ≤ S10240x16.size a := fun v8 v30 k1_hw1 k1_t1 => k1_hw1.2.2.1 k1_t1
theorem k1_t2_ok : ∀ (v8 : BitVec 32) (v30 : BitVec 32) (k1_hw1 : k1_chk1 v8 v30), (k1_t2_loop v8 v30).OK := fun v8 v30 k1_hw1 => k1_hw1.2.2.2.1
theorem k1_off3_inb : ∀ (v8 : BitVec 32) (v30 : BitVec 32) (k1_hw1 : k1_chk1 v8 v30) (k1_t2 : Fin (k1_t2_loop v8 v30).trips), ∀ a, (k1_off3 v8 v30 k1_t2) a + S128x128.size a ≤ S10240x128.size a := fun v8 v30 k1_hw1 k1_t2 => k1_hw1.2.2.2.2.1 k1_t2
theorem k1_off4_inb : ∀ (v8 : BitVec 32) (v30 : BitVec 32) (k1_hw1 : k1_chk1 v8 v30) (k1_t2 : Fin (k1_t2_loop v8 v30).trips), ∀ a, (k1_off4 v8 v30 k1_t2) a + S128x16.size a ≤ S10240x16.size a := fun v8 v30 k1_hw1 k1_t2 => k1_hw1.2.2.2.2.2 k1_t2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10240x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10240x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 16], ![false, false]⟩

@[reducible] def k4_t1_loop (i : grid4.Coords) : Scf.Loop 32 :=
  let c0_i32 : BitVec 32 := 0#32
  let c2500_i32 : BitVec 32 := 2500#32
  let arg1 : BitVec 32 := BitVec.ofNat 32 (i 1).val
  let v0 : BitVec 32 := Scalar.subi c2500_i32 arg1
  let c16_i32 : BitVec 32 := 16#32
  let c1_i32 : BitVec 32 := 1#32
  let v1 : BitVec 32 := Scalar.subi c16_i32 c1_i32
  let v2 : BitVec 32 := Scalar.addi v0 v1
  let c16_i32_0 : BitVec 32 := 16#32
  let v3 : BitVec 32 := Scalar.divsi v2 c16_i32_0
  let v4 : BitVec 32 := Scalar.subi v3 c0_i32
  let c1_i32_2 : BitVec 32 := 1#32
  let v6 : BitVec 32 := Scalar.divsi v4 c1_i32_2
  let v7 : BitVec 32 := Scalar.muli v6 c1_i32_2
  let v8 : BitVec 32 := Scalar.addi c0_i32 v7
  let c1_i32_3 : BitVec 32 := 1#32
  ⟨c0_i32, v8, c1_i32_3⟩
def k4_off1 (i : grid4.Coords) : Fin 4 → Nat :=
  let arg0 : BitVec 32 := BitVec.ofNat 32 (i 0).val
  let c0_i32_17_r0 : BitVec 32 := 0#32
  let c0_i32_18_r0 : BitVec 32 := 0#32
  let c0_i32_19_r0 : BitVec 32 := 0#32
  ![arg0.toNat, 0, 0, 0]
def k4_off2 (i : grid4.Coords) (k4_t1 : Fin (k4_t1_loop i).trips) : Fin 3 → Nat :=
  let arg1 : BitVec 32 := BitVec.ofNat 32 (i 1).val
  let c0_i32 : BitVec 32 := 0#32
  let c1_i32_3 : BitVec 32 := 1#32
  let arg8 : BitVec 32 := Scf.iv c0_i32 c1_i32_3 k4_t1
  let c16_i32_1 : BitVec 32 := 16#32
  let v9 : BitVec 32 := Scalar.muli arg8 c16_i32_1
  let v10 : BitVec 32 := Scalar.addi arg1 v9
  let c0_i32_20_r0 : BitVec 32 := 0#32
  let c0_i32_21_r0 : BitVec 32 := 0#32
  ![v10.toNat, 0, 0]
def k4_off3 (i : grid4.Coords) : Fin 3 → Nat :=
  let arg0 : BitVec 32 := BitVec.ofNat 32 (i 0).val
  let c0_i32_7 : BitVec 32 := 0#32
  let c0_i32_8 : BitVec 32 := 0#32
  ![arg0.toNat, 0, 0]
def k4_off4 (i : grid4.Coords) : Fin 4 → Nat :=
  let arg0 : BitVec 32 := BitVec.ofNat 32 (i 0).val
  let c0_i32_17_r1 : BitVec 32 := 0#32
  let c0_i32_18_r1 : BitVec 32 := 0#32
  let c0_i32_19_r1 : BitVec 32 := 0#32
  ![arg0.toNat, 0, 0, 0]
def k4_off5 (i : grid4.Coords) (k4_t1 : Fin (k4_t1_loop i).trips) : Fin 3 → Nat :=
  let arg1 : BitVec 32 := BitVec.ofNat 32 (i 1).val
  let c0_i32 : BitVec 32 := 0#32
  let c1_i32_3 : BitVec 32 := 1#32
  let arg8 : BitVec 32 := Scf.iv c0_i32 c1_i32_3 k4_t1
  let c16_i32_1 : BitVec 32 := 16#32
  let v9 : BitVec 32 := Scalar.muli arg8 c16_i32_1
  let v10 : BitVec 32 := Scalar.addi arg1 v9
  let c0_i32_20_r1 : BitVec 32 := 0#32
  let c0_i32_21_r1 : BitVec 32 := 0#32
  ![v10.toNat, 0, 0]
@[reducible] def k4_t2_loop (i : grid4.Coords) : Scf.Loop 32 :=
  let c0_i32 : BitVec 32 := 0#32
  let c2500_i32 : BitVec 32 := 2500#32
  let arg1 : BitVec 32 := BitVec.ofNat 32 (i 1).val
  let v0 : BitVec 32 := Scalar.subi c2500_i32 arg1
  let c16_i32 : BitVec 32 := 16#32
  let c1_i32 : BitVec 32 := 1#32
  let v1 : BitVec 32 := Scalar.subi c16_i32 c1_i32
  let v2 : BitVec 32 := Scalar.addi v0 v1
  let c16_i32_0 : BitVec 32 := 16#32
  let v3 : BitVec 32 := Scalar.divsi v2 c16_i32_0
  let v4 : BitVec 32 := Scalar.subi v3 c0_i32
  let c1_i32_2 : BitVec 32 := 1#32
  let v6 : BitVec 32 := Scalar.divsi v4 c1_i32_2
  let v7 : BitVec 32 := Scalar.muli v6 c1_i32_2
  let v8 : BitVec 32 := Scalar.addi c0_i32 v7
  let v5 : BitVec 32 := Scalar.addi c0_i32 v4
  let c1_i32_4 : BitVec 32 := 1#32
  ⟨v8, v5, c1_i32_4⟩
def k4_off6 (i : grid4.Coords) : Fin 4 → Nat :=
  let arg0 : BitVec 32 := BitVec.ofNat 32 (i 0).val
  let c0_i32_17_r2 : BitVec 32 := 0#32
  let c0_i32_18_r2 : BitVec 32 := 0#32
  let c0_i32_19_r2 : BitVec 32 := 0#32
  ![arg0.toNat, 0, 0, 0]
def k4_off7 (i : grid4.Coords) (k4_t2 : Fin (k4_t2_loop i).trips) : Fin 3 → Nat :=
  let arg1 : BitVec 32 := BitVec.ofNat 32 (i 1).val
  let c0_i32 : BitVec 32 := 0#32
  let c2500_i32 : BitVec 32 := 2500#32
  let v0 : BitVec 32 := Scalar.subi c2500_i32 arg1
  let c16_i32 : BitVec 32 := 16#32
  let c1_i32 : BitVec 32 := 1#32
  let v1 : BitVec 32 := Scalar.subi c16_i32 c1_i32
  let v2 : BitVec 32 := Scalar.addi v0 v1
  let c16_i32_0 : BitVec 32 := 16#32
  let v3 : BitVec 32 := Scalar.divsi v2 c16_i32_0
  let v4 : BitVec 32 := Scalar.subi v3 c0_i32
  let c1_i32_2 : BitVec 32 := 1#32
  let v6 : BitVec 32 := Scalar.divsi v4 c1_i32_2
  let v7 : BitVec 32 := Scalar.muli v6 c1_i32_2
  let v8 : BitVec 32 := Scalar.addi c0_i32 v7
  let c1_i32_4 : BitVec 32 := 1#32
  let arg8 : BitVec 32 := Scf.iv v8 c1_i32_4 k4_t2
  let c16_i32_1 : BitVec 32 := 16#32
  let v9 : BitVec 32 := Scalar.muli arg8 c16_i32_1
  let v10 : BitVec 32 := Scalar.addi arg1 v9
  let c0_i32_20_r2 : BitVec 32 := 0#32
  let c0_i32_21_r2 : BitVec 32 := 0#32
  ![v10.toNat, 0, 0]
def k4_off8 (i : grid4.Coords) : Fin 3 → Nat :=
  let arg0 : BitVec 32 := BitVec.ofNat 32 (i 0).val
  let c0_i32_7 : BitVec 32 := 0#32
  let c0_i32_8 : BitVec 32 := 0#32
  ![arg0.toNat, 0, 0]
def k4_off9 (i : grid4.Coords) : Fin 4 → Nat :=
  let arg0 : BitVec 32 := BitVec.ofNat 32 (i 0).val
  let c0_i32_17_r3 : BitVec 32 := 0#32
  let c0_i32_18_r3 : BitVec 32 := 0#32
  let c0_i32_19_r3 : BitVec 32 := 0#32
  ![arg0.toNat, 0, 0, 0]
def k4_off10 (i : grid4.Coords) (k4_t2 : Fin (k4_t2_loop i).trips) : Fin 3 → Nat :=
  let arg1 : BitVec 32 := BitVec.ofNat 32 (i 1).val
  let c0_i32 : BitVec 32 := 0#32
  let c2500_i32 : BitVec 32 := 2500#32
  let v0 : BitVec 32 := Scalar.subi c2500_i32 arg1
  let c16_i32 : BitVec 32 := 16#32
  let c1_i32 : BitVec 32 := 1#32
  let v1 : BitVec 32 := Scalar.subi c16_i32 c1_i32
  let v2 : BitVec 32 := Scalar.addi v0 v1
  let c16_i32_0 : BitVec 32 := 16#32
  let v3 : BitVec 32 := Scalar.divsi v2 c16_i32_0
  let v4 : BitVec 32 := Scalar.subi v3 c0_i32
  let c1_i32_2 : BitVec 32 := 1#32
  let v6 : BitVec 32 := Scalar.divsi v4 c1_i32_2
  let v7 : BitVec 32 := Scalar.muli v6 c1_i32_2
  let v8 : BitVec 32 := Scalar.addi c0_i32 v7
  let c1_i32_4 : BitVec 32 := 1#32
  let arg8 : BitVec 32 := Scf.iv v8 c1_i32_4 k4_t2
  let c16_i32_1 : BitVec 32 := 16#32
  let v9 : BitVec 32 := Scalar.muli arg8 c16_i32_1
  let v10 : BitVec 32 := Scalar.addi arg1 v9
  let c0_i32_20_r3 : BitVec 32 := 0#32
  let c0_i32_21_r3 : BitVec 32 := 0#32
  ![v10.toNat, 0, 0]
abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x16 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x16 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![320], ![false]⟩

@[reducible] def k7_t1_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_20 : BitVec 32 := 1#32
  ⟨c0_i32_18, v54, c1_i32_20⟩

def k7_off1 (v8 : BitVec 32) (v30 : BitVec 32) (k7_t1 : Fin (k7_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg6 : BitVec 32 := Scf.iv c0_i32_18 c1_i32_20 k7_t1
  let c128_i32_22 : BitVec 32 := 128#32
  let v55 : BitVec 32 := Scalar.muli arg6 c128_i32_22
  let v56 : BitVec 32 := Scalar.addi v26 v55
  let v65 : Index := Scalar.indexCast v56
  let c0_23 : Index := 0#32
  ![v65.toNat, 0]
def k7_off2 (v8 : BitVec 32) (v30 : BitVec 32) (k7_t1 : Fin (k7_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg6 : BitVec 32 := Scf.iv c0_i32_18 c1_i32_20 k7_t1
  let c128_i32_22 : BitVec 32 := 128#32
  let v55 : BitVec 32 := Scalar.muli arg6 c128_i32_22
  let v56 : BitVec 32 := Scalar.addi v26 v55
  let v74 : Index := Scalar.indexCast v56
  let c0_28 : Index := 0#32
  ![v74.toNat, 0]
@[reducible] def k7_t2_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let v51 : BitVec 32 := Scalar.addi c0_i32_18 v50
  let c1_i32_21 : BitVec 32 := 1#32
  ⟨v54, v51, c1_i32_21⟩
def k7_off3 (v8 : BitVec 32) (v30 : BitVec 32) (k7_t2 : Fin (k7_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg6 : BitVec 32 := Scf.iv v54 c1_i32_21 k7_t2
  let c128_i32_22 : BitVec 32 := 128#32
  let v55 : BitVec 32 := Scalar.muli arg6 c128_i32_22
  let v56 : BitVec 32 := Scalar.addi v26 v55
  let v65 : Index := Scalar.indexCast v56
  let c0_23 : Index := 0#32
  ![v65.toNat, 0]
def k7_off4 (v8 : BitVec 32) (v30 : BitVec 32) (k7_t2 : Fin (k7_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg6 : BitVec 32 := Scf.iv v54 c1_i32_21 k7_t2
  let c128_i32_22 : BitVec 32 := 128#32
  let v55 : BitVec 32 := Scalar.muli arg6 c128_i32_22
  let v56 : BitVec 32 := Scalar.addi v26 v55
  let v74 : Index := Scalar.indexCast v56
  let c0_28 : Index := 0#32
  ![v74.toNat, 0]

def k7_chk1 (v8 : BitVec 32) (v30 : BitVec 32) : Prop :=
  ((k7_t1_loop v8 v30).OK) ∧
  (∀ k7_t1 : Fin (k7_t1_loop v8 v30).trips, ∀ a, (k7_off1 v8 v30 k7_t1) a + S128x128.size a ≤ S10240x128.size a) ∧
  (∀ k7_t1 : Fin (k7_t1_loop v8 v30).trips, ∀ a, (k7_off2 v8 v30 k7_t1) a + S128x16.size a ≤ S10240x16.size a) ∧
  ((k7_t2_loop v8 v30).OK) ∧
  (∀ k7_t2 : Fin (k7_t2_loop v8 v30).trips, ∀ a, (k7_off3 v8 v30 k7_t2) a + S128x128.size a ≤ S10240x128.size a) ∧
  (∀ k7_t2 : Fin (k7_t2_loop v8 v30).trips, ∀ a, (k7_off4 v8 v30 k7_t2) a + S128x16.size a ≤ S10240x16.size a)
theorem k7_t1_ok : ∀ (v8 : BitVec 32) (v30 : BitVec 32) (k7_hw1 : k7_chk1 v8 v30), (k7_t1_loop v8 v30).OK := fun v8 v30 k7_hw1 => k7_hw1.1
theorem k7_off1_inb : ∀ (v8 : BitVec 32) (v30 : BitVec 32) (k7_hw1 : k7_chk1 v8 v30) (k7_t1 : Fin (k7_t1_loop v8 v30).trips), ∀ a, (k7_off1 v8 v30 k7_t1) a + S128x128.size a ≤ S10240x128.size a := fun v8 v30 k7_hw1 k7_t1 => k7_hw1.2.1 k7_t1
theorem k7_off2_inb : ∀ (v8 : BitVec 32) (v30 : BitVec 32) (k7_hw1 : k7_chk1 v8 v30) (k7_t1 : Fin (k7_t1_loop v8 v30).trips), ∀ a, (k7_off2 v8 v30 k7_t1) a + S128x16.size a ≤ S10240x16.size a := fun v8 v30 k7_hw1 k7_t1 => k7_hw1.2.2.1 k7_t1
theorem k7_t2_ok : ∀ (v8 : BitVec 32) (v30 : BitVec 32) (k7_hw1 : k7_chk1 v8 v30), (k7_t2_loop v8 v30).OK := fun v8 v30 k7_hw1 => k7_hw1.2.2.2.1
theorem k7_off3_inb : ∀ (v8 : BitVec 32) (v30 : BitVec 32) (k7_hw1 : k7_chk1 v8 v30) (k7_t2 : Fin (k7_t2_loop v8 v30).trips), ∀ a, (k7_off3 v8 v30 k7_t2) a + S128x128.size a ≤ S10240x128.size a := fun v8 v30 k7_hw1 k7_t2 => k7_hw1.2.2.2.2.1 k7_t2
theorem k7_off4_inb : ∀ (v8 : BitVec 32) (v30 : BitVec 32) (k7_hw1 : k7_chk1 v8 v30) (k7_t2 : Fin (k7_t2_loop v8 v30).trips), ∀ a, (k7_off4 v8 v30 k7_t2) a + S128x16.size a ≤ S10240x16.size a := fun v8 v30 k7_hw1 k7_t2 => k7_hw1.2.2.2.2.2 k7_t2

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1x1000 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S10240x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S10240x16 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![320], ![false]⟩

@[reducible] def k8_t1_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_20 : BitVec 32 := 1#32
  ⟨c0_i32_18, v54, c1_i32_20⟩

def k8_off1 (v8 : BitVec 32) (v30 : BitVec 32) (k8_t1 : Fin (k8_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg6 : BitVec 32 := Scf.iv c0_i32_18 c1_i32_20 k8_t1
  let c128_i32_22 : BitVec 32 := 128#32
  let v55 : BitVec 32 := Scalar.muli arg6 c128_i32_22
  let v56 : BitVec 32 := Scalar.addi v26 v55
  let v65 : Index := Scalar.indexCast v56
  let c0_23 : Index := 0#32
  ![v65.toNat, 0]
def k8_off2 (v8 : BitVec 32) (v30 : BitVec 32) (k8_t1 : Fin (k8_t1_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let c1_i32_20 : BitVec 32 := 1#32
  let arg6 : BitVec 32 := Scf.iv c0_i32_18 c1_i32_20 k8_t1
  let c128_i32_22 : BitVec 32 := 128#32
  let v55 : BitVec 32 := Scalar.muli arg6 c128_i32_22
  let v56 : BitVec 32 := Scalar.addi v26 v55
  let v74 : Index := Scalar.indexCast v56
  let c0_28 : Index := 0#32
  ![v74.toNat, 0]
@[reducible] def k8_t2_loop (v8 : BitVec 32) (v30 : BitVec 32) : Scf.Loop 32 :=
  let c0_i32_18 : BitVec 32 := 0#32
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let v51 : BitVec 32 := Scalar.addi c0_i32_18 v50
  let c1_i32_21 : BitVec 32 := 1#32
  ⟨v54, v51, c1_i32_21⟩
def k8_off3 (v8 : BitVec 32) (v30 : BitVec 32) (k8_t2 : Fin (k8_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg6 : BitVec 32 := Scf.iv v54 c1_i32_21 k8_t2
  let c128_i32_22 : BitVec 32 := 128#32
  let v55 : BitVec 32 := Scalar.muli arg6 c128_i32_22
  let v56 : BitVec 32 := Scalar.addi v26 v55
  let v65 : Index := Scalar.indexCast v56
  let c0_23 : Index := 0#32
  ![v65.toNat, 0]
def k8_off4 (v8 : BitVec 32) (v30 : BitVec 32) (k8_t2 : Fin (k8_t2_loop v8 v30).trips) : Fin 2 → Nat :=
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c8_i32 : BitVec 32 := 8#32
  let c0_i32_5 : BitVec 32 := 0#32
  let v15 : BitVec 1 := Scalar.cmpi .sgt c8_i32 c0_i32_5
  let v16 : BitVec 32 := Scalar.extui v15
  let c0_i32_6 : BitVec 32 := 0#32
  let v17 : BitVec 1 := Scalar.cmpi .slt c8_i32 c0_i32_6
  let v18 : BitVec 32 := Scalar.extui v17
  let v19 : BitVec 32 := Scalar.subi v16 v18
  let v20 : BitVec 1 := Scalar.cmpi .ne v14 v19
  let v21 : BitVec 32 := Scalar.remsi v8 c8_i32
  let c0_i32_7 : BitVec 32 := 0#32
  let v22 : BitVec 1 := Scalar.cmpi .ne v21 c0_i32_7
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_8 : BitVec 32 := 8#32
  let v26 : BitVec 32 := Scalar.muli v25 c8_i32_8
  let c0_i32_18 : BitVec 32 := 0#32
  let v31 : BitVec 32 := Scalar.subi v30 v26
  let c0_i32_10 : BitVec 32 := 0#32
  let v33 : BitVec 1 := Scalar.cmpi .sgt v31 c0_i32_10
  let v34 : BitVec 32 := Scalar.extui v33
  let c0_i32_11 : BitVec 32 := 0#32
  let v35 : BitVec 1 := Scalar.cmpi .slt v31 c0_i32_11
  let v36 : BitVec 32 := Scalar.extui v35
  let v37 : BitVec 32 := Scalar.subi v34 v36
  let c128_i32 : BitVec 32 := 128#32
  let c0_i32_12 : BitVec 32 := 0#32
  let v38 : BitVec 1 := Scalar.cmpi .sgt c128_i32 c0_i32_12
  let v39 : BitVec 32 := Scalar.extui v38
  let c0_i32_13 : BitVec 32 := 0#32
  let v40 : BitVec 1 := Scalar.cmpi .slt c128_i32 c0_i32_13
  let v41 : BitVec 32 := Scalar.extui v40
  let v42 : BitVec 32 := Scalar.subi v39 v41
  let v43 : BitVec 1 := Scalar.cmpi .ne v37 v42
  let v44 : BitVec 32 := Scalar.remsi v31 c128_i32
  let c0_i32_14 : BitVec 32 := 0#32
  let v45 : BitVec 1 := Scalar.cmpi .ne v44 c0_i32_14
  let v46 : BitVec 1 := Scalar.andi v43 v45
  let v32 : BitVec 32 := Scalar.divsi v31 c128_i32
  let c1_i32_15 : BitVec 32 := 1#32
  let v47 : BitVec 32 := Scalar.subi v32 c1_i32_15
  let v48 : BitVec 32 := Scalar.select v46 v47 v32
  let c1_i32_16 : BitVec 32 := 1#32
  let v49 : BitVec 32 := Scalar.addi v48 c1_i32_16
  let v50 : BitVec 32 := Scalar.subi v49 c0_i32_18
  let c1_i32_19 : BitVec 32 := 1#32
  let v52 : BitVec 32 := Scalar.divsi v50 c1_i32_19
  let v53 : BitVec 32 := Scalar.muli v52 c1_i32_19
  let v54 : BitVec 32 := Scalar.addi c0_i32_18 v53
  let c1_i32_21 : BitVec 32 := 1#32
  let arg6 : BitVec 32 := Scf.iv v54 c1_i32_21 k8_t2
  let c128_i32_22 : BitVec 32 := 128#32
  let v55 : BitVec 32 := Scalar.muli arg6 c128_i32_22
  let v56 : BitVec 32 := Scalar.addi v26 v55
  let v74 : Index := Scalar.indexCast v56
  let c0_28 : Index := 0#32
  ![v74.toNat, 0]

def k8_chk1 (v8 : BitVec 32) (v30 : BitVec 32) : Prop :=
  ((k8_t1_loop v8 v30).OK) ∧
  (∀ k8_t1 : Fin (k8_t1_loop v8 v30).trips, ∀ a, (k8_off1 v8 v30 k8_t1) a + S128x128.size a ≤ S10240x128.size a) ∧
  (∀ k8_t1 : Fin (k8_t1_loop v8 v30).trips, ∀ a, (k8_off2 v8 v30 k8_t1) a + S128x16.size a ≤ S10240x16.size a) ∧
  ((k8_t2_loop v8 v30).OK) ∧
  (∀ k8_t2 : Fin (k8_t2_loop v8 v30).trips, ∀ a, (k8_off3 v8 v30 k8_t2) a + S128x128.size a ≤ S10240x128.size a) ∧
  (∀ k8_t2 : Fin (k8_t2_loop v8 v30).trips, ∀ a, (k8_off4 v8 v30 k8_t2) a + S128x16.size a ≤ S10240x16.size a)
theorem k8_t1_ok : ∀ (v8 : BitVec 32) (v30 : BitVec 32) (k8_hw1 : k8_chk1 v8 v30), (k8_t1_loop v8 v30).OK := fun v8 v30 k8_hw1 => k8_hw1.1
theorem k8_off1_inb : ∀ (v8 : BitVec 32) (v30 : BitVec 32) (k8_hw1 : k8_chk1 v8 v30) (k8_t1 : Fin (k8_t1_loop v8 v30).trips), ∀ a, (k8_off1 v8 v30 k8_t1) a + S128x128.size a ≤ S10240x128.size a := fun v8 v30 k8_hw1 k8_t1 => k8_hw1.2.1 k8_t1
theorem k8_off2_inb : ∀ (v8 : BitVec 32) (v30 : BitVec 32) (k8_hw1 : k8_chk1 v8 v30) (k8_t1 : Fin (k8_t1_loop v8 v30).trips), ∀ a, (k8_off2 v8 v30 k8_t1) a + S128x16.size a ≤ S10240x16.size a := fun v8 v30 k8_hw1 k8_t1 => k8_hw1.2.2.1 k8_t1
theorem k8_t2_ok : ∀ (v8 : BitVec 32) (v30 : BitVec 32) (k8_hw1 : k8_chk1 v8 v30), (k8_t2_loop v8 v30).OK := fun v8 v30 k8_hw1 => k8_hw1.2.2.2.1
theorem k8_off3_inb : ∀ (v8 : BitVec 32) (v30 : BitVec 32) (k8_hw1 : k8_chk1 v8 v30) (k8_t2 : Fin (k8_t2_loop v8 v30).trips), ∀ a, (k8_off3 v8 v30 k8_t2) a + S128x128.size a ≤ S10240x128.size a := fun v8 v30 k8_hw1 k8_t2 => k8_hw1.2.2.2.2.1 k8_t2
theorem k8_off4_inb : ∀ (v8 : BitVec 32) (v30 : BitVec 32) (k8_hw1 : k8_chk1 v8 v30) (k8_t2 : Fin (k8_t2_loop v8 v30).trips), ∀ a, (k8_off4 v8 v30 k8_t2) a + S128x16.size a ≤ S10240x16.size a := fun v8 v30 k8_hw1 k8_t2 => k8_hw1.2.2.2.2.2 k8_t2

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x16 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1x1000 .i32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S10240x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S10240x16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x16 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S1000x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S512x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S256x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 2 → Memref sig .tc .vmem S1000x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 2 → Memref sig .tc .vmem S1000x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev stage9_10 : Fin 2 → Memref sig .tc .vmem S1000x128 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S10000x128 : Shape := ⟨2, ![10000, 128]⟩
abbrev S320000x1 : Shape := ⟨2, ![320000, 1]⟩
abbrev S10000x1 : Shape := ⟨2, ![10000, 1]⟩
abbrev S320000x256 : Shape := ⟨2, ![320000, 256]⟩
abbrev S320000x64 : Shape := ⟨2, ![320000, 64]⟩
abbrev S1x64 : Shape := ⟨2, ![1, 64]⟩
abbrev S1x1 : Shape := ⟨2, ![1, 1]⟩
abbrev S10000x512 : Shape := ⟨2, ![10000, 512]⟩
abbrev S10000x256 : Shape := ⟨2, ![10000, 256]⟩
abbrev S1x256 : Shape := ⟨2, ![1, 256]⟩
abbrev S1x128 : Shape := ⟨2, ![1, 128]⟩

abbrev nBuf : Space → Nat
  | .hbm => 155
  | .vmem => 0
  | .smem => 0
  | _ => 0

abbrev hbmTy0_0 (i : Nat) : BufTy := match i % 128 with
  | 0 => ⟨S320000x128, .f32⟩
  | 1 => ⟨S320000, .i32⟩
  | 2 => ⟨S320000x128, .f32⟩
  | 3 => ⟨S320000, .i32⟩
  | 4 => ⟨S256x64, .f32⟩
  | 5 => ⟨S64, .f32⟩
  | 6 => ⟨S64x1, .f32⟩
  | 7 => ⟨S1, .f32⟩
  | 8 => ⟨S512x256, .f32⟩
  | 9 => ⟨S256, .f32⟩
  | 10 => ⟨S256x128, .f32⟩
  | 11 => ⟨S128, .f32⟩
  | 12 => ⟨S_, .f32⟩
  | 13 => ⟨S10000x128, .f32⟩
  | 14 => ⟨S320000x1, .i32⟩
  | 15 => ⟨S10000x128, .f32⟩
  | 16 => ⟨S_, .f32⟩
  | 17 => ⟨S320000x1, .f32⟩
  | 18 => ⟨S_, .f32⟩
  | 19 => ⟨S10000x1, .f32⟩
  | 20 => ⟨S320000x1, .i32⟩
  | 21 => ⟨S10000x1, .f32⟩
  | 22 => ⟨S_, .f32⟩
  | 23 => ⟨S10000x1, .f32⟩
  | 24 => ⟨S10000x1, .f32⟩
  | 25 => ⟨S10000x128, .f32⟩
  | 26 => ⟨S10000x128, .f32⟩
  | 27 => ⟨S_, .f32⟩
  | 28 => ⟨S10000x128, .f32⟩
  | 29 => ⟨S320000x1, .i32⟩
  | 30 => ⟨S10000x128, .f32⟩
  | 31 => ⟨S_, .f32⟩
  | 32 => ⟨S320000x1, .f32⟩
  | 33 => ⟨S_, .f32⟩
  | 34 => ⟨S10000x1, .f32⟩
  | 35 => ⟨S320000x1, .i32⟩
  | 36 => ⟨S10000x1, .f32⟩
  | 37 => ⟨S_, .f32⟩
  | 38 => ⟨S10000x1, .f32⟩
  | 39 => ⟨S10000x1, .f32⟩
  | 40 => ⟨S10000x128, .f32⟩
  | 41 => ⟨S10000x128, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x128, .f32⟩
  | 51 => ⟨S320000x256, .f32⟩
  | 52 => ⟨S320000x64, .f32⟩
  | 53 => ⟨S1x64, .f32⟩
  | 54 => ⟨S320000x64, .f32⟩
  | 55 => ⟨S320000x64, .f32⟩
  | 56 => ⟨S_, .f32⟩
  | 57 => ⟨S320000x64, .f32⟩
  | 58 => ⟨S320000x64, .i1⟩
  | 59 => ⟨S_, .f32⟩
  | 60 => ⟨S320000x64, .f32⟩
  | 61 => ⟨S320000x64, .f32⟩
  | 62 => ⟨S320000x64, .f32⟩
  | 63 => ⟨S320000x1, .f32⟩
  | 64 => ⟨S1x1, .f32⟩
  | 65 => ⟨S320000x1, .f32⟩
  | 66 => ⟨S320000x1, .f32⟩
  | 67 => ⟨S320000x1, .f32⟩
  | 68 => ⟨S_, .f32⟩
  | 69 => ⟨S10000x1, .f32⟩
  | 70 => ⟨S320000x1, .i32⟩
  | 71 => ⟨S10000x1, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x1, .f32⟩
  | 81 => ⟨S_, .f32⟩
  | 82 => ⟨S320000x1, .f32⟩
  | 83 => ⟨S320000x1, .f32⟩
  | 84 => ⟨S320000x1, .f32⟩
  | 85 => ⟨S320000x128, .f32⟩
  | 86 => ⟨S320000x128, .f32⟩
  | 87 => ⟨S_, .f32⟩
  | 88 => ⟨S10000x128, .f32⟩
  | 89 => ⟨S320000x1, .i32⟩
  | 90 => ⟨S10000x128, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x128, .f32⟩
  | 100 => ⟨S320000x256, .f32⟩
  | 101 => ⟨S320000x64, .f32⟩
  | 102 => ⟨S1x64, .f32⟩
  | 103 => ⟨S320000x64, .f32⟩
  | 104 => ⟨S320000x64, .f32⟩
  | 105 => ⟨S_, .f32⟩
  | 106 => ⟨S320000x64, .f32⟩
  | 107 => ⟨S320000x64, .i1⟩
  | 108 => ⟨S_, .f32⟩
  | 109 => ⟨S320000x64, .f32⟩
  | 110 => ⟨S320000x64, .f32⟩
  | 111 => ⟨S320000x64, .f32⟩
  | 112 => ⟨S320000x1, .f32⟩
  | 113 => ⟨S1x1, .f32⟩
  | 114 => ⟨S320000x1, .f32⟩
  | 115 => ⟨S320000x1, .f32⟩
  | 116 => ⟨S320000x1, .f32⟩
  | 117 => ⟨S_, .f32⟩
  | 118 => ⟨S10000x1, .f32⟩
  | 119 => ⟨S320000x1, .i32⟩
  | 120 => ⟨S10000x1, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S320000x128, .f32⟩

abbrev hbmTy0_1 (i : Nat) : BufTy := match i % 128 with
  | 0 => ⟨S320000x1, .i32⟩
  | 1 => ⟨S320000x1, .f32⟩
  | 2 => ⟨S_, .f32⟩
  | 3 => ⟨S320000x1, .f32⟩
  | 4 => ⟨S320000x1, .f32⟩
  | 5 => ⟨S320000x1, .f32⟩
  | 6 => ⟨S320000x128, .f32⟩
  | 7 => ⟨S320000x128, .f32⟩
  | 8 => ⟨S_, .f32⟩
  | 9 => ⟨S10000x128, .f32⟩
  | 10 => ⟨S320000x1, .i32⟩
  | 11 => ⟨S10000x128, .f32⟩
  | 12 => ⟨S10000x128, .f32⟩
  | 13 => ⟨S10000x128, .f32⟩
  | 14 => ⟨S10000x128, .f32⟩
  | 15 => ⟨S10000x512, .f32⟩
  | 16 => ⟨S10000x256, .f32⟩
  | 17 => ⟨S1x256, .f32⟩
  | 18 => ⟨S10000x256, .f32⟩
  | 19 => ⟨S10000x256, .f32⟩
  | 20 => ⟨S_, .f32⟩
  | 21 => ⟨S10000x256, .f32⟩
  | 22 => ⟨S10000x256, .f32⟩
  | 23 => ⟨S10000x128, .f32⟩
  | 24 => ⟨S1x128, .f32⟩
  | 25 => ⟨S10000x128, .f32⟩
  | 26 => ⟨S10000x128, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_cst_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_20 : Ref sig .tc := ⟨.hbm, 121, rfl⟩
abbrev main_v87 : Ref sig .tc := ⟨.hbm, 122, rfl⟩
abbrev main_v88 : Ref sig .tc := ⟨.hbm, 123, rfl⟩
abbrev main_c_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_23 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_24 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩

abbrev nD : Nat := 1
abbrev τ : Topo := Topo.v7x

variable {F : FTy → Type} [FloatOps F]
-- ==== Proof.SegDec.lean ====
/-
  The numbers of the sorted segment sums' windows: where the first window of a block of indices starts, how many
  windows there are, and that the windows stay inside the table of 10240 rows when the indices lie in [0, 10000).
-/
module

public import Idealize.ShloMosaic.Lib.WordArith
public import Idealize.ShloMosaic.Lib.Affine
public import Idealize.ShloMosaic.Lib.Exec

@[expose] public section

noncomputable section

namespace Cert.Proof.Seg

open Idealize.ShloMosaic

/-! ## Words -/

/-- Division rounding towards minus infinity, as the kernel computes it from the truncating one. -/
def floorDiv (x m : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt m 0#32)) (Scalar.extui (Scalar.cmpi .slt m 0#32))))
      (Scalar.cmpi .ne (Scalar.remsi x m) 0#32))
    (Scalar.subi (Scalar.divsi x m) 1#32) (Scalar.divsi x m)

/-- The first row of the first window. -/
def baseW (lo : BitVec 32) : BitVec 32 := Scalar.muli (floorDiv lo 8#32) 8#32

/-- The number of windows, from the distance of the greatest index to the first row. -/
def cntW (x : BitVec 32) : BitVec 32 :=
  Scalar.addi 0#32 (Scalar.muli (Scalar.divsi (Scalar.subi (Scalar.addi (floorDiv x 128#32) 1#32) 0#32) 1#32) 1#32)

/-- The first row of window `k`. -/
def rowW (lo : BitVec 32) (k : ℕ) : BitVec 32 := Scalar.addi (baseW lo) (Scalar.muli (Scf.iv 0#32 1#32 k) 128#32)

theorem base_all : ∀ n : Fin 10000, (baseW (BitVec.ofNat 32 n.val)).toNat = n.val / 8 * 8 := by decide +kernel

theorem cnt_all : ∀ n : Fin 10240, (cntW (BitVec.ofNat 32 n.val)).toInt = ((n.val / 128 + 1 : ℕ) : ℤ) := by decide +kernel

end Cert.Proof.Seg
-- ==== Proof.SegNum.lean ====
/-
  The numbers of the sorted segment sums' windows: where the first window of a block of indices starts, how many
  windows there are, and that the windows stay inside the table of 10240 rows when the indices lie in [0, 10000).
-/
module

public import proofs.«01_k».proof.Proof.SegDec
public import Idealize.ShloMosaic.Lib.VecWindow
public import Idealize.ShloMosaic.Lib.LoopRemainder
public import Idealize.ShloMosaic.Lib.WordArith
public import Idealize.ShloMosaic.Lib.Affine
public import Idealize.ShloMosaic.Lib.ValueIdx
public import Idealize.ShloMosaic.Lib.Exec

@[expose] public section

noncomputable section

namespace Cert.Proof.Seg

open Idealize.ShloMosaic

theorem base_toNat {lo : BitVec 32} (h : lo.toNat < 10000) : (baseW lo).toNat = lo.toNat / 8 * 8 := by
  have := base_all ⟨lo.toNat, h⟩
  simpa using this

theorem cnt_toInt {x : BitVec 32} (h : x.toNat < 10240) : (cntW x).toInt = ((x.toNat / 128 + 1 : ℕ) : ℤ) := by
  have := cnt_all ⟨x.toNat, h⟩
  simpa using this

/-- How many windows a block of indices between `lo` and `hi` takes. -/
def nwin (lo hi : ℕ) : ℕ := (hi - lo / 8 * 8) / 128 + 1

section
variable {lo hi : BitVec 32} (hlo : lo.toNat ≤ hi.toNat) (hhi : hi.toNat < 10000)
include hlo hhi

theorem dist_toNat : (Scalar.subi hi (baseW lo)).toNat = hi.toNat - lo.toNat / 8 * 8 := by
  have hb := base_toNat (lo := lo) (by omega)
  have hle : baseW lo ≤ hi := by
    rw [BitVec.le_def, hb]; omega
  show (hi - baseW lo).toNat = _
  rw [BitVec.toNat_sub_of_le hle, hb]

theorem trips_eq_nwin : (⟨0#32, cntW (Scalar.subi hi (baseW lo)), 1#32⟩ : Scf.Loop 32).trips = nwin lo.toNat hi.toNat := by
  have hd := dist_toNat hlo hhi
  have hc := cnt_toInt (x := Scalar.subi hi (baseW lo)) (by rw [hd]; omega)
  show Scf.trips _ _ _ = _
  unfold Scf.trips nwin
  rw [hc, hd, show (0#32 : BitVec 32).toInt = 0 from by decide, show (1#32 : BitVec 32).toInt = 1 from by decide]
  omega

theorem row_toNat {k : ℕ} (hk : k < nwin lo.toNat hi.toNat) : (rowW lo k).toNat = lo.toNat / 8 * 8 + k * 128 := by
  have hb := base_toNat (lo := lo) (by omega)
  unfold nwin at hk
  have hk' : k < 128 := by omega
  have hi' : (Scf.iv 0#32 1#32 k : BitVec 32).toNat = k := by
    unfold Scf.iv
    rw [BitVec.zero_add, BitVec.toNat_mul, BitVec.toNat_ofNat, BitVec.toNat_ofNat]
    omega
  have hm : (Scalar.muli (Scf.iv 0#32 1#32 k) 128#32 : BitVec 32).toNat = k * 128 := by
    show (_ * _ : BitVec 32).toNat = _
    rw [BitVec.toNat_mul, hi']
    show k * 128 % _ = _
    omega
  show (_ + _ : BitVec 32).toNat = _
  rw [BitVec.toNat_add, hb, hm]
  omega

theorem row_le {k : ℕ} (hk : k < nwin lo.toNat hi.toNat) : (rowW lo k).toNat + 128 ≤ 10240 := by
  rw [row_toNat hlo hhi hk]
  unfold nwin at hk
  omega

theorem loop_ok : (⟨0#32, cntW (Scalar.subi hi (baseW lo)), 1#32⟩ : Scf.Loop 32).OK := by
  generalize cntW (Scalar.subi hi (baseW lo)) = c
  have hw := Affine.word_range c
  refine Affine.ok (Affine.ofNat 0 ⟨rfl, by decide⟩) (Affine.word _) (Affine.ofNat 1 ⟨rfl, by decide⟩) ⟨by decide, ?_⟩
  show (0 : ℤ) + max ((c.toInt - 0 + 1 - 1) / 1) 0 * 1 < 2 ^ 31
  omega

end

end Cert.Proof.Seg
-- ==== Proof.IdealBlocks.lean ====
/-
  The row expansion on the SparseCore: thirty-two tasks, task `(c, s)` taking the blocks `s, s + 16, s + 32, …` of slab
  `c`. For each block a task copies its 128 row numbers from the stack of index arrays, gathers those rows of table `c`
  and copies them out to the block of the result. This module holds what one task does to memory: its loop is followed
  with the statement that the blocks finished hold the rows the index array names and the others are as they were.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 9) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The three arrays of the call and a task's scratch -/

abbrev tLoc (d : Dev nD) : Loc nD τ sig := (SparseCore.T d).loc main_v13
abbrev iLoc (d : Dev nD) : Loc nD τ sig := (SparseCore.T d).loc main_v16
abbrev oLoc (d : Dev nD) : Loc nD τ sig := (SparseCore.T d).loc main_v17

local notation "tV" => (Memref.whole Cert.KernelIdeal.main_v13_scv : Memref Cert.KernelIdeal.sig Kind.scVector Space.hbm Cert.KernelIdeal.S2x10240x128 EltTy.f32)
local notation "iV" => (Memref.whole Cert.KernelIdeal.main_v16_scv : Memref Cert.KernelIdeal.sig Kind.scVector Space.hbm Cert.KernelIdeal.S2x2500x1x128 EltTy.i32)
local notation "oV" => (Memref.whole Cert.KernelIdeal.main_v17_scv : Memref Cert.KernelIdeal.sig Kind.scVector Space.hbm Cert.KernelIdeal.S2x2500x128x128 EltTy.f32)
local notation "rV" => (Memref.whole Cert.KernelIdeal.cc4_scratch0 : Memref Cert.KernelIdeal.sig Kind.scVector Space.vmem Cert.KernelIdeal.S128x128 EltTy.f32)
local notation "sV" => (Memref.whole Cert.KernelIdeal.cc4_scratch1 : Memref Cert.KernelIdeal.sig Kind.scVector Space.vmem Cert.KernelIdeal.S1x128 EltTy.i32)

/-! ## What the expansion computes -/

/-- The row of its table that row `r` of block `b` of slab `c` is a copy of. -/
def rowOf (ix : S2x2500x1x128.Idx → BitVec 32) (c : Fin 2) (b : Fin 2500) (r : Fin 128) : Fin 10240 :=
  ⟨(ix (ix4 c b (0 : Fin 1) r)).toNat % 10240, Nat.mod_lt _ (by decide)⟩

/-- The expanded stack: entry `(c, b, r, l)` is table `c` at the row the index stack names at `(c, b, 0, r)`, lane `l`. -/
def expand {α : Type} (tb : S2x10240x128.Idx → α) (ix : S2x2500x1x128.Idx → BitVec 32) : S2x2500x128x128.Idx → α :=
  fun x => tb (ix3 (x 0 : Fin 2) (rowOf ix (x 0) (x 1) (x 2)) (x 3 : Fin 128))

/-! ## The grid's numbers, and the offsets in closed form -/

theorem off1_eq : ∀ i : grid4.Coords, k4_off1 i = ![(i 0).val, 0, 0, 0] := by decide +kernel
theorem off2_eq : ∀ (i : grid4.Coords) (t : Fin (k4_t1_loop i).trips), k4_off2 i t = ![(i 1).val + 16 * t.val, 0, 0] := by decide +kernel
theorem off3_eq : ∀ i : grid4.Coords, k4_off3 i = ![(i 0).val, 0, 0] := by decide +kernel
theorem off4_eq : ∀ i : grid4.Coords, k4_off4 i = ![(i 0).val, 0, 0, 0] := by decide +kernel
theorem off5_eq : ∀ (i : grid4.Coords) (t : Fin (k4_t1_loop i).trips), k4_off5 i t = ![(i 1).val + 16 * t.val, 0, 0] := by decide +kernel
/-- A task's loop covers all its blocks: after the last trip the next block would lie past the end. -/
theorem trips_ge : ∀ i : grid4.Coords, 2500 ≤ (i 1).val + 16 * (k4_t1_loop i).trips := by decide +kernel
theorem trip_lt : ∀ (i : grid4.Coords) (t : Fin (k4_t1_loop i).trips), (i 1).val + 16 * t.val < 2500 := by decide +kernel
theorem trips2 : ∀ i : grid4.Coords, (k4_t2_loop i).trips = 0 := by decide +kernel

/-! ## The windows a task addresses -/

section Geometry
variable (L : grid4.Coords)

abbrev cL (L : grid4.Coords) : Fin 2 := L 0
abbrev bL (L : grid4.Coords) (t : Fin (k4_t1_loop L).trips) : Fin 2500 := ⟨(L 1).val + 16 * t.val, trip_lt L t⟩

/-- Table `c`, as the gather addresses it. -/
abbrev tK (L : grid4.Coords) : Memref sig .scVector .hbm S10240x128 .f32 :=
  ((((tV).slice (Rect.unit (s := S2x10240x128) (k4_off3 L) S1x10240x128.size (k4_off3_inb L)) (fun _ => rfl)).squeeze S10240x128 squeezes_S1x10240x128_S10240x128).slice
    (Rect.unit (s := S10240x128) ![0, 0] S10240x128.size inb_S10240x128_S10240x128_0_0) (fun _ => rfl))
/-- The row numbers of trip `t`'s block. -/
abbrev iK (L : grid4.Coords) (t : Fin (k4_t1_loop L).trips) : Memref sig .scVector .hbm S1x128 .i32 :=
  (((((iV).slice (Rect.unit (s := S2x2500x1x128) (k4_off1 L) S1x2500x1x128.size (k4_off1_inb L)) (fun _ => rfl)).squeeze S2500x1x128 squeezes_S1x2500x1x128_S2500x1x128).slice
    (Rect.unit (s := S2500x1x128) (k4_off2 L t) S1x1x128.size (k4_off2_inb L t)) (fun _ => rfl)).squeeze S1x128 squeezes_S1x1x128_S1x128)
/-- Trip `t`'s block of the result. -/
abbrev oK (L : grid4.Coords) (t : Fin (k4_t1_loop L).trips) : Memref sig .scVector .hbm S128x128 .f32 :=
  (((((oV).slice (Rect.unit (s := S2x2500x128x128) (k4_off4 L) S1x2500x128x128.size (k4_off4_inb L)) (fun _ => rfl)).squeeze S2500x128x128 squeezes_S1x2500x128x128_S2500x128x128).slice
    (Rect.unit (s := S2500x128x128) (k4_off5 L t) S1x128x128.size (k4_off5_inb L t)) (fun _ => rfl)).squeeze S128x128 squeezes_S1x128x128_S128x128)
/-- The list of row numbers in a task's scratch. -/
abbrev sK : Memref sig .scVector .vmem S128 .i32 :=
  ((sV).slice (Rect.unit (s := S1x128) ![0, 0] S1x128.size inb_S1x128_S1x128_0_0) (fun _ => rfl)).squeeze S128 squeezes_S1x128_S128

theorem emb_tK (x : S10240x128.Idx) : (tK L).view.emb x = ix3 (cL L) (x 0 : Fin 10240) (x 1 : Fin 128) := by
  show (Rect.unit (s := S2x10240x128) (k4_off3 L) S1x10240x128.size (k4_off3_inb L)).emb
    (Shape.reshapeEquiv (s' := S10240x128) (s := S1x10240x128) squeezes_S1x10240x128_S10240x128.numel_eq
      ((Rect.unit (s := S10240x128) ![0, 0] S10240x128.size inb_S10240x128_S10240x128_0_0).emb x)) = _
  have h : (Rect.unit (s := S10240x128) ![0, 0] S10240x128.size inb_S10240x128_S10240x128_0_0).emb x = ix2 (x 0 : Fin 10240) (x 1 : Fin 128) := by
    funext a; match a with
    | 0 => exact Fin.ext (by rw [Rect.emb_apply]; show 0 + 1 * (x 0).val = (x 0).val; omega)
    | 1 => exact Fin.ext (by rw [Rect.emb_apply]; show 0 + 1 * (x 1).val = (x 1).val; omega)
  refine (congrArg (fun y => (Rect.unit (s := S2x10240x128) (k4_off3 L) S1x10240x128.size (k4_off3_inb L)).emb
    (Shape.reshapeEquiv (s' := S10240x128) (s := S1x10240x128) squeezes_S1x10240x128_S10240x128.numel_eq y)) h).trans ?_
  refine (congrArg _ (reshapeEquiv_ix2_1ab (a := 10240) (b := 128) _ _ _)).trans ?_
  funext a; match a with
  | 0 => exact Fin.ext (by rw [Rect.emb_apply]; show k4_off3 L 0 + 1 * 0 = (L 0).val; rw [off3_eq]; rfl)
  | 1 => exact Fin.ext (by rw [Rect.emb_apply]; show k4_off3 L 1 + 1 * (x 0).val = (x 0).val; rw [off3_eq]; show 0 + 1 * _ = _; omega)
  | 2 => exact Fin.ext (by rw [Rect.emb_apply]; show k4_off3 L 2 + 1 * (x 1).val = (x 1).val; rw [off3_eq]; show 0 + 1 * _ = _; omega)

theorem emb_iK (t : Fin (k4_t1_loop L).trips) (x : S1x128.Idx) : (iK L t).view.emb x = ix4 (cL L) (bL L t) (0 : Fin 1) (x 1 : Fin 128) := by
  show (Rect.unit (s := S2x2500x1x128) (k4_off1 L) S1x2500x1x128.size (k4_off1_inb L)).emb
    (Shape.reshapeEquiv (s' := S2500x1x128) (s := S1x2500x1x128) squeezes_S1x2500x1x128_S2500x1x128.numel_eq
      ((Rect.unit (s := S2500x1x128) (k4_off2 L t) S1x1x128.size (k4_off2_inb L t)).emb
        (Shape.reshapeEquiv (s' := S1x128) (s := S1x1x128) squeezes_S1x1x128_S1x128.numel_eq x))) = _
  have hx : x = ix2 (0 : Fin 1) (x 1 : Fin 128) := by
    funext a; match a with
    | 0 => exact Subsingleton.elim (α := Fin 1) _ _
    | 1 => rfl
  have h0 : Shape.reshapeEquiv (s' := S1x128) (s := S1x1x128) squeezes_S1x1x128_S1x128.numel_eq x = ix3 (0 : Fin 1) (0 : Fin 1) (x 1 : Fin 128) := by
    exact (congrArg _ hx).trans (reshapeEquiv_ix2_1ab (a := 1) (b := 128) _ _ _)
  have h : (Rect.unit (s := S2500x1x128) (k4_off2 L t) S1x1x128.size (k4_off2_inb L t)).emb (ix3 (0 : Fin 1) (0 : Fin 1) (x 1 : Fin 128))
      = ix3 (bL L t) (0 : Fin 1) (x 1 : Fin 128) := by
    funext a; match a with
    | 0 => exact Fin.ext (by rw [Rect.emb_apply]; show k4_off2 L t 0 + 1 * 0 = (L 1).val + 16 * t.val; rw [off2_eq]; rfl)
    | 1 => exact Subsingleton.elim (α := Fin 1) _ _
    | 2 => exact Fin.ext (by rw [Rect.emb_apply]; show k4_off2 L t 2 + 1 * (x 1).val = (x 1).val; rw [off2_eq]; show 0 + 1 * _ = _; omega)
  refine (congrArg (fun y => (Rect.unit (s := S2x2500x1x128) (k4_off1 L) S1x2500x1x128.size (k4_off1_inb L)).emb
    (Shape.reshapeEquiv (s' := S2500x1x128) (s := S1x2500x1x128) squeezes_S1x2500x1x128_S2500x1x128.numel_eq y))
      ((congrArg (Rect.unit (s := S2500x1x128) (k4_off2 L t) S1x1x128.size (k4_off2_inb L t)).emb h0).trans h)).trans ?_
  refine (congrArg _ (reshapeEquiv_ix3_1abc (a := 2500) (b := 1) (c := 128) _ _ _ _)).trans ?_
  funext a; match a with
  | 0 => exact Fin.ext (by rw [Rect.emb_apply]; show k4_off1 L 0 + 1 * 0 = (L 0).val; rw [off1_eq]; rfl)
  | 1 => exact Fin.ext (by rw [Rect.emb_apply]; show k4_off1 L 1 + 1 * ((L 1).val + 16 * t.val) = (L 1).val + 16 * t.val; rw [off1_eq]; show 0 + 1 * _ = _; omega)
  | 2 => exact Subsingleton.elim (α := Fin 1) _ _
  | 3 => exact Fin.ext (by rw [Rect.emb_apply]; show k4_off1 L 3 + 1 * (x 1).val = (x 1).val; rw [off1_eq]; show 0 + 1 * _ = _; omega)

theorem emb_oK (t : Fin (k4_t1_loop L).trips) (x : S128x128.Idx) : (oK L t).view.emb x = ix4 (cL L) (bL L t) (x 0 : Fin 128) (x 1 : Fin 128) := by
  show (Rect.unit (s := S2x2500x128x128) (k4_off4 L) S1x2500x128x128.size (k4_off4_inb L)).emb
    (Shape.reshapeEquiv (s' := S2500x128x128) (s := S1x2500x128x128) squeezes_S1x2500x128x128_S2500x128x128.numel_eq
      ((Rect.unit (s := S2500x128x128) (k4_off5 L t) S1x128x128.size (k4_off5_inb L t)).emb
        (Shape.reshapeEquiv (s' := S128x128) (s := S1x128x128) squeezes_S1x128x128_S128x128.numel_eq x))) = _
  have h0 : Shape.reshapeEquiv (s' := S128x128) (s := S1x128x128) squeezes_S1x128x128_S128x128.numel_eq x = ix3 (0 : Fin 1) (x 0 : Fin 128) (x 1 : Fin 128) := by
    exact (congrArg _ (eq_ix2 (n0 := 128) (n1 := 128) x)).trans (reshapeEquiv_ix2_1ab (a := 128) (b := 128) _ _ _)
  have h : (Rect.unit (s := S2500x128x128) (k4_off5 L t) S1x128x128.size (k4_off5_inb L t)).emb (ix3 (0 : Fin 1) (x 0 : Fin 128) (x 1 : Fin 128))
      = ix3 (bL L t) (x 0 : Fin 128) (x 1 : Fin 128) := by
    funext a; match a with
    | 0 => exact Fin.ext (by rw [Rect.emb_apply]; show k4_off5 L t 0 + 1 * 0 = (L 1).val + 16 * t.val; rw [off5_eq]; rfl)
    | 1 => exact Fin.ext (by rw [Rect.emb_apply]; show k4_off5 L t 1 + 1 * (x 0).val = (x 0).val; rw [off5_eq]; show 0 + 1 * _ = _; omega)
    | 2 => exact Fin.ext (by rw [Rect.emb_apply]; show k4_off5 L t 2 + 1 * (x 1).val = (x 1).val; rw [off5_eq]; show 0 + 1 * _ = _; omega)
  refine (congrArg (fun y => (Rect.unit (s := S2x2500x128x128) (k4_off4 L) S1x2500x128x128.size (k4_off4_inb L)).emb
    (Shape.reshapeEquiv (s' := S2500x128x128) (s := S1x2500x128x128) squeezes_S1x2500x128x128_S2500x128x128.numel_eq y))
      ((congrArg (Rect.unit (s := S2500x128x128) (k4_off5 L t) S1x128x128.size (k4_off5_inb L t)).emb h0).trans h)).trans ?_
  refine (congrArg _ (reshapeEquiv_ix3_1abc (a := 2500) (b := 128) (c := 128) _ _ _ _)).trans ?_
  funext a; match a with
  | 0 => exact Fin.ext (by rw [Rect.emb_apply]; show k4_off4 L 0 + 1 * 0 = (L 0).val; rw [off4_eq]; rfl)
  | 1 => exact Fin.ext (by rw [Rect.emb_apply]; show k4_off4 L 1 + 1 * ((L 1).val + 16 * t.val) = (L 1).val + 16 * t.val; rw [off4_eq]; show 0 + 1 * _ = _; omega)
  | 2 => exact Fin.ext (by rw [Rect.emb_apply]; show k4_off4 L 2 + 1 * (x 0).val = (x 0).val; rw [off4_eq]; show 0 + 1 * _ = _; omega)
  | 3 => exact Fin.ext (by rw [Rect.emb_apply]; show k4_off4 L 3 + 1 * (x 1).val = (x 1).val; rw [off4_eq]; show 0 + 1 * _ = _; omega)

theorem emb_sK (x : S128.Idx) : (sK).view.emb x = ix2 (0 : Fin 1) (x 0 : Fin 128) := by
  show (Rect.unit (s := S1x128) ![0, 0] S1x128.size inb_S1x128_S1x128_0_0).emb
    (Shape.reshapeEquiv (s' := S128) (s := S1x128) squeezes_S1x128_S128.numel_eq x) = _
  have h0 : Shape.reshapeEquiv (s' := S128) (s := S1x128) squeezes_S1x128_S128.numel_eq x = ix2 (0 : Fin 1) (x 0 : Fin 128) :=
    Shape.reshapeEquiv_eq_of_rowMajor _ ((Shape.rowMajor_val_two (d := ![1, 128]) _).trans
      (Eq.trans (show 0 * 128 + (x 0).val = (x 0).val by omega) (Shape.rowMajor_val_one (d := ![128]) _).symm))
  refine (congrArg _ h0).trans ?_
  funext a; match a with
  | 0 => exact Subsingleton.elim (α := Fin 1) _ _
  | 1 => exact Fin.ext ((Rect.emb_apply _ _ _).trans (show 0 + 1 * (x 0).val = (x 0).val by omega))

/-! ## The blocks of the result -/

/-- Slab `c` of the result. -/
def slab (c : Fin 2) : Finset S2x2500x128x128.Idx := Finset.univ.filter fun x => (x 0).val = c.val
/-- Task `(c, s)`'s blocks. -/
def mine (c : Fin 2) (s : Fin 16) : Finset S2x2500x128x128.Idx := Finset.univ.filter fun x => (x 0).val = c.val ∧ (x 1).val % 16 = s.val
/-- Those of them before trip `t`. -/
def past (L : grid4.Coords) (t : ℕ) : Finset S2x2500x128x128.Idx :=
  Finset.univ.filter fun x => ((x 0).val = (L 0).val ∧ (x 1).val % 16 = (L 1).val) ∧ (x 1).val < (L 1).val + 16 * t
/-- Those of them from trip `t` on. -/
def todo (L : grid4.Coords) (t : ℕ) : Finset S2x2500x128x128.Idx :=
  Finset.univ.filter fun x => ((x 0).val = (L 0).val ∧ (x 1).val % 16 = (L 1).val) ∧ (L 1).val + 16 * t ≤ (x 1).val

abbrev sL (L : grid4.Coords) : Fin 16 := L 1

theorem mem_oK (t : Fin (k4_t1_loop L).trips) (x : S2x2500x128x128.Idx) :
    x ∈ (oK L t).view.set ↔ (x 0).val = (L 0).val ∧ (x 1).val = (L 1).val + 16 * t.val := by
  constructor
  · intro h
    obtain ⟨y, -, hy⟩ := Finset.mem_map.mp h
    rw [emb_oK] at hy; subst hy; exact ⟨rfl, rfl⟩
  · rintro ⟨h0, h1⟩
    refine Finset.mem_map.mpr ⟨ix2 (x 2 : Fin 128) (x 3 : Fin 128), Finset.mem_univ _, ?_⟩
    rw [emb_oK]
    funext a; match a with
    | 0 => exact Fin.ext h0.symm
    | 1 => exact Fin.ext h1.symm
    | 2 => rfl
    | 3 => rfl

theorem todo_zero : todo L 0 = mine (cL L) (sL L) := by
  ext x; simp only [todo, mine, Finset.mem_filter, Finset.mem_univ, true_and]
  refine ⟨fun h => h.1, fun h => ⟨h, ?_⟩⟩
  have := h.2; change (x 1).val % 16 = (L 1).val at this; omega
theorem past_zero : past L 0 = ∅ := by
  ext x; simp only [past, Finset.mem_filter, Finset.mem_univ, true_and, Finset.notMem_empty, iff_false]
  rintro ⟨h, h'⟩; have := h.2; omega
theorem past_end : past L (k4_t1_loop L).trips = mine (cL L) (sL L) := by
  ext x; simp only [past, mine, Finset.mem_filter, Finset.mem_univ, true_and]
  refine ⟨fun h => h.1, fun h => ⟨h, ?_⟩⟩
  have h1 : (x 1).val < 2500 := (x 1).isLt
  have := trips_ge L; omega
theorem todo_end : todo L (k4_t1_loop L).trips = ∅ := by
  ext x; simp only [todo, Finset.mem_filter, Finset.mem_univ, true_and, Finset.notMem_empty, iff_false]
  rintro ⟨h, h'⟩
  have h1 : (x 1).val < 2500 := (x 1).isLt
  have := trips_ge L; omega
theorem todo_succ (t : Fin (k4_t1_loop L).trips) : todo L t.val = (oK L t).view.set ∪ todo L (t.val + 1) := by
  ext x; rw [Finset.mem_union, mem_oK]; simp only [todo, Finset.mem_filter, Finset.mem_univ, true_and]
  have h2 : (L 1).val < 16 := (L 1).isLt
  constructor
  · rintro ⟨⟨h0, h1⟩, h⟩
    by_cases hx : (x 1).val = (L 1).val + 16 * t.val
    · exact .inl ⟨h0, hx⟩
    · exact .inr ⟨⟨h0, h1⟩, by omega⟩
  · rintro (⟨h0, h1⟩ | ⟨⟨h0, h1⟩, h⟩)
    · exact ⟨⟨h0, by omega⟩, by omega⟩
    · exact ⟨⟨h0, h1⟩, by omega⟩
theorem todo_disjoint (t : Fin (k4_t1_loop L).trips) : Disjoint (oK L t).view.set (todo L (t.val + 1)) := by
  rw [Finset.disjoint_left]; intro x hx hy
  rw [mem_oK] at hx; simp only [todo, Finset.mem_filter, Finset.mem_univ, true_and] at hy; omega
theorem past_succ (t : Fin (k4_t1_loop L).trips) : past L (t.val + 1) = past L t.val ∪ (oK L t).view.set := by
  ext x; rw [Finset.mem_union, mem_oK]; simp only [past, Finset.mem_filter, Finset.mem_univ, true_and]
  have h2 : (L 1).val < 16 := (L 1).isLt
  constructor
  · rintro ⟨⟨h0, h1⟩, h⟩
    by_cases hx : (x 1).val = (L 1).val + 16 * t.val
    · exact .inr ⟨h0, hx⟩
    · exact .inl ⟨⟨h0, h1⟩, by omega⟩
  · rintro (⟨⟨h0, h1⟩, h⟩ | ⟨h0, h1⟩)
    · exact ⟨⟨h0, h1⟩, by omega⟩
    · exact ⟨⟨h0, by omega⟩, by omega⟩
theorem past_disjoint (t : Fin (k4_t1_loop L).trips) : Disjoint (past L t.val) (oK L t).view.set := by
  rw [Finset.disjoint_left]; intro x hx hy
  rw [mem_oK] at hy; simp only [past, Finset.mem_filter, Finset.mem_univ, true_and] at hx; omega

theorem slab_disjoint : ∀ i ∈ (Finset.univ : Finset (Fin 2)), ∀ j ∈ (Finset.univ : Finset (Fin 2)), i ≠ j → Disjoint (slab i) (slab j) := by
  intro i _ j _ h; rw [Finset.disjoint_left]; intro x hx hy
  simp only [slab, Finset.mem_filter, Finset.mem_univ, true_and] at hx hy
  exact h (Fin.ext (hx.symm.trans hy))
theorem slab_cover : (Finset.univ : Finset (Fin 2)).biUnion slab = Finset.univ := by
  ext x; simp only [slab, Finset.mem_biUnion, Finset.mem_filter, Finset.mem_univ, true_and, iff_true]
  exact ⟨x 0, rfl⟩
theorem mine_disjoint (c : Fin 2) : ∀ i ∈ (Finset.univ : Finset (Fin 16)), ∀ j ∈ (Finset.univ : Finset (Fin 16)), i ≠ j → Disjoint (mine c i) (mine c j) := by
  intro i _ j _ h; rw [Finset.disjoint_left]; intro x hx hy
  simp only [mine, Finset.mem_filter, Finset.mem_univ, true_and] at hx hy
  exact h (Fin.ext (hx.2.symm.trans hy.2))
theorem mine_cover (c : Fin 2) : (Finset.univ : Finset (Fin 16)).biUnion (mine c) = slab c := by
  ext x; simp only [slab, mine, Finset.mem_biUnion, Finset.mem_filter, Finset.mem_univ, true_and]
  exact ⟨fun ⟨_, h⟩ => h.1, fun h => ⟨⟨(x 1).val % 16, Nat.mod_lt _ (by decide)⟩, h, rfl⟩⟩

end Geometry

end Cert.Proof.KernelIdeal

end
-- ==== Proof.IdealTile.lean ====
/-
  One task of the row expansion: the statement it keeps from trip to trip and its run, and from the tasks the call's
  obligations: what a SparseCore hands its tasks and has back from them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.ValueLayout
public import Idealize.ShloMosaic.Lib.Tactic
public import proofs.«01_k».proof.Proof.IdealBlocks
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v13_scv : Memref Cert.KernelIdeal.sig Kind.scVector Space.hbm Cert.KernelIdeal.S2x10240x128 EltTy.f32)
local notation "iV" => (Memref.whole Cert.KernelIdeal.main_v16_scv : Memref Cert.KernelIdeal.sig Kind.scVector Space.hbm Cert.KernelIdeal.S2x2500x1x128 EltTy.i32)
local notation "oV" => (Memref.whole Cert.KernelIdeal.main_v17_scv : Memref Cert.KernelIdeal.sig Kind.scVector Space.hbm Cert.KernelIdeal.S2x2500x128x128 EltTy.f32)
local notation "rV" => (Memref.whole Cert.KernelIdeal.cc4_scratch0 : Memref Cert.KernelIdeal.sig Kind.scVector Space.vmem Cert.KernelIdeal.S128x128 EltTy.f32)
local notation "sV" => (Memref.whole Cert.KernelIdeal.cc4_scratch1 : Memref Cert.KernelIdeal.sig Kind.scVector Space.vmem Cert.KernelIdeal.S1x128 EltTy.i32)

/-! ## What the call's handshakes carry -/

variable (Vt : (d : Dev nD) → Buf (Elt F) (tLoc d)) (It : (d : Dev nD) → Buf (Elt F) (iLoc d))

/-- The expansion of the stacks a device holds. -/
def G (d : Dev nD) : Buf (Elt F) (oLoc d) := expand (Vt d) (It d)

/-- Every row number the index stack holds is a row of its table. -/
def InRows : Prop := ∀ (d : Dev nD) (j : S2x2500x1x128.Idx), BitVec.toNat (It d j) < 10240

/-- SparseCore `c`'s share of a read-only array, and its task `i`'s share of that. -/
abbrev qC (c : Fin 2) : PosShare TreeShare := pieceOf fullShare 2 (by decide) c
abbrev qT (c : Fin 2) (i : Fin 16) : PosShare TreeShare := pieceOf (qC c) 16 (by decide) i

abbrev stP (d : Dev nD) (c : Fin 2) : sProp 𝕄 :=
  iprop((tLoc d ↦{qC c} Vt d) ∗ (iLoc d ↦{qC c} It d) ∗ ∃ f, oLoc d ↦[slab c]{fullShare} f)
abbrev dnP (d : Dev nD) (c : Fin 2) : sProp 𝕄 :=
  iprop((tLoc d ↦{qC c} Vt d) ∗ (iLoc d ↦{qC c} It d) ∗ oLoc d ↦[slab c]{fullShare} G Vt It d)
abbrev goP (d : Dev nD) (c : Fin 2) (i : Fin 16) : sProp 𝕄 :=
  iprop((tLoc d ↦{qT c i} Vt d) ∗ (iLoc d ↦{qT c i} It d) ∗ ∃ f, oLoc d ↦[mine c i]{fullShare} f)
abbrev tdP (d : Dev nD) (c : Fin 2) (i : Fin 16) : sProp 𝕄 :=
  iprop((tLoc d ↦{qT c i} Vt d) ∗ (iLoc d ↦{qT c i} It d) ∗ oLoc d ↦[mine c i]{fullShare} G Vt It d)

/-- A SparseCore takes a share of the two stacks and its slab of the result, a task a share of that and its blocks; each
    brings them back, the result's part expanded. -/
def P : (K (F := F)).Pay (nD := nD) (Val := Elt F) (Name := ℕ) (U := UU) where
  st := fun q d c => match q with | 0 => stP Vt It d (Fin.cast nCore_zero c)
  dn := fun q d c => match q with | 0 => dnP Vt It d (Fin.cast nCore_zero c)
  go := fun q d c i => match q with | 0 => goP Vt It d (Fin.cast nCore_zero c) (Fin.cast nSub_zero i)
  td := fun q d c i => match q with | 0 => tdP Vt It d (Fin.cast nCore_zero c) (Fin.cast nSub_zero i)
  x := fun _ _ => iprop(emp)

instance P_storable : (P (F := F) Vt It).IsStorable where
  st q d c := match q with
    | 0 => (inferInstance : BI.Storable (upEmb : UEmb _ 𝕄) (stP Vt It d (Fin.cast nCore_zero c)))
  dn q d c := match q with
    | 0 => (inferInstance : BI.Storable (upEmb : UEmb _ 𝕄) (dnP Vt It d (Fin.cast nCore_zero c)))
  go q d c i := match q with
    | 0 => (inferInstance : BI.Storable (upEmb : UEmb _ 𝕄) (goP Vt It d (Fin.cast nCore_zero c) (Fin.cast nSub_zero i)))
  td q d c i := match q with
    | 0 => (inferInstance : BI.Storable (upEmb : UEmb _ 𝕄) (tdP Vt It d (Fin.cast nCore_zero c) (Fin.cast nSub_zero i)))

/-! ## A task -/

section Task
variable (d : Dev nD) (L : grid4.Coords)

abbrev cV (L : grid4.Coords) : Fin τ.nSC := (L 0).castLE hcore4
abbrev jV (L : grid4.Coords) : Fin τ.nSub := (L 1).castLE hsub4
abbrev me (d : Dev nD) (L : grid4.Coords) : Thread nD τ := V d (cV L) (jV L)

abbrev gCell (d : Dev nD) (L : grid4.Coords) : GSem nD τ sig := (me d L, .dma cc4_scratch2.sem)
abbrev aCell (d : Dev nD) (L : grid4.Coords) : GSem nD τ sig := (me d L, .dma cc4_scoped0.sem)
abbrev bCell (d : Dev nD) (L : grid4.Coords) : GSem nD τ sig := (me d L, .dma cc4_scoped1.sem)

theorem ownSems0_me :
    (ownSems0 (me d L) : sProp 𝕄)
      = iprop(semVal (gCell d L) 0 ∗ semVal (aCell d L) 0 ∗ semVal (bCell d L) 0
          ∗ bigSep ((((ownCells (me d L)).erase (gCell d L)).erase (aCell d L)).erase (bCell d L)) fun g => semVal g 0) := by
  unfold SparseCore.Cfg.ownSems0
  rw [SparseCore.bigSep_erase' ((mem_ownCells (g := gCell d L)).mpr ⟨rfl, by
      show (SemLoc.dma cc4_scratch2.sem : SemLoc sig).isScoped .scVector = true; decide⟩),
    SparseCore.bigSep_erase' (Finset.mem_erase.mpr ⟨by simp [gCell, aCell]; decide, (mem_ownCells (g := aCell d L)).mpr ⟨rfl, by
      show (SemLoc.dma cc4_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc4_scoped1.sem : SemLoc sig).isScoped .scVector = true; decide⟩⟩⟩)]

theorem ownBufs_me :
    (ownBufs (me d L) : sProp 𝕄)
      = iprop((∃ f, (me d L).loc cc4_scratch0 ↦{fullShare} f) ∗ (∃ f, (me d L).loc cc4_scratch1 ↦{fullShare} f)
          ∗ bigSep (((ownRefs (τ := τ) (.scVector (cV L) (jV L))).erase ((Proc.scVector (cV L) (jV L)).devRef cc4_scratch0)).erase
              ((Proc.scVector (cV L) (jV L)).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV L) (jV L)) (b := (Proc.scVector (cV L) (jV L)).devRef cc4_scratch1) rfl⟩)]

variable [FloatOps F]

/-- The row numbers of trip `t`'s block, as they lie in the scratch after the fetch. -/
def listOf (t : Fin (k4_t1_loop L).trips) : Buf (Elt F) ((sV).view.loc (me d L)) :=
  fun x => It d (ix4 (cL L) (bL L t) (0 : Fin 1) (x 1 : Fin 128))

omit [FloatOps F] in
theorem fetched (t : Fin (k4_t1_loop L).trips) (fs : Buf (Elt F) ((sV).view.loc (me d L))) (pay : S1x128.Idx → Elt F .i32)
    (hpay : pay = (iK L t).view.read (Elt F) (It d)) :
    View.write (Elt F) (sV).view fs pay Finset.univ = listOf It d L t := by
  subst hpay
  rw [show View.write (Elt F) (sV).view fs _ Finset.univ = _ from View.write_whole_univ ..]
  funext x
  refine (View.read_apply _ _).trans ((cast_eq _ _).trans ?_)
  rw [emb_iK]; rfl

omit [FloatOps F] in
theorem list_read (t : Fin (k4_t1_loop L).trips) (x : S128.Idx) :
    (sK).view.read (Elt F) (listOf It d L t) x = It d (ix4 (cL L) (bL L t) (0 : Fin 1) (x 0 : Fin 128)) := by
  refine (View.read_apply _ _).trans ((cast_eq _ _).trans ?_)
  rw [emb_sK]; rfl

omit [FloatOps F] in
theorem list_inb (hpre : InRows It) (t : Fin (k4_t1_loop L).trips) :
    ∀ x, ((sK).view.read (Elt F) (listOf It d L t) x).toNat < S10240x128.size gathers_S10240x128_S128x128.axis :=
  fun x => by rw [list_read]; exact hpre d _

/-- The statement before trip `t`. -/
def inv (O : CellTallies nD τ sig (HIx 1)) (W : Waits sig (HIx 1)) (f0 : Buf (Elt F) (oLoc d)) (t : ℕ) (_ : PUnit) : sProp 𝕄 :=
  iprop(Transfers.MayWaits (me d L) (none : HIx 1) O
    ∗ ((tV).view.loc (me d L) ↦{qT (cL L) (sL L)} Vt d)
    ∗ ((iV).view.loc (me d L) ↦{qT (cL L) (sL L)} It d)
    ∗ (oLoc d ↦[past L t]{fullShare} G Vt It d)
    ∗ (oLoc d ↦[todo L t]{fullShare} f0)
    ∗ (∃ f, (rV).view.loc (me d L) ↦{fullShare} f)
    ∗ (∃ f, (sV).view.loc (me d L) ↦{fullShare} f)
    ∗ semVal (gCell d L) 0 ∗ semVal (aCell d L) 0 ∗ semVal (bCell d L) 0
    ∗ ∃ W', ⌜∀ p ∈ W', p ∈ W ∨ p.2 = none⌝ ∗ owes (me d L) O W')

/-- Nothing is kept over the loop that makes no trip. -/
def inv2 (_ : ℕ) (_ : PUnit) : sProp 𝕄 := iprop(emp)

omit [FloatOps F] in
theorem r_univ (f : Buf (Elt F) ((rV).view.loc (me d L))) :
    ((rV).view.loc (me d L) ↦{fullShare} f : sProp 𝕄) = (rV).view.loc (me d L) ↦[(rV).view.set]{fullShare} f := by
  rw [show (rV).view.set = Finset.univ from View.set_whole _]
omit [FloatOps F] in
theorem s_univ (f : Buf (Elt F) ((sV).view.loc (me d L))) :
    ((sV).view.loc (me d L) ↦{fullShare} f : sProp 𝕄) = (sK).view.loc (me d L) ↦[(sK).view.set]{fullShare} f := by
  rw [show (sK).view.set = Finset.univ from Finset.eq_univ_iff_forall.mpr fun x => Finset.mem_map.mpr
    ⟨ix1 (x 1 : Fin 128), Finset.mem_univ _, (emb_sK _).trans (by
      funext a; match a with
      | 0 => exact Subsingleton.elim (α := Fin 1) _ _
      | 1 => rfl)⟩]
omit [FloatOps F] in
/-- Before a trip its block is among those to come. -/
theorem take_block (t : Fin (k4_t1_loop L).trips) (f : Buf (Elt F) (oLoc d)) :
    (oLoc d ↦[todo L t.val]{fullShare} f : sProp 𝕄)
      ⊢ iprop(((oK L t).view.loc (me d L) ↦[(oK L t).view.set]{fullShare} f) ∗ oLoc d ↦[todo L (t.val + 1)]{fullShare} f) := by
  rw [todo_succ]; exact (pointsTo_union (ℓ := oLoc d) (todo_disjoint L t)).1
omit [FloatOps F] in
/-- After it, among those finished. -/
theorem give_block (t : Fin (k4_t1_loop L).trips) :
    iprop((oLoc d ↦[past L t.val]{fullShare} G Vt It d) ∗ (oK L t).view.loc (me d L) ↦[(oK L t).view.set]{fullShare} G Vt It d)
      ⊢ (oLoc d ↦[past L (t.val + 1)]{fullShare} G Vt It d : sProp 𝕄) := by
  rw [past_succ]; exact (pointsTo_union (ℓ := oLoc d) (past_disjoint L t)).2

omit [FloatOps F] in
/-- A view written once, whole, reads what was written. -/
theorem one_piece {κ : Kind} {sp : Space} {s : Shape} {e : EltTy} (v : View sig κ sp s e) (f : v.ty.Contents (Elt F)) (w : s.Idx → Elt F e) (y : s.Idx) :
    v.read (Elt F) (v.writes (Elt F) f [⟨Rect.whole s, w⟩]) y = w y := by
  have h := View.read_writes_cons_emb v f (Rect.whole s) w [] y
  rw [Rect.emb_whole_apply] at h; exact h

omit [FloatOps F] in
/-- What lies in the block after the copy out of the gathered rows: the expansion. -/
theorem copied (hpre : InRows It) (t : Fin (k4_t1_loop L).trips) (f0 : Buf (Elt F) (oLoc d)) (fr : Buf (Elt F) ((rV).view.loc (me d L)))
    (pay : S128x128.Idx → Elt F .f32)
    (hpay : pay = (rV).view.read (Elt F) (View.write (Elt F) (rV).view fr (SparseCore.gatherPayload gathers_S10240x128_S128x128
      ((tK L).view.read (Elt F) (Vt d)) (SparseCore.rows ((sK).view.read (Elt F) (listOf It d L t)) rfl (list_inb It d L hpre t))) Finset.univ)) :
    ((oK L t).view.loc (me d L) ↦[(oK L t).view.set]{fullShare} (oK L t).view.writes (Elt F) f0 [⟨Rect.whole S128x128, pay⟩] : sProp 𝕄)
      = (oK L t).view.loc (me d L) ↦[(oK L t).view.set]{fullShare} G Vt It d := by
  refine pointsTo_congr fun x hx => ?_
  obtain ⟨y, -, rfl⟩ := Finset.mem_map.mp hx
  have h := one_piece (oK L t).view f0 pay y
  refine ((View.read_apply _ _).trans (cast_eq _ _)).symm.trans (h.trans ?_)
  subst hpay
  rw [show View.write (Elt F) (rV).view fr _ Finset.univ = _ from View.write_whole_univ ..]
  rw [show (rV).view.read (Elt F) _ = _ from View.read_whole ..]
  unfold SparseCore.gatherPayload
  refine (View.read_apply _ _).trans ((cast_eq _ _).trans ?_)
  rw [emb_tK, emb_oK]
  unfold G expand
  refine congrArg (Vt d) ?_
  funext a; match a with
  | 0 => rfl
  | 1 =>
    refine Fin.ext ?_
    show (gathers_S10240x128_S128x128.idx _ y gathers_S10240x128_S128x128.axis).val = _
    rw [Shape.Gathers.idx_axis]
    unfold SparseCore.rows rowOf
    refine (congrArg BitVec.toNat (list_read It d L t _)).trans ?_
    refine Eq.trans ?_ (Nat.mod_eq_of_lt (hpre d _)).symm
    refine congrArg (fun j => BitVec.toNat (It d j)) ?_
    funext a; match a with
    | 0 => rfl
    | 1 => rfl
    | 2 => rfl
    | 3 =>
      refine Fin.ext ?_
      have h := Shape.rowMajor_val_one (d := ![128]) (S128.rowMajor.symm ((y 0 : Fin 128).cast rfl))
      rw [Equiv.apply_symm_apply] at h
      exact h.symm
  | 2 => exact Fin.ext (Shape.Gathers.idx_of_ne _ _ _ _ (by decide))

theorem wRec {q : SemLoc sig × HIx 1} {W W' : Waits sig (HIx 1)} (h : ∀ p ∈ W', p ∈ W ∨ p.2 = none) (hq : q.2 = none) :
    ∀ p ∈ insert q W', p ∈ W ∨ p.2 = none := fun p hp =>
  (Finset.mem_insert.mp hp).elim (fun e => .inr (e ▸ hq)) (h p)

set_option maxHeartbeats 4000000 in
/-- The task with its loop: the shares kept, its blocks expanded. -/
theorem tile_body (hF : (K (F := F)).Facts) (hpre : InRows It) (O : CellTallies nD τ sig (HIx 1)) (W : Waits sig (HIx 1)) (hO : ∀ g, O g none = 0) :
    iprop(levAts (K (F := F)).L (K (F := F)).lev ∗ emp ∗ goP Vt It d (cL L) (sL L)
        ∗ scopedBufs (me d L) ∗ scopedSems0 (me d L) ∗ owes (me d L) O W)
      ⊢ wp frame (wpE (defs₀ (F := F)) 𝒱₀ (me d L) none) Set.univ
          (cc4__sc_expand L tV (Memref.isWhole_whole _) iV (Memref.isWhole_whole _) oV (Memref.isWhole_whole _)
            rV (Memref.isWhole_whole _) sV (Memref.isWhole_whole _) cc4_scratch2 cc4_scoped0 cc4_scoped1 cc4_scoped2 cc4_scoped3)
          fun _ => iprop(tdP Vt It d (cL L) (sL L)
            ∗ scopedBufs (me d L) ∗ scopedSems0 (me d L)
            ∗ ∃ W', ⌜∀ p ∈ W', p ∈ W ∨ p.2 = none⌝ ∗ owes (me d L) O W') := by
  simp only [cc4__sc_expand_eq_skeleton]; unfold cc4__sc_expand_skel
  rw [(K (F := F)).scopedBufs_V hF d (cV L) (jV L), SparseCore.Cfg.scopedSems0_V (Val := Elt F) d (cV L) (jV L), ownSems0_me, ownBufs_me]
  iintro ⟨#Hlv, -, ⟨Ht, Hi, ⟨%f0, Ho⟩⟩, ⟨⟨%fr, Hr⟩, ⟨%fs, Hs⟩, Hbufs⟩, ⟨HsemG, HsemA, HsemB, Hsems⟩, HO⟩
  ihave Hmw := (show levAts (K (F := F)).L (K (F := F)).lev ⊢ Transfers.MayWaits (me d L) (default : HIx 1) O from
    (K (F := F)).mayWaits_none (thr := me d L) hO) $$ Hlv
  dsimp only
  sl_for (inv Vt It d L O W f0) $$ [Hmw Ht Hi Ho Hr Hs HsemG HsemA HsemB HO]
  case region =>
    intro k _
    unfold inv
    iintro ⟨#Hmw, Ht, Hi, Hp, Ho, ⟨%fr, Hr⟩, ⟨%fs, Hs⟩, HsemG, HsemA, HsemB, %W', %hW', HO⟩
    ihave Hob := (take_block (F := F) d L k f0) $$ Ho
    icases Hob with ⟨Hb, Ho⟩
    sl_exec (disch := exact View.amount_pos _ _ (show 0 < S1x128.numel by decide))
    ihave Hs2 := (Entails.of_eq (congrArg (fun f => ((sV).view.loc (me d L) ↦{fullShare} f : sProp 𝕄)) (fetched It d L k fs (tile_body.sl.dma0 It d L k) rfl))) $$ Hs
    ihave Hs3 := (Entails.of_eq (s_univ (F := F) d L _)) $$ Hs2
    ihave Hr3 := (Entails.of_eq (r_univ (F := F) d L _)) $$ Hr
    ihave Hts := (pointsTo_split_subset (ℓ := tLoc d) (q := qT (cL L) (sL L)) (f := Vt d) (S := Finset.univ) (Finset.subset_univ (tK L).view.set)).1 $$ Ht
    icases Hts with ⟨Hts, Htr⟩
    have hN : ∀ h : S10240x128.Gathers 0 S128x128, ∑ j, ((rV).slice (S128x128.rowRect h.axis' j) (S128x128.stride_rowRect h.axis' j)).view.dmaCredit
        = (rV).view.dmaCredit := by decide
    iapply (SparseCore.wp_indirectGatherLocal countersEmb 𝒱₀ (me d L) none (hg := gathers_S10240x128_S128x128) (default : HIx 1)
        (rV).view.dmaCredit (hN _) (by decide) (list_inb It d L hpre k)) $$ [Hts Hr3 Hs3 HsemG]
    · isplitl [Hts]; · iexact Hts
      iframe Hr3 Hs3
      iexact HsemG
    iintro Hfl
    sl_exec
    iapply (Transfers.wp_waitLocalO countersEmb 𝒱₀ (me d L) none (default : HIx 1) (rfl : (rV).view.dmaCredit = _)) $$ [Hfl HO]
    · isplitl [Hfl]; · iexact Hfl
      isplitl [HO]; · iexact HO
      iapply (Transfers.MayWaits.elim (SemLoc.dma cc4_scratch2.sem)) $$ Hmw
    iintro ⟨⟨Hr, Hts, Hs⟩, HsemG, HO⟩
    ihave Ht := (pointsTo_split_subset (ℓ := tLoc d) (q := qT (cL L) (sL L)) (f := Vt d) (S := Finset.univ) (Finset.subset_univ (tK L).view.set)).2 $$ [Hts Htr]
    · isplitl [Hts] <;> iassumption
    ihave Hr := (Entails.of_eq (r_univ (F := F) d L _).symm) $$ Hr
    ihave Hs := (Entails.of_eq (s_univ (F := F) d L _).symm) $$ Hs
    sl_exec (disch := exact View.amount_pos _ _ (show 0 < S128x128.numel by decide))
    ihave Hb := (Entails.of_eq (copied Vt It d L hpre k f0 fr (tile_body.sl.dma0_1 Vt It d L hpre k fr) rfl)) $$ Hb
    ihave Hp := (give_block (F := F) Vt It d L k) $$ [Hp Hb]
    · isplitl [Hp] <;> iassumption
    sl_step
    iframe Hmw Ht Hi Hp Ho
    isplitl [Hr]; · iexists _; iexact Hr
    isplitl [Hs]; · iexists _; iexact Hs
    iframe HsemG HsemA HsemB
    iexists _; isplitr
    swap; · iexact HO
    ipureintro
    exact wRec (wRec (wRec hW' rfl) rfl) rfl
  · unfold inv
    iframe Hmw Ht Hi
    isplitr
    · rw [past_zero, pointsTo_empty]; iempintro
    isplitl [Ho]; · rw [todo_zero]; iexact Ho
    isplitl [Hr]; · iexists _; iexact Hr
    isplitl [Hs]; · iexists _; iexact Hs
    iframe HsemG HsemA HsemB
    iexists W; isplitr
    · ipureintro; exact fun p hp => .inl hp
    · iexact HO
  iintro %_ HI
  unfold inv
  icases HI with ⟨-, Ht, Hi, Ho, -, ⟨%fr, Hr⟩, ⟨%fs, Hs⟩, HsemG, HsemA, HsemB, %W', %hW', HO⟩
  sl_for (inv2) $$ []
  case region =>
    intro k _
    exact absurd k.isLt (show ¬ k.val < (k4_t2_loop L).trips by rw [trips2]; omega)
  · unfold inv2; iempintro
  iintro %_ -
  sl_step
  isplitl [Ht Hi Ho]
  · isplitl [Ht]; · iexact Ht
    isplitl [Hi]; · iexact Hi
    rw [past_end]; iexact Ho
  isplitl [Hr Hs Hbufs]
  · isplitl [Hr]; · iexists _; iexact Hr
    isplitl [Hs]; · iexists _; iexact Hs
    iexact Hbufs
  isplitl [HsemG HsemA HsemB Hsems]
  · isplitl [HsemG]; · iexact HsemG
    iframe HsemA HsemB
    iexact Hsems
  iexists W'; isplitr
  · ipureintro; exact hW'
  · iexact HO

/-! ## The obligations of the call -/

def coordsV (c : Fin (grid4.bound 0)) (s : Fin (grid4.bound 1)) : grid4.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 4 ()
      = SparseCore.onTile hcore4 hsub4 (fun c s => cc4__sc_expand (coordsV c s)
          tV (Memref.isWhole_whole _) iV (Memref.isWhole_whole _) oV (Memref.isWhole_whole _)
          rV (Memref.isWhole_whole _) sV (Memref.isWhole_whole _) cc4_scratch2 cc4_scoped0 cc4_scoped1 cc4_scoped2 cc4_scoped3) ⟨⟩ c s := rfl

omit [FloatOps F] in
/-- A task's waits are its own, whatever else the call may record. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) (hpre : InRows It) : (K (F := F)).TileObl (D (F := F)) 𝒱 (P Vt It) v₀ 0 := by
  intro d c i O W hO _ _
  simp only [show (P Vt It).ox = fun _ _ => 0 from rfl, add_zero]
  have hci : ((K (F := F)).core 0 c).val < grid4.bound 0 ∧ ((K (F := F)).sub 0 i).val < grid4.bound 1 := ⟨c.isLt, i.isLt⟩
  change _ ⊢ wp _ _ _ (Pipeline.liftProg (defs₀ (F := F) (.scVector ((K (F := F)).core 0 c) ((K (F := F)).sub 0 i)) 4 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Vt It d (coordsV ⟨_, hci.1⟩ ⟨_, hci.2⟩) hF hpre O W hO).trans (wp_mono frame _ _ fun _ => waits_weaken)

end Task

theorem slab_split (d : Dev nD) (c : Fin 2) (f : Buf (Elt F) (oLoc d)) :
    (oLoc d ↦[slab c]{fullShare} f : sProp 𝕄) = bigSep Finset.univ fun i : Fin 16 => oLoc d ↦[mine c i]{fullShare} f := by
  rw [← pointsTo_biUnion Finset.univ (ℓ := oLoc d) (mine c) (mine_disjoint c), mine_cover]
theorem out_split (d : Dev nD) (f : Buf (Elt F) (oLoc d)) :
    (oLoc d ↦{fullShare} f : sProp 𝕄) = bigSep Finset.univ fun c : Fin 2 => oLoc d ↦[slab c]{fullShare} f := by
  rw [← pointsTo_biUnion Finset.univ (ℓ := oLoc d) slab slab_disjoint, slab_cover]; try rfl

theorem over_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Parts held at known contents are held at some. -/
theorem at_some {n : ℕ} (d : Dev nD) (S : Fin n → Finset S2x2500x128x128.Idx) (f : Buf (Elt F) (oLoc d)) :
    (bigSep Finset.univ fun i => oLoc d ↦[S i]{fullShare} f) ⊢ (bigSep Finset.univ fun i => iprop(∃ f, oLoc d ↦[S i]{fullShare} f) : sProp 𝕄) :=
  bigSep_mono fun i _ => (show (oLoc d ↦[S i]{fullShare} f : sProp 𝕄) ⊢ iprop(∃ f, oLoc d ↦[S i]{fullShare} f) by
    iintro H; iexists f; iexact H)

theorem emps {I : Type} (s : Finset I) : (bigSep s fun _ => iprop(emp)) = (iprop(emp) : sProp 𝕄) := bigSep_emp_const s

variable [FloatOps F]

theorem vecSplit : (K (F := F)).VecSplit' (P Vt It) 0 := by
  intro d c
  obtain ⟨c, rfl⟩ : ∃ c' : Fin 2, c = Fin.cast nCore_zero.symm c' := ⟨Fin.cast nCore_zero c, rfl⟩
  show stP Vt It d c ⊢ |={Set.univ}=> iprop(
      (bigSep Finset.univ fun i : Fin ((K (F := F)).nSub 0) => goP Vt It d c (Fin.cast nSub_zero i))
      ∗ ((bigSep Finset.univ fun i : Fin ((K (F := F)).nSub 0) => tdP Vt It d c (Fin.cast nSub_zero i)) -∗ dnP Vt It d c))
  rw [over_tasks (F := F) (goP Vt It d c), over_tasks (F := F) (tdP Vt It d c)]
  unfold goP tdP stP dnP
  rw [bigSep_sep', bigSep_sep', bigSep_sep', bigSep_sep', slab_split,
    pointsTo_piecesOf (ℓ := tLoc d) Finset.univ (Vt d) (o := 16) (by decide) (qC c),
    pointsTo_piecesOf (ℓ := iLoc d) Finset.univ (It d) (o := 16) (by decide) (qC c)]
  iintro ⟨Ht, Hi, %f, Ho⟩; imodintro
  isplitl [Ht Hi Ho]
  · isplitl [Ht]; · iexact Ht
    isplitl [Hi]; · iexact Hi
    ihave Ho := (Entails.of_eq (slab_split (F := F) d c f)) $$ Ho
    iapply (at_some (F := F) d (mine c) f)
    iexact Ho
  iintro ⟨Ht, Hi, Ho⟩
  iframe Ht Hi
  iexact Ho

/-- The three arrays whole are what the SparseCores take. -/
theorem give_cores (d : Dev nD) :
    iprop((tLoc d ↦{fullShare} Vt d) ∗ (iLoc d ↦{fullShare} It d) ∗ ∃ f, oLoc d ↦{fullShare} f)
      ⊢ (bigSep Finset.univ fun c : Fin ((K (F := F)).nCore 0) => (P Vt It).st 0 d c : sProp 𝕄) := by
  refine BIBase.Entails.trans ?_ (Entails.of_eq (over_cores (F := F) (stP Vt It d)).symm)
  unfold stP
  rw [bigSep_sep', bigSep_sep', pointsTo_piecesOf (ℓ := tLoc d) Finset.univ (Vt d) (o := 2) (by decide) fullShare,
    pointsTo_piecesOf (ℓ := iLoc d) Finset.univ (It d) (o := 2) (by decide) fullShare]
  iintro ⟨Ht, Hi, %f, Ho⟩
  iframe Ht Hi
  ihave Ho := (Entails.of_eq (out_split (F := F) d f)) $$ Ho
  iapply (at_some (F := F) d slab f)
  iexact Ho

/-- What they bring back is the two stacks as they were and the result expanded. -/
theorem take_cores (d : Dev nD) :
    (bigSep Finset.univ fun c : Fin ((K (F := F)).nCore 0) => (P Vt It).dn 0 d c : sProp 𝕄)
      ⊢ iprop((tLoc d ↦{fullShare} Vt d) ∗ (iLoc d ↦{fullShare} It d) ∗ oLoc d ↦{fullShare} G Vt It d) := by
  refine BIBase.Entails.trans (Entails.of_eq (over_cores (F := F) (dnP Vt It d))) ?_
  unfold dnP
  rw [bigSep_sep', bigSep_sep', pointsTo_piecesOf (ℓ := tLoc d) Finset.univ (Vt d) (o := 2) (by decide) fullShare,
    pointsTo_piecesOf (ℓ := iLoc d) Finset.univ (It d) (o := 2) (by decide) fullShare, out_split]

end Cert.Proof.KernelIdeal

end
-- ==== Proof.IdealStage.lean ====
/-
  One TensorCore call of the program, seen from the host: the call takes the device's buffers from their contents before
  to their contents after, the core owing the SparseCore start signals it owed. Stated once for any of the calls, over
  the proof data of its pipeline.
-/
module

public import proofs.«01_k».proof.Proof.IdealBlocks
public import Idealize.ShloMosaic.Lib.SparseCore.Quiescent
public import Idealize.ShloMosaic.Lib.Pipeline.Frame
public import Idealize.ShloMosaic.Lib.Pipeline.FrameTail
public import Idealize.ShloMosaic.Lib.Pipeline.RegionArraysS
public import proofs.«01_k».proof.Proof.Gen.KernelIdeal.Launch

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.ShloMosaic.StableHlo (after held wp_seq seq)
open Idealize.ShloMosaic.Pipeline (Dat ucRefs unscopedBufs_held arrRef scopedRest afterRegion pin cellsGhost toksInit LaunchFacts BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The pipelines' part of the ghost state -/

abbrev EP : Emb (UR sig nD τ) (MT nD τ sig (HIx 1) (Elt F) ℕ UU ℕ) :=
  (Emb.inl : Emb (UR sig nD τ) (UR sig nD τ × Counters)).trans (embR : Emb (UR sig nD τ × Counters) (MT nD τ sig (HIx 1) (Elt F) ℕ UU ℕ))

instance : (EP (F := F)).LandsIn (upEmb : UEmb _ 𝕄) := by
  unfold EP embR; infer_instance

abbrev adm : (p : Fin 9) → (pcfgs (F := F) p).Adm := fun p => (cfgs p).toPCfg_adm

theorem phinj : Function.Injective (Pipeline.cellOf (nD := nD) (τ := τ) (pin (pcfgs (F := F)) adm)) := (cellOf_inj : _)

/-! ## Proof data -/

/-- A buffer of the core held whole, at its contents. -/
abbrev own (d : Dev nD) {sp : Space} {s : Shape} {e : EltTy} (M : Memref sig .tc sp s e) (x : Vec F s e) : sProp 𝕄 :=
  owns (d.tc : Thread nD τ) M fullShare x

/-- What the core's waits may have recorded before the SparseCore call numbered `n`. -/
abbrev recs (n : ℕ) (d : Dev nD) : Set (SemLoc sig × HIx 1) := {x | (K (F := F)).lev (SparseCore.T d, x.1) x.2 ≤ 8 * n}

/-- Proof data of pipeline `p`: the arrays as the contents `W` have them, the staging buffers left at `aft`. -/
def mkDat (p : Fin 9) (n : ℕ) (W : Dev nD → Valuation τ sig (Elt F))
    (aft : (c : Dev nD) → (w : Fin (cfgs p).W) → Fin (cfgs p).N → ((cfgs p).win w).block.Idx → Elt F ((cfgs p).win w).elt)
    (c : Dev nD) : Dat τ (Elt F) (HIx 1) ℕ UU ℕ (pin (pcfgs (F := F)) adm p) c where
  A w := W c (Proc.devRef .tc (arrRef (cfgs p).spec w))
  after := aft c
  Φ _ := scopedRest (cfgs p).spec c
  q _ := fullShare
  owed _ := (K (F := F)).Otc c n
  recorded _ := recs (F := F) n c

/-- Data of a pipeline that is not the one at hand. -/
def junk (p : Fin 9) (c : Dev nD) : Dat τ (Elt F) (HIx 1) ℕ UU ℕ (pin (pcfgs (F := F)) adm p) c where
  A _ := fun _ => Classical.arbitrary _
  after _ _ := fun _ => Classical.arbitrary _
  Φ _ := iprop(emp)
  q _ := fullShare
  owed _ := 0

/-- A family that has `dt` at `p`. -/
def fam (p : Fin 9) (dt : (c : Dev nD) → Dat τ (Elt F) (HIx 1) ℕ UU ℕ (pin (pcfgs (F := F)) adm p) c) :
    (p' : Fin 9) → (c : Dev nD) → Dat τ (Elt F) (HIx 1) ℕ UU ℕ (pin (pcfgs (F := F)) adm p') c :=
  fun p' c => if h : p = p' then h ▸ dt c else junk p' c

theorem fam_self (p : Fin 9) (dt : (c : Dev nD) → Dat τ (Elt F) (HIx 1) ℕ UU ℕ (pin (pcfgs (F := F)) adm p) c) : fam p dt p = dt := by
  funext c; unfold fam; rw [dif_pos rfl]

/-! ## The call -/

section Call
variable (p : Fin 9) (n : ℕ) (W : Dev nD → Valuation τ sig (Elt F))
    (aft : (c : Dev nD) → (w : Fin (cfgs p).W) → Fin (cfgs p).N → ((cfgs p).win w).block.Idx → Elt F ((cfgs p).win w).elt)

/-- What the core owes before the SparseCore call numbered `n`, its waits recorded below it. -/
def owing (n : ℕ) (d : Dev nD) : sProp 𝕄 :=
  iprop(∃ W, ⌜(K (F := F)).WBelow (SparseCore.T d) W (8 * n)⌝ ∗ owes (SparseCore.T d) ((K (F := F)).Otc d n) W)

theorem kitP (kit : LaunchFacts (nD := nD) (τ := τ) cfgs p) : Pipeline.PLaunchFacts (nD := nD) (τ := τ) (pcfgs (F := F)) p := kit.toP

set_option backward.isDefEq.respectTransparency.types false in
def region (kit : LaunchFacts (nD := nD) (τ := τ) cfgs p)
    (hbody : ∀ c, BodyObligationLoose (mkDat p n W aft c) (defs₀ (F := F)) 𝒱₀ (none : HIx 1) Set.univ) :
    Pipeline.RegionSeg (pcfgs (F := F)) adm (fam p (mkDat p n W aft)) (none : HIx 1) (defs₀ (F := F)) 𝒱₀ (K (F := F)).L ((K (F := F)).lev) p where
  win := (kitP (F := F) p kit).win.to₀
  block_pos := (kitP (F := F) p kit).block_pos
  stage_whole := (kitP (F := F) p kit).stage_whole
  K := PEmpty
  osem k := k.elim
  ho := Pipeline.OwnSemFacts.none _
  hbody c := by rw [fam_self]; exact hbody c
  hwaits c := by
    refine Pipeline.cellsWaits_of_cut (pin (pcfgs (F := F)) adm) (fam p (mkDat p n W aft)) none p c (8 * n) ((K (F := F)).Otc c n) ?_ ?_ ?_ ?_
    · rw [fam_self]; exact fun _ => rfl
    · exact fun _ _ => Finset.mem_univ _
    · exact fun _ _ => Nat.zero_le _
    · exact fun g i h => ⟨Finset.mem_univ _, SparseCore.Cfg.lev_of_Otc_pos h⟩
  pre c := iprop(held (c.tc : Thread nD τ) (ucRefs τ sig) (W c) ∗ owing (F := F) n c)
  post c := iprop(held (c.tc : Thread nD τ) (ucRefs τ sig) (afterRegion (mkDat p n W aft c) (W c)) ∗ owing (F := F) n c)
  X c := iprop(emp)
  Y c := iprop(emp)
  Z c := Pipeline.unscopedRest (Ix := HIx 1) (Name := ℕ) (U := UU) (Lvl := ℕ) (cfgs p).spec c (fun b => W c (Proc.devRef .tc b))
  hentry c := by
    have hsplit := Pipeline.arrays_of_unscopedBufs (p := p) (pcfgs (F := F)) adm (fam p (mkDat p n W aft)) (kitP (F := F) p kit).win (kitP (F := F) p kit).arr_whole c
      (by rw [fam_self]; exact fun w => by unfold Dat.share; exact ite_self _)
      (fun b => W c (Proc.devRef .tc b)) (by rw [fam_self]; exact fun w => rfl)
    rw [fam_self] at hsplit ⊢
    rw [Pipeline.ownSems0_none, ← unscopedBufs_held (Ix := HIx 1) (Name := ℕ) (U := UU) (Lvl := ℕ) c (W c)]
    iintro ⟨⟨Hub, HO⟩, -, -⟩
    ihave H := hsplit $$ Hub
    icases H with ⟨Ha, Hrest⟩
    imodintro
    isplitl [Ha]; · iexact Ha
    isplitr
    · rw [Pipeline.prefHeld_of_none _ rfl]; iempintro
    isplitl [HO]
    · unfold owing Dat.owesAt Pipeline.owesWithin Dat.bound
      icases HO with ⟨%W', %hW', HO⟩
      iexists W'; isplitr; · ipureintro; exact fun x hx => Or.inl (hW' x hx)
      iexact HO
    isplitr; · iempintro
    iexact Hrest
  hin c := by
    rw [fam_self, show (mkDat p n W aft c).Φ 0 = scopedRest (pin (pcfgs (F := F)) adm p).spec c from rfl]
    iintro ⟨-, -, Hr⟩; iexact Hr
  hout c := by
    rw [fam_self, Pipeline.ownSems0_none, show (mkDat p n W aft c).Φ (Fin.last (pin (pcfgs (F := F)) adm p).N) = scopedRest (pin (pcfgs (F := F)) adm p).spec c from rfl]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      (kitP (F := F) p kit).win (kitP (F := F) p kit).arr_whole c (fam p (mkDat p n W aft)) (by rw [fam_self]; exact fun w => by unfold Dat.share; exact ite_self _)
      (fun b => W c (Proc.devRef .tc b)) (fun b => afterRegion (mkDat p n W aft c) (W c) (Proc.devRef .tc b))
      ((mkDat p n W aft c).arrAt · (cfgs p).N)
      (fun w => (Pipeline.afterRegion_arr (mkDat p n W aft c) (W c) kit.win.arr_inj w).symm)
      (fun b hb => Pipeline.afterRegion_of_not_arr (mkDat p n W aft c) (W c)
        fun w h => hb (h ▸ Finset.mem_image.mpr ⟨w, Finset.mem_univ _, rfl⟩))
    rw [fam_self] at hjoin ⊢
    rw [← unscopedBufs_held (Ix := HIx 1) (Name := ℕ) (U := UU) (Lvl := ℕ) c (afterRegion (mkDat p n W aft c) (W c))]
    iintro ⟨Ha, HO, -, Hrest⟩
    imodintro
    isplitl [Ha Hrest]
    · iapply hjoin; isplitl [Ha] <;> iassumption
    unfold owing Dat.owesAt Pipeline.owesWithin Dat.bound
    icases HO with ⟨%W', %hW', HO⟩
    iexists W'; isplitr
    · ipureintro
      intro x hx
      rcases hW' hx with h | h
      · exact h
      · obtain ⟨w, s, rfl⟩ := h
        exact Nat.zero_le _
    iexact HO

/-- The call, in the program extended with the SparseCore launch: from the buffers at `W` to the buffers at the region's
    contents. -/
theorem wp_region (kit : LaunchFacts (nD := nD) (τ := τ) cfgs p)
    (hbody : ∀ c, BodyObligationLoose (mkDat p n W aft c) (defs₀ (F := F)) 𝒱₀ (none : HIx 1) Set.univ)
    (d : Dev nD) (Q : PUnit → sProp 𝕄) :
    iprop((iprop(boundary (SparseCore.T d) ∗ held (SparseCore.T d) (ucRefs τ sig) (afterRegion (mkDat p n W aft d) (W d)) ∗ owing (F := F) n d) -∗ Q ⟨⟩)
        ∗ boundary (SparseCore.T d) ∗ held (SparseCore.T d) (ucRefs τ sig) (W d) ∗ owing (F := F) n d
        ∗ levAts (K (F := F)).L (K (F := F)).lev
        ∗ cellsGhost (pin (pcfgs (F := F)) adm) EP p d ∗ toksInit (pin (pcfgs (F := F)) adm) EP p d)
      ⊢ wp frame (wpE ((K (F := F)).defs (D (F := F))) 𝒱 (SparseCore.T d) none) Set.univ
          (Prog.lift (.customCall (SparseCore.inner (Pipeline.entry p)) ())) Q := by
  have h := Pipeline.RegionSeg.wp (pcfgs (F := F)) adm (fam p (mkDat p n W aft)) (none : HIx 1) phinj EP (defs₀ (F := F)) 𝒱₀ (K (F := F)).L ((K (F := F)).lev)
    (region p n W aft kit hbody) d none (fun _ h => nomatch h) (fun x => .ret x) Q
  refine BIBase.Entails.trans ?_ (((K (F := F)).wp_liftProg (D (F := F)) 𝒱 (SparseCore.T d) Set.univ none
    (.op (.customCall (Pipeline.entry p) ()) fun x => .ret x) Q))
  refine BIBase.Entails.trans ?_ h
  rw [show (region p n W aft kit hbody).post d = iprop(held (d.tc : Thread nD τ) (ucRefs τ sig) (afterRegion (mkDat p n W aft d) (W d)) ∗ owing (F := F) n d) from rfl,
    show (region p n W aft kit hbody).pre d = iprop(held (d.tc : Thread nD τ) (ucRefs τ sig) (W d) ∗ owing (F := F) n d) from rfl]
  iintro ⟨Hk, Hb, Hh, HO, Hl, Hc, Ht⟩
  isplitl [Hk]
  · iintro ⟨Hb, Hh, HO⟩
    rw [wp_ret]
    imodintro
    iapply Hk
    isplitl [Hb]; · iexact Hb
    isplitl [Hh] <;> iassumption
  isplitl [Hb]; · iexact Hb
  isplitl [Hh HO]
  · isplitl [Hh] <;> iassumption
  isplitl [Hl]; · iexact Hl
  isplitl [Hc] <;> iassumption

end Call

end Cert.Proof.KernelIdeal

end
-- ==== Proof.IdealFund.lean ====
/-
  The launch's ghost element: the SparseCore handshakes' part, the TensorCore pipelines' part and the counters', each
  handed to who uses it.
-/
module

public import proofs.«01_k».proof.Proof.IdealTile
public import proofs.«01_k».proof.Proof.IdealStage

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.ShloMosaic.Pipeline (pin cellsGhost toksInit cells launchToks)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (Vt : (d : Dev nD) → Buf (Elt F) (tLoc d)) (It : (d : Dev nD) → Buf (Elt F) (iLoc d))

/-- What the pipelines' part gives pipeline `p` on device `d`. -/
def fuel (p : Fin 9) (d : Dev nD) : sProp 𝕄 :=
  iprop(cellsGhost (pin (pcfgs (F := F)) adm) EP p d ∗ toksInit (pin (pcfgs (F := F)) adm) EP p d)

/-- What it gives a device. -/
def fuels (d : Dev nD) : sProp 𝕄 := bigSep Finset.univ fun p : Fin 9 => fuel (F := F) p d

def u₀ : UU := (initOf (K (F := F)).hsCells (K (F := F)).hsToks,
  (initOf (cells (nD := nD) (τ := τ) (pin (pcfgs (F := F)) adm) phinj) (launchToks (nD := nD) (τ := τ) (pin (pcfgs (F := F)) adm) phinj), 1))

theorem hu₀ : (ownU (u₀ (F := F)) : sProp 𝕄)
    ⊢ |={Set.univ}=> iprop(BI.own (EH (initOf (K (F := F)).hsCells (K (F := F)).hsToks)) ∗ (bigSep Finset.univ fun d : Dev nD => fuels (F := F) d)
        ∗ bigSep Finset.univ fun thr : Thread nD τ => bigSep Finset.univ fun q : Fin 1 => (P Vt It).x q thr) := by
  unfold u₀
  iintro Hu
  ihave H := (ownU_pair (initOf (K (F := F)).hsCells (K (F := F)).hsToks)
    ((initOf (cells (nD := nD) (τ := τ) (pin (pcfgs (F := F)) adm) phinj) (launchToks (nD := nD) (τ := τ) (pin (pcfgs (F := F)) adm) phinj), 1) : UR sig nD τ × Counters)) $$ Hu
  icases H with ⟨HH, HR⟩
  ihave H2 := (own_pair_emb (embR : Emb (UR sig nD τ × Counters) (MT nD τ sig (HIx 1) (Elt F) ℕ UU ℕ))
    (initOf (cells (nD := nD) (τ := τ) (pin (pcfgs (F := F)) adm) phinj) (launchToks (nD := nD) (τ := τ) (pin (pcfgs (F := F)) adm) phinj)) (1 : Counters)) $$ HR
  icases H2 with ⟨HP, -⟩
  ihave H3 := (Pipeline.fund_ghost (nD := nD) (τ := τ) (pin (pcfgs (F := F)) adm) EP phinj) $$ HP
  imod H3
  imodintro
  icases H3 with ⟨Hc, Ht⟩
  isplitl [HH]; · iexact HH
  isplitl [Hc Ht]
  · unfold fuels fuel
    rw [show (bigSep Finset.univ fun d : Dev nD => bigSep Finset.univ fun p : Fin 9 =>
        (iprop(cellsGhost (pin (pcfgs (F := F)) adm) EP p d ∗ toksInit (pin (pcfgs (F := F)) adm) EP p d) : sProp 𝕄))
      = iprop((bigSep Finset.univ fun d : Dev nD => bigSep Finset.univ fun p : Fin 9 => cellsGhost (pin (pcfgs (F := F)) adm) EP p d)
          ∗ (bigSep Finset.univ fun d : Dev nD => bigSep Finset.univ fun p : Fin 9 => toksInit (pin (pcfgs (F := F)) adm) EP p d)) from by
        rw [← bigSep_sep']; exact bigSep_congr fun d _ => bigSep_sep' _ _ _]
    isplitl [Hc] <;> iassumption
  rw [show (bigSep Finset.univ fun thr : Thread nD τ => bigSep Finset.univ fun q : Fin 1 => (P (F := F) Vt It).x q thr) = bigSep Finset.univ fun _ => iprop(emp) from
    bigSep_congr fun _ _ => bigSep_univ_of_subsingleton (0 : Fin 1), emps]
  iempintro

end Cert.Proof.KernelIdeal

end
-- ==== Proof.IdealRows.lean ====
/-
  The host operations before the expansion: the two tables stacked, the two lists of row numbers cut into blocks of 128 and
  stacked.
-/
module

public import proofs.«01_k».proof.Proof.IdealBlocks
public import Idealize.ShloMosaic.Lib.Pipeline.Value

@[expose] public section

noncomputable section

namespace Cert.Proof.KernelIdeal

open Cert.KernelIdeal Cert.KernelIdeal.Gen

open Idealize.ShloMosaic
open Idealize.ShloMosaic.ValueIdx

variable {α : Type}

/-- The two tables, one upon the other. -/
def tables (a b : S10240x128.Idx → α) : S2x10240x128.Idx → α :=
  concatenate S2x10240x128 0
    [⟨S1x10240x128, broadcastInDim S1x10240x128 ![1, 2] bcast_S10240x128_S1x10240x128_1_2 a⟩,
      ⟨S1x10240x128, broadcastInDim S1x10240x128 ![1, 2] bcast_S10240x128_S1x10240x128_1_2 b⟩]
    concatenates_S1x10240x128_S1x10240x128_S2x10240x128_d0

/-- One list of row numbers in blocks of 128. -/
def inBlocks (ia : S320000.Idx → BitVec 32) : S1x2500x1x128.Idx → BitVec 32 :=
  broadcastInDim S1x2500x1x128 ![1, 2, 3] bcast_S2500x1x128_S1x2500x1x128_1_2_3
    (shapeCast S2500x1x128 ia shapeCasts_S320000_S2500x1x128)

/-- The two lists in blocks, one upon the other. -/
def lists (ia ib : S320000.Idx → BitVec 32) : S2x2500x1x128.Idx → BitVec 32 :=
  concatenate S2x2500x1x128 0 [⟨S1x2500x1x128, inBlocks ia⟩, ⟨S1x2500x1x128, inBlocks ib⟩]
    concatenates_S1x2500x1x128_S1x2500x1x128_S2x2500x1x128_d0

/-- The place in its list of entry `r` of block `b`. -/
abbrev place (b : Fin 2500) (r : Fin 128) : Fin 320000 := ⟨b.val * 128 + r.val, by omega⟩

theorem inBlocks_apply (ia : S320000.Idx → BitVec 32) (b : Fin 2500) (r : Fin 128) :
    inBlocks ia (ix4 (0 : Fin 1) b (0 : Fin 1) r) = ia (ix1 (place b r)) := by
  unfold inBlocks
  refine (broadcastInDim_apply _ _ _ _ (ix3 b (0 : Fin 1) r) fun k => ?_).trans ?_
  · match k with
    | ⟨0, _⟩ => rfl
    | ⟨1, _⟩ => rfl
    | ⟨2, _⟩ => rfl
  refine shapeCast_apply _ _ _ _ ?_
  rw [Shape.rowMajor_val_one (d := ![320000]), Shape.rowMajor_val_three (d := ![2500, 1, 128])]
  show b.val * 128 + r.val = _
  simp [ix3]

theorem lists_zero (ia ib : S320000.Idx → BitVec 32) (b : Fin 2500) (r : Fin 128) :
    lists ia ib (ix4 (0 : Fin 2) b (0 : Fin 1) r) = ia (ix1 (place b r)) := by
  refine (concatenate_pair_apply_left (t := S2x2500x1x128) (s₁ := S1x2500x1x128) (s₂ := S1x2500x1x128) 0 _ _ _ _ rfl (ix4 (0 : Fin 1) b (0 : Fin 1) r) fun k => ?_).trans (inBlocks_apply ia b r)
  match k with
  | ⟨0, _⟩ => rfl
  | ⟨1, _⟩ => rfl
  | ⟨2, _⟩ => rfl
  | ⟨3, _⟩ => rfl

theorem lists_one (ia ib : S320000.Idx → BitVec 32) (b : Fin 2500) (r : Fin 128) :
    lists ia ib (ix4 (1 : Fin 2) b (0 : Fin 1) r) = ib (ix1 (place b r)) := by
  refine (concatenate_pair_apply_right (t := S2x2500x1x128) (s₁ := S1x2500x1x128) (s₂ := S1x2500x1x128) 0 _ _ _ _ rfl rfl (ix4 (0 : Fin 1) b (0 : Fin 1) r) (fun k hk => ?_) rfl).trans (inBlocks_apply ib b r)
  match k with
  | ⟨0, _⟩ => exact absurd rfl hk
  | ⟨1, _⟩ => rfl
  | ⟨2, _⟩ => rfl
  | ⟨3, _⟩ => rfl

/-- A bound on every row number of both lists is one on every row number of the stack. -/
theorem lists_lt (ia ib : S320000.Idx → BitVec 32) (N : ℕ) (ha : ∀ i, (ia i).toNat < N) (hb : ∀ i, (ib i).toNat < N)
    (j : S2x2500x1x128.Idx) : (lists ia ib j).toNat < N := by
  obtain ⟨c, b, u, r, rfl⟩ : ∃ (c : Fin 2) (b : Fin 2500) (u : Fin 1) (r : Fin 128), j = ix4 c b u r :=
    ⟨j 0, j 1, j 2, j 3, eq_ix4 (n0 := 2) (n1 := 2500) (n2 := 1) (n3 := 128) j⟩
  obtain rfl : u = 0 := Subsingleton.elim _ _
  match c with
  | ⟨0, _⟩ => exact (congrArg BitVec.toNat (lists_zero ia ib b r)).trans_lt (ha _)
  | ⟨1, _⟩ => exact (congrArg BitVec.toNat (lists_one ia ib b r)).trans_lt (hb _)

end Cert.Proof.KernelIdeal

end
-- ==== Proof.IdealSeg.lean ====
/-
  The sorted segment sums as plain functions: what one grid point makes of the table of sums and of the narrow table
  beside it, window by window, from its block of rows and its block of indices.
-/
module

public import proofs.«01_k».proof.Proof.SegNum
public import proofs.«01_k».proof.Proof.IdealStage
public import Idealize.ShloMosaic.Lib.SortNet.Extract
public import Idealize.ShloMosaic.Lib.Pipeline.Value

@[expose] public section

noncomputable section

namespace Cert.Proof.KernelIdeal

open Cert.KernelIdeal Cert.KernelIdeal.Gen Cert.Proof.Seg
open Idealize.ShloMosaic
open Idealize.ShloMosaic.ValueIdx

variable {F : FTy → Type} [FloatOps F]

/-! ## A window, and one trip -/

/-- Rows `o`, …, `o + 127` of a table of 128 columns. -/
def win128 (g : Vec F S10240x128 .f32) (o : ℕ) : Vec F S128x128 .f32 :=
  fun y => g (ix2 ⟨min (o + (y 0).val) 10239, by omega⟩ (y 1))

/-- Rows `o`, …, `o + 127` of a table of 16 columns. -/
def win16 (g : Vec F S10240x16 .f32) (o : ℕ) : Vec F S128x16 .f32 :=
  fun y => g (ix2 ⟨min (o + (y 0).val) 10239, by omega⟩ (y 1))

theorem window128 (g : Vec F S10240x128 .f32) (o : ℕ) (inb : ∀ a, (![o, 0] : Fin 2 → ℕ) a + S128x128.size a ≤ S10240x128.size a) :
    VecWindow.window (s := S10240x128) g ![o, 0] S128x128.size inb = win128 g o := by
  funext y
  have h0 : o + 128 ≤ 10240 := inb 0
  have hy : (y 0).val < 128 := (y 0).isLt
  refine congrArg g (funext fun a => Fin.ext ?_)
  match a with
  | 0 => show o + 1 * (y 0).val = min (o + (y 0).val) 10239; omega
  | 1 => show 0 + 1 * (y 1).val = (y 1).val; omega

theorem window16 (g : Vec F S10240x16 .f32) (o : ℕ) (inb : ∀ a, (![o, 0] : Fin 2 → ℕ) a + S128x16.size a ≤ S10240x16.size a) :
    VecWindow.window (s := S10240x16) g ![o, 0] S128x16.size inb = win16 g o := by
  funext y
  have h0 : o + 128 ≤ 10240 := inb 0
  have hy : (y 0).val < 128 := (y 0).isLt
  refine congrArg g (funext fun a => Fin.ext ?_)
  match a with
  | 0 => show o + 1 * (y 0).val = min (o + (y 0).val) 10239; omega
  | 1 => show 0 + 1 * (y 1).val = (y 1).val; omega

/-- Where row `w + r` is the segment of entry `j`: 1 there and 0 elsewhere. -/
def hot (v : IVec S1000 32) (w : BitVec 32) : FVec F S128x1000 .f32 :=
  sitofp .f32 (extui 32 (cmpi .eq (addi (broadcast S128x1000 w) (iota .tc S128x1000 32 [0] iota_S128x1000_d0_w32))
    (broadcastTo S128x1000 (shapeCast S1x1000 v shapeCasts_S1000_S1x1000) broadcasts_S1x1000_S128x1000)) natLt_1_32)

/-- The window at row `w` after its rows of sums are added. -/
def addRows (v : IVec S1000 32) (w : BitVec 32) (x : Vec F S1000x128 .f32) (c : Vec F S128x128 .f32) : FVec F S128x128 .f32 :=
  addf (shapeCast S128x128 c shapeCasts_S128x128_S128x128)
    (matmul dot_S128x1000_S1000x128_S128x128_1_0_0_1_n_n none (hot v w) x (constant S128x128 .f32 0x00000000#32))

/-- The narrow window at row `w` after the number of its entries is added to each column. -/
def addCount (v : IVec S1000 32) (w : BitVec 32) (c : Vec F S128x16 .f32) : FVec F S128x16 .f32 :=
  addf (shapeCast S128x16 c shapeCasts_S128x16_S128x16)
    (broadcastTo S128x16 (shapeCast S128x1 (shapeCast S128x1 (multiReduction .add [1] S128 (hot v w) 0x00000000#32 reduces_S128x1000_S128 (.inl rfl) rfl)
      shapeCasts_S128_S128x1) shapeCasts_S128x1_S128x1) broadcasts_S128x1_S128x16)

/-- The narrow window at row `w` after its rows of payload sums are added. -/
def addPay (v : IVec S1000 32) (w : BitVec 32) (p : Vec F S1000x16 .f32) (c : Vec F S128x16 .f32) : FVec F S128x16 .f32 :=
  addf (shapeCast S128x16 c shapeCasts_S128x16_S128x16)
    (matmul dot_S128x1000_S1000x16_S128x16_1_0_0_1_n_n none (hot v w) p (constant S128x16 .f32 0x00000000#32))

theorem cast_same {s : Shape} {α : Type} (x : s.Idx → α) (h : s.ShapeCasts s) : shapeCast s x h = x :=
  funext fun j => shapeCast_apply x h j j rfl

/-! ## The block's indices -/

/-- The indices of a block lie in [0, 10000). -/
def InR (ix : Vec F S1x1x1000 .i32) : Prop := ∀ y, (ix y : BitVec 32).toNat < 10000

/-- The block's indices as a vector. -/
def flat (ix : Vec F S1x1x1000 .i32) : IVec S1000 32 := k0_pay9 ix
/-- The least index. -/
def loW (ix : Vec F S1x1x1000 .i32) : BitVec 32 := extractAt ![0, 0] (k0_pay10 ix) inpos_S1x1_p0_0
/-- The greatest. -/
def hiW (ix : Vec F S1x1x1000 .i32) : BitVec 32 := extractAt ![0, 0] (k0_pay11 ix) inpos_S1x1_p0_0

theorem fold_min {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ih
  rw [Finset.fold_insert has]
  have hm := SortNet.toInt_minsi (g a) (s.fold IntOp.minsi init g)
  refine ⟨fun i hi => ?_, ?_⟩
  · rw [hm]
    rcases Finset.mem_insert.mp hi with rfl | hi
    · exact min_le_left _ _
    · exact le_trans (min_le_right _ _) (ih.1 i hi)
  · rcases min_choice (g a).toInt (s.fold IntOp.minsi init g).toInt with h | h
    · exact Or.inr ⟨a, Finset.mem_insert_self a s, BitVec.eq_of_toInt_eq (hm.trans h)⟩
    · rcases ih.2 with h3 | ⟨i, hi, h3⟩
      · exact Or.inl ((BitVec.eq_of_toInt_eq (hm.trans h)).trans h3)
      · exact Or.inr ⟨i, Finset.mem_insert_of_mem hi, (BitVec.eq_of_toInt_eq (hm.trans h)).trans h3⟩

theorem one_idx (a b : S1.Idx) : a = b := by
  funext i; match i with
  | 0 => exact Fin.ext (by have := (a 0).isLt; have := (b 0).isLt; show (a 0).val = (b 0).val; have h1 : (a 0).val < 1 := (a 0).isLt; have h2 : (b 0).val < 1 := (b 0).isLt; omega)

theorem flat_mem (ix : Vec F S1x1x1000 .i32) (j : S1000.Idx) : ∃ y, flat ix j = ix y := ⟨_, rfl⟩

section
variable {ix : Vec F S1x1x1000 .i32} (h : InR ix)
include h

theorem flat_lt (j : S1000.Idx) : (flat ix j).toNat < 10000 := by
  obtain ⟨y, hy⟩ := flat_mem ix j
  rw [hy]; exact h y

theorem flat_toInt (j : S1000.Idx) : (flat ix j).toInt = (flat ix j).toNat := by
  have := flat_lt h j
  rw [BitVec.toInt_eq_toNat_cond]
  split <;> omega

theorem lo_spec : (∀ j, (loW ix).toNat ≤ (flat ix j).toNat) ∧ ∃ j, loW ix = flat ix j := by
  obtain ⟨e, he⟩ : ∃ e : S1.Idx, loW ix = multiReductionI .minsi [1] S1 (shapeCast S1x1000 (flat ix) shapeCasts_S1000_S1x1000) 2147483647#32 reduces_S1x1000_S1 rfl e := ⟨_, rfl⟩
  replace he := he.trans (multiReductionI_eq_fold _ _ _ _ _ _)
  have hall : (Finset.univ.filter fun i => Shape.Reduces.drop reduces_S1x1000_S1 i = e) = Finset.univ :=
    Finset.filter_true_of_mem fun i _ => one_idx _ _
  rw [hall] at he
  have hs := fold_min (shapeCast S1x1000 (flat ix) shapeCasts_S1000_S1x1000) Finset.univ 2147483647#32
  rw [← show loW ix = Finset.univ.fold IntOp.minsi 2147483647#32 (shapeCast S1x1000 (flat ix) shapeCasts_S1000_S1x1000) from he] at hs
  have hsc : ∀ j : S1000.Idx, ∃ i : S1x1000.Idx, shapeCast S1x1000 (flat ix) shapeCasts_S1000_S1x1000 i = flat ix j := fun j =>
    ⟨ix2 0 (j 0), shapeCast_apply _ _ _ j (by rw [Shape.rowMajor_val_two, Shape.rowMajor_val_one]; show (j 0).val = 0 * 1000 + (j 0).val; omega)⟩
  have hex : ∃ j, loW ix = flat ix j := by
    rcases hs.2 with h2 | ⟨i, -, h2⟩
    · exfalso
      have h3 := hsc (ix1 0)
      obtain ⟨i, hi⟩ := h3
      have h4 := hs.1 i (Finset.mem_univ _)
      rw [hi, h2, flat_toInt h, show (2147483647#32 : BitVec 32).toInt = 2147483647 from by decide] at h4
      have := flat_lt h (ix1 0)
      omega
    · exact ⟨_, h2⟩
  refine ⟨fun j => ?_, hex⟩
  obtain ⟨i, hi⟩ := hsc j
  have h4 := hs.1 i (Finset.mem_univ _)
  obtain ⟨j', hj'⟩ := hex
  rw [hi, hj', flat_toInt h, flat_toInt h] at h4
  rw [hj']; omega

theorem hi_spec : (∀ j, (flat ix j).toNat ≤ (hiW ix).toNat) ∧ ∃ j, hiW ix = flat ix j := by
  obtain ⟨e, he⟩ : ∃ e : S1.Idx, hiW ix = multiReductionI .maxsi [1] S1 (shapeCast S1x1000 (flat ix) shapeCasts_S1000_S1x1000) 2147483648#32 reduces_S1x1000_S1 rfl e := ⟨_, rfl⟩
  replace he := he.trans (multiReductionI_eq_fold _ _ _ _ _ _)
  have hall : (Finset.univ.filter fun i => Shape.Reduces.drop reduces_S1x1000_S1 i = e) = Finset.univ :=
    Finset.filter_true_of_mem fun i _ => one_idx _ _
  rw [hall] at he
  have hs := (SortNet.fold_maxsi_spec (shapeCast S1x1000 (flat ix) shapeCasts_S1000_S1x1000) Finset.univ 2147483648#32).2
  rw [← show hiW ix = Finset.univ.fold IntOp.maxsi 2147483648#32 (shapeCast S1x1000 (flat ix) shapeCasts_S1000_S1x1000) from he] at hs
  have hsc : ∀ j : S1000.Idx, ∃ i : S1x1000.Idx, shapeCast S1x1000 (flat ix) shapeCasts_S1000_S1x1000 i = flat ix j := fun j =>
    ⟨ix2 0 (j 0), shapeCast_apply _ _ _ j (by rw [Shape.rowMajor_val_two, Shape.rowMajor_val_one]; show (j 0).val = 0 * 1000 + (j 0).val; omega)⟩
  have hex : ∃ j, hiW ix = flat ix j := by
    rcases hs.2 with h2 | ⟨i, -, h2⟩
    · exfalso
      have h3 := hsc (ix1 0)
      obtain ⟨i, hi⟩ := h3
      have h4 := hs.1 i (Finset.mem_univ _)
      rw [hi, h2, flat_toInt h, show (2147483648#32 : BitVec 32).toInt = -2147483648 from by decide] at h4
      omega
    · exact ⟨_, h2⟩
  refine ⟨fun j => ?_, hex⟩
  obtain ⟨i, hi⟩ := hsc j
  have h4 := hs.1 i (Finset.mem_univ _)
  obtain ⟨j', hj'⟩ := hex
  rw [hi, hj', flat_toInt h, flat_toInt h] at h4
  rw [hj']; omega

theorem lo_le_hi : (loW ix).toNat ≤ (hiW ix).toNat := by
  obtain ⟨j, hj⟩ := (hi_spec h).2
  rw [hj]; exact (lo_spec h).1 j

theorem hi_lt : (hiW ix).toNat < 10000 := by
  obtain ⟨j, hj⟩ := (hi_spec h).2
  rw [hj]; exact flat_lt h j

end

/-! ## A grid point -/

/-- Trip `k` on the table of sums. -/
def tripRows (ix : Vec F S1x1x1000 .i32) (x : Vec F S1000x128 .f32) (k : ℕ) (g : Vec F S10240x128 .f32) : Vec F S10240x128 .f32 :=
  VecWindow.put (s := S10240x128) g ![(rowW (loW ix) k).toNat, 0] S128x128.size (addRows (flat ix) (rowW (loW ix) k) x (win128 g (rowW (loW ix) k).toNat))

/-- Trip `k` on the table of counts. -/
def tripCount (ix : Vec F S1x1x1000 .i32) (k : ℕ) (g : Vec F S10240x16 .f32) : Vec F S10240x16 .f32 :=
  VecWindow.put (s := S10240x16) g ![(rowW (loW ix) k).toNat, 0] S128x16.size (addCount (flat ix) (rowW (loW ix) k) (win16 g (rowW (loW ix) k).toNat))

/-- Trip `k` on the table of payload sums. -/
def tripPay (ix : Vec F S1x1x1000 .i32) (p : Vec F S1000x16 .f32) (k : ℕ) (g : Vec F S10240x16 .f32) : Vec F S10240x16 .f32 :=
  VecWindow.put (s := S10240x16) g ![(rowW (loW ix) k).toNat, 0] S128x16.size (addPay (flat ix) (rowW (loW ix) k) p (win16 g (rowW (loW ix) k).toNat))

/-- The first `n` trips, one after another. -/
def runTrips {A : Type} (f : ℕ → A → A) (n : ℕ) (a : A) : A := Nat.rec a (fun k r => f k r) n

theorem runTrips_zero {A : Type} (f : ℕ → A → A) (a : A) : runTrips f 0 a = a := rfl
theorem runTrips_succ {A : Type} (f : ℕ → A → A) (n : ℕ) (a : A) : runTrips f (n + 1) a = f n (runTrips f n a) := rfl

/-- The number of windows of the block. -/
def wins (ix : Vec F S1x1x1000 .i32) : ℕ := nwin (loW ix).toNat (hiW ix).toNat

def stepRows (ix : Vec F S1x1x1000 .i32) (x : Vec F S1000x128 .f32) (g : Vec F S10240x128 .f32) : Vec F S10240x128 .f32 :=
  runTrips (tripRows ix x) (wins ix) g
def stepCount (ix : Vec F S1x1x1000 .i32) (g : Vec F S10240x16 .f32) : Vec F S10240x16 .f32 :=
  runTrips (tripCount ix) (wins ix) g
def stepPay (ix : Vec F S1x1x1000 .i32) (p : Vec F S1000x16 .f32) (g : Vec F S10240x16 .f32) : Vec F S10240x16 .f32 :=
  runTrips (tripPay ix p) (wins ix) g

/-- All zeros. -/
def zeros128 : Vec F S10240x128 .f32 := k0_pay7 (F := F)
def zeros16 : Vec F S10240x16 .f32 := k0_pay8 (F := F)

end Cert.Proof.KernelIdeal
-- ==== Proof.IdealSeg0.lean ====
/-
  The body of the first sorted segment sum (rows of `h_A` and their counts), run at any staging buffers: one grid point
  takes the two tables from what they held to what the plain functions say.
-/
module

public import proofs.«01_k».proof.Proof.IdealSeg
public import proofs.«01_k».proof.Proof.Gen.KernelIdeal.Points
public import Idealize.ShloMosaic.Lib.Pipeline.FrameBody

@[expose] public section

noncomputable section

namespace Cert.Proof.KernelIdeal

open Cert.KernelIdeal Cert.KernelIdeal.Gen Cert.Proof.Seg
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C0

theorem not_first (n : Fin 320) (h : n.val ≠ 0) :
    ¬ Scalar.cmpi .ne (Scalar.extui (Scalar.cmpi .eq (BitVec.ofNat 32 n.val) 0#32) : BitVec 32) 0#32 = 1#1 := by
  have := (by decide +kernel : ∀ n : Fin 320, n.val ≠ 0 → ¬ Scalar.cmpi .ne (Scalar.extui (Scalar.cmpi .eq (BitVec.ofNat 32 n.val) 0#32) : BitVec 32) 0#32 = 1#1)
  exact this n h

theorem chk {lo hi : BitVec 32} (hlo : lo.toNat ≤ hi.toNat) (hhi : hi.toNat < 10000) : k0_chk1 lo hi := by
  have h1 : ∀ k : Fin (k0_t1_loop lo hi).trips, (rowW lo k.val).toNat + 128 ≤ 10240 := fun k =>
    row_le hlo hhi (lt_of_lt_of_eq k.isLt (trips_eq_nwin hlo hhi))
  have no : ∀ k : Fin (k0_t2_loop lo hi).trips, False := fun k => Scf.rem_no_trip _ _ k
  refine ⟨loop_ok hlo hhi, fun k a => ?_, fun k a => ?_, Scf.rem_ok _ _, fun k => (no k).elim, fun k => (no k).elim⟩
  · match a with
    | 0 => exact h1 k
    | 1 => show 0 + 128 ≤ 128; omega
  · match a with
    | 0 => exact h1 k
    | 1 => show 0 + 16 ≤ 16; omega

section
variable (d : Dev nD) (i : grid0.Coords)
  (M1 : Memref sig .tc .vmem S1000x128 .f32) (h1 : M1.IsWhole) (M2 : Memref sig .tc .vmem S1x1x1000 .i32) (h2 : M2.IsWhole)
  (M3 : Memref sig .tc .vmem S10240x128 .f32) (h3 : M3.IsWhole) (M4 : Memref sig .tc .vmem S10240x16 .f32) (h4 : M4.IsWhole)
  (x : Vec F S1000x128 .f32) (ix : Vec F S1x1x1000 .i32)

/-- One trip of the loop over the windows. -/
theorem trip (hw : k0_chk1 (loW ix) (hiW ix)) (k : Fin (k0_t1_loop (loW ix) (hiW ix)).trips)
    (g3 : Vec F S10240x128 .f32) (g4 : Vec F S10240x16 .f32) (Q : Unit → sProp 𝕄) :
    iprop(own d M1 x ∗ own d M3 g3 ∗ own d M4 g4
      ∗ (iprop(own d M1 x ∗ own d M3 (tripRows ix x k g3)
          ∗ own d M4 (tripCount ix k g4)) -∗ Q ⟨⟩))
    ⊢ wp frame (wpE (defs₀ (F := F)) 𝒱₀ (d.tc : Thread nD τ) none) Set.univ
        (k0_t1_body i M1 h1 M2 h2 M3 h3 M4 h4 (flat ix) (loW ix) (baseW (loW ix)) (hiW ix) hw k ⟨⟩) Q := by
  unfold k0_t1_body own owns
  iintro ⟨⟨%f1, %e1, H1⟩, ⟨%f3, %e3, H3⟩, ⟨%f4, %e4, H4⟩, Hk⟩
  sl_exec
  sl_step
  iapply Hk
  isplitl [H1]
  · iexists f1; isplitr; · ipureintro; exact e1
    iexact H1
  isplitl [H3]
  · iexists _; isplitr; swap; · iexact H3
    ipureintro
    refine (View.read_writes_cons_put M3.view f3 (off' := ![(rowW (loW ix) k).toNat, 0]) _ _ [] rfl).trans ?_
    rw [View.writes_nil, e3]
    refine congrArg (VecWindow.put g3 _ _) ?_
    exact congr (congrArg (addRows (flat ix) (rowW (loW ix) k)) ((View.readAt_full M1.view f1 _).trans e1))
      ((View.readAt_unit M3.view f3 _ rfl (hw.2.1 k)).trans (by rw [e3]; exact window128 g3 _ _))
  iexists _; isplitr; swap; · iexact H4
  ipureintro
  refine (View.read_writes_cons_put M4.view f4 (off' := ![(rowW (loW ix) k).toNat, 0]) _ _ [] rfl).trans ?_
  rw [View.writes_nil, e4]
  refine congrArg (VecWindow.put g4 _ _) ?_
  exact congrArg (addCount (flat ix) (rowW (loW ix) k))
    ((View.readAt_unit M4.view f4 _ rfl (hw.2.2.1 k)).trans (by rw [e4]; exact window16 g4 _ _))

/-- What the loop has made of the tables before trip `k`. -/
def inv (g3 : Vec F S10240x128 .f32) (g4 : Vec F S10240x16 .f32) (k : ℕ) (_ : Unit) : sProp 𝕄 :=
  iprop(own d M1 x ∗ own d M3 (runTrips (tripRows ix x) k g3)
    ∗ own d M4 (runTrips (tripCount ix) k g4))

def none2 (_ : ℕ) (_ : Unit) : sProp 𝕄 := iprop(emp)

/-- The two loops, from what the first part returned. -/
theorem loops (hr : InR ix) (hw : k0_chk1 (loW ix) (hiW ix)) (v31 c128 v32 v37 c0 : BitVec 32)
    (hv : v31 = Scalar.subi (hiW ix) (baseW (loW ix)))
    (g3 : Vec F S10240x128 .f32) (g4 : Vec F S10240x16 .f32) (Q : PUnit → sProp 𝕄) :
    iprop(own d M1 x ∗ own d M3 g3 ∗ own d M4 g4
      ∗ (iprop(own d M1 x ∗ own d M3 (stepRows ix x g3)
          ∗ own d M4 (stepCount ix g4)) -∗ Q ⟨⟩))
    ⊢ wp frame (wpE (defs₀ (F := F)) 𝒱₀ (d.tc : Thread nD τ) none) Set.univ
        (do
          Scf.Loop.for (k0_t1_loop (loW ix) (hiW ix)) (k0_t1_ok (loW ix) (hiW ix) hw) ⟨⟩
            (k0_t1_body (F := F) i M1 h1 M2 h2 M3 h3 M4 h4 (flat ix) (loW ix) (baseW (loW ix)) (hiW ix) hw)
          Scf.Loop.for (k0_t2_loop (loW ix) (hiW ix)) (k0_t2_ok (loW ix) (hiW ix) hw) ⟨⟩
            (k0_t2_body i M1 h1 M2 h2 M3 h3 M4 h4 (flat ix) (loW ix) (baseW (loW ix)) (hiW ix) hw v31 c128 v32 v37 c0)
          pure ⟨⟩) Q := by
  iintro ⟨H1, H3, H4, Hk⟩
  sl_for (inv d M1 M3 M4 x ix g3 g4) $$ [H1 H3 H4]
  case region =>
    intro k _
    unfold inv
    iintro ⟨H1, H3, H4⟩
    iapply (trip d i M1 h1 M2 h2 M3 h3 M4 h4 x ix hw k)
    iframe H1 H3 H4
    iintro ⟨H1, H3, H4⟩
    iframe H1 H3
    iexact H4
  · unfold inv
    iframe H1 H3
    iexact H4
  iintro %_ HI
  have ht : Scf.trips (k0_t1_loop (loW ix) (hiW ix)).lb (k0_t1_loop (loW ix) (hiW ix)).ub (k0_t1_loop (loW ix) (hiW ix)).st = wins ix := trips_eq_nwin (lo_le_hi hr) (hi_lt hr)
  rw [ht]
  unfold inv
  icases HI with ⟨H1, H3, H4⟩
  sl_for (none2) $$ []
  case region =>
    intro k _
    exact (Scf.rem_no_trip _ _ k).elim
  · unfold none2; iempintro
  iintro %_ -
  sl_step
  iapply Hk
  iframe H1 H3
  iexact H4

/-- A first grid point: the tables start at zero. -/
theorem body_first (hr : InR ix) (hi : (i 0).val = 0) (Q : PUnit → sProp 𝕄) :
    iprop(own d M1 x ∗ own d M2 ix
      ∗ (∃ g, own d M3 g) ∗ (∃ g, own d M4 g)
      ∗ (iprop(own d M1 x ∗ own d M2 ix
          ∗ own d M3 (stepRows ix x zeros128)
          ∗ own d M4 (stepCount ix zeros16)) -∗ Q ⟨⟩))
    ⊢ wp frame (wpE (defs₀ (F := F)) 𝒱₀ (d.tc : Thread nD τ) none) Set.univ
        (cc0__tc_segcnt_body i M1 h1 M2 h2 M3 h3 M4 h4) Q := by
  have hc : Scalar.cmpi .ne (Scalar.extui (Scalar.cmpi .eq (BitVec.ofNat 32 (i 0).val) 0#32) : BitVec 32) 0#32 = 1#1 := by
    rw [hi]; decide
  simp only [cc0__tc_segcnt_body_eq_skeleton]; unfold cc0__tc_segcnt_body_skel
  simp only [k0_part1_eq_skeleton]; unfold k0_part1_skel
  unfold own owns
  iintro ⟨⟨%f1, %e1, H1⟩, ⟨%f2, %e2, H2⟩, ⟨%g3, %f3, %e3, H3⟩, ⟨%g4, %f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 M2 h2 M3 h3 M4 h4 x _ hr hchk _ _ _ _ _ rfl zeros128 zeros16)
  isplitl [H1]
  · unfold own owns; iexists f1; isplitr; · ipureintro; exact e1
    iexact H1
  isplitl [H3]
  · unfold own owns; iexists _; isplitr; swap; · iexact H3
    ipureintro; exact View.read_writes_full _ _ _ _ _
  isplitl [H4]
  · unfold own owns; iexists _; isplitr; swap; · iexact H4
    ipureintro; exact View.read_writes_full _ _ _ _ _
  iintro ⟨H1, H3, H4⟩
  unfold own owns
  iapply Hk
  isplitl [H1]; · iexact H1
  isplitl [H2]
  · iexists f2; isplitr; · ipureintro; exact e2
    iexact H2
  isplitl [H3]; · iexact H3
  iexact H4

/-- A later grid point: the tables go on from what they held. -/
theorem body_next (hr : InR ix) (hi : (i 0).val ≠ 0) (g3 : Vec F S10240x128 .f32) (g4 : Vec F S10240x16 .f32) (Q : PUnit → sProp 𝕄) :
    iprop(own d M1 x ∗ own d M2 ix
      ∗ own d M3 g3 ∗ own d M4 g4
      ∗ (iprop(own d M1 x ∗ own d M2 ix
          ∗ own d M3 (stepRows ix x g3)
          ∗ own d M4 (stepCount ix g4)) -∗ Q ⟨⟩))
    ⊢ wp frame (wpE (defs₀ (F := F)) 𝒱₀ (d.tc : Thread nD τ) none) Set.univ
        (cc0__tc_segcnt_body i M1 h1 M2 h2 M3 h3 M4 h4) Q := by
  have hc : ¬ Scalar.cmpi .ne (Scalar.extui (Scalar.cmpi .eq (BitVec.ofNat 32 (i 0).val) 0#32) : BitVec 32) 0#32 = 1#1 := by
    exact not_first (i 0) hi
  simp only [cc0__tc_segcnt_body_eq_skeleton]; unfold cc0__tc_segcnt_body_skel
  simp only [k0_part1_eq_skeleton]; unfold k0_part1_skel
  unfold own owns
  iintro ⟨⟨%f1, %e1, H1⟩, ⟨%f2, %e2, H2⟩, ⟨%f3, %e3, H3⟩, ⟨%f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 M2 h2 M3 h3 M4 h4 x _ hr hchk _ _ _ _ _ rfl g3 g4)
  isplitl [H1]
  · unfold own owns; iexists f1; isplitr; · ipureintro; exact e1
    iexact H1
  isplitl [H3]
  · unfold own owns; iexists f3; isplitr; · ipureintro; exact e3
    iexact H3
  isplitl [H4]
  · unfold own owns; iexists f4; isplitr; · ipureintro; exact e4
    iexact H4
  iintro ⟨H1, H3, H4⟩
  unfold own owns
  iapply Hk
  isplitl [H1]; · iexact H1
  isplitl [H2]
  · iexists f2; isplitr; · ipureintro; exact e2
    iexact H2
  isplitl [H3]; · iexact H3
  iexact H4

end

/-! ## The grid -/

section
variable (n : ℕ) (W : Dev nD → Valuation τ sig (Elt F))

/-- The block of rows of grid point `t`. -/
def xB (c : Dev nD) (t : Fin cfg0.N) : Vec F S1000x128 .f32 :=
  (win0_0.blk t).view.read (Elt F) (W c (Proc.devRef .tc (Pipeline.arrRef spec0 0)))

/-- The block of indices of grid point `t`. -/
def iB (c : Dev nD) (t : Fin cfg0.N) : Vec F S1x1x1000 .i32 :=
  (win0_1.blk t).view.read (Elt F) (W c (Proc.devRef .tc (Pipeline.arrRef spec0 1)))

/-- The table of sums after `m` grid points. -/
def rowsAt (c : Dev nD) (m : ℕ) : Vec F S10240x128 .f32 :=
  runTrips (fun t g => if h : t < cfg0.N then stepRows (iB W c ⟨t, h⟩) (xB W c ⟨t, h⟩) g else g) m zeros128

/-- The table of counts after `m` grid points. -/
def countAt (c : Dev nD) (m : ℕ) : Vec F S10240x16 .f32 :=
  runTrips (fun t g => if h : t < cfg0.N then stepCount (iB W c ⟨t, h⟩) g else g) m zeros16

theorem rowsAt_succ (c : Dev nD) (t : Fin cfg0.N) : rowsAt W c (t.val + 1) = stepRows (iB W c t) (xB W c t) (rowsAt W c t.val) := by
  unfold rowsAt; rw [runTrips_succ, dif_pos t.isLt]
theorem countAt_succ (c : Dev nD) (t : Fin cfg0.N) : countAt W c (t.val + 1) = stepCount (iB W c t) (countAt W c t.val) := by
  unfold countAt; rw [runTrips_succ, dif_pos t.isLt]

/-- What the body leaves in the staging buffers. -/
def aft (c : Dev nD) : (w : Fin (cfgs 0).W) → Fin (cfgs 0).N → ((cfgs 0).win w).block.Idx → Elt F ((cfgs 0).win w).elt
  | 0 => fun t => xB W c t
  | 1 => fun t => iB W c t
  | 2 => fun t => rowsAt W c (t.val + 1)
  | 3 => fun t => countAt W c (t.val + 1)
  | ⟨_ + 4, h⟩ => absurd h (Nat.not_lt.2 (Nat.le_add_left _ _))

theorem before0 (c : Dev nD) (t : Fin cfg0.N) (dd) : (mkDat 0 n W (aft W) c).before 0 t dd = xB W c t := by
  unfold Dat.before; exact (if_pos (fetch0_0 t)).trans rfl
theorem before1 (c : Dev nD) (t : Fin cfg0.N) (dd) : (mkDat 0 n W (aft W) c).before 1 t dd = iB W c t := by
  unfold Dat.before; exact (if_pos (fetch0_1 t)).trans rfl

theorem not_last (t : Fin cfg0.N) (ht : t.val ≠ 0) : ¬ (t.val - 1) % 320 = 319 := by
  have : t.val < 320 := t.isLt
  omega

theorem before2 (c : Dev nD) (t : Fin cfg0.N) (ht : t.val ≠ 0) (dd) : (mkDat 0 n W (aft W) c).before 2 t dd = rowsAt W c t.val := by
  refine (Dat.before_out_acc (mkDat 0 n W (aft W) c) 2 rfl t ht (Bool.eq_false_iff.mpr fun h => not_last t ht ((flush0_2 _).mp h)) (fun _ => rfl) dd).trans ?_
  have e : t.val - 1 + 1 = t.val := by omega
  show rowsAt W c (t.val - 1 + 1) = _
  rw [e]
theorem before3 (c : Dev nD) (t : Fin cfg0.N) (ht : t.val ≠ 0) (dd) : (mkDat 0 n W (aft W) c).before 3 t dd = countAt W c t.val := by
  refine (Dat.before_out_acc (mkDat 0 n W (aft W) c) 3 rfl t ht (Bool.eq_false_iff.mpr fun h => not_last t ht ((flush0_3 _).mp h)) (fun _ => rfl) dd).trans ?_
  have e : t.val - 1 + 1 = t.val := by omega
  show countAt W c (t.val - 1 + 1) = _
  rw [e]

theorem coord (t : Fin cfg0.N) : (grid0.coords t 0).val = t.val := by
  have := (by decide +kernel : ∀ t : Fin grid0.N, (grid0.coords t 0).val = t.val)
  exact this t

/-- One grid point, the rest of the core's state carried along. -/
theorem point (c : Dev nD) (t : Fin cfg0.N) (hr : InR (iB W c t)) (R S : sProp 𝕄) :
    iprop(R ∗ S ∗ (∃ dd, own c (st0_0 t) ((mkDat 0 n W (aft W) c).before 0 t dd))
      ∗ (∃ dd, own c (st0_1 t) ((mkDat 0 n W (aft W) c).before 1 t dd))
      ∗ (∃ dd, own c (st0_2 t) ((mkDat 0 n W (aft W) c).before 2 t dd))
      ∗ (∃ dd, own c (st0_3 t) ((mkDat 0 n W (aft W) c).before 3 t dd)))
    ⊢ wp frame (wpE (defs₀ (F := F)) 𝒱₀ (c.tc : Thread nD τ) none) Set.univ (bodyAt0 t) fun _ =>
      iprop(R ∗ S ∗ own c (st0_0 t) (xB W c t) ∗ own c (st0_1 t) (iB W c t)
        ∗ own c (st0_2 t) (rowsAt W c (t.val + 1)) ∗ own c (st0_3 t) (countAt W c (t.val + 1))) := by
  simp only [before0, before1]
  by_cases ht : t.val = 0
  · iintro ⟨HΦ, Ho, ⟨%d0, H0⟩, ⟨%d1, H1⟩, ⟨%d2, H2⟩, ⟨%d3, H3⟩⟩
    iapply (body_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
      (xB W c t) (iB W c t) hr ((coord t).trans ht))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    have e2 : stepRows (iB W c t) (xB W c t) zeros128 = rowsAt W c (t.val + 1) := by rw [rowsAt_succ, ht]; rfl
    have e3 : stepCount (iB W c t) zeros16 = countAt W c (t.val + 1) := by rw [countAt_succ, ht]; rfl
    rw [e2, e3]
    isplitl [H2]; · iexact H2
    iexact H3
  · simp only [before2 n W c t ht, before3 n W c t ht]
    iintro ⟨HΦ, Ho, ⟨%d0, H0⟩, ⟨%d1, H1⟩, ⟨%d2, H2⟩, ⟨%d3, H3⟩⟩
    iapply (body_next c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
      (xB W c t) (iB W c t) hr (fun h => ht ((coord t).symm.trans h)) (rowsAt W c t.val) (countAt W c t.val))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    rw [← rowsAt_succ, ← countAt_succ]
    isplitl [H2]; · iexact H2
    iexact H3

theorem obligation (c : Dev nD) (hr : ∀ t, InR (iB W c t)) :
    BodyObligationLoose (mkDat 0 n W (aft W) c) (defs₀ (F := F)) 𝒱₀ (none : HIx 1) Set.univ := by
  refine (show BodyObligation (mkDat 0 n W (aft W) c) (defs₀ (F := F)) 𝒱₀ (none : HIx 1) Set.univ from fun t => ?_).loose
  rw [show (mkDat 0 n W (aft W) c).Φ t.succ = (mkDat 0 n W (aft W) c).Φ t.castSucc from rfl,
    show (mkDat 0 n W (aft W) c).owesAt (none : HIx 1) t.succ = (mkDat 0 n W (aft W) c).owesAt (none : HIx 1) t.castSucc from rfl]
  rw [bigSep_W0, bigSep_W0]
  exact point n W c t (hr t) _ _

end

end C0

end Cert.Proof.KernelIdeal
-- ==== Proof.IdealSeg1.lean ====
/-
  The body of the second sorted segment sum (rows of `h_B` and their counts), run at any staging buffers: one grid point
  takes the two tables from what they held to what the plain functions say.
-/
module

public import proofs.«01_k».proof.Proof.IdealSeg
public import proofs.«01_k».proof.Proof.Gen.KernelIdeal.Points
public import Idealize.ShloMosaic.Lib.Pipeline.FrameBody

@[expose] public section

noncomputable section

namespace Cert.Proof.KernelIdeal

open Cert.KernelIdeal Cert.KernelIdeal.Gen Cert.Proof.Seg
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C1

theorem not_first (n : Fin 320) (h : n.val ≠ 0) :
    ¬ Scalar.cmpi .ne (Scalar.extui (Scalar.cmpi .eq (BitVec.ofNat 32 n.val) 0#32) : BitVec 32) 0#32 = 1#1 := by
  have := (by decide +kernel : ∀ n : Fin 320, n.val ≠ 0 → ¬ Scalar.cmpi .ne (Scalar.extui (Scalar.cmpi .eq (BitVec.ofNat 32 n.val) 0#32) : BitVec 32) 0#32 = 1#1)
  exact this n h

theorem chk {lo hi : BitVec 32} (hlo : lo.toNat ≤ hi.toNat) (hhi : hi.toNat < 10000) : k1_chk1 lo hi := by
  have h1 : ∀ k : Fin (k1_t1_loop lo hi).trips, (rowW lo k.val).toNat + 128 ≤ 10240 := fun k =>
    row_le hlo hhi (lt_of_lt_of_eq k.isLt (trips_eq_nwin hlo hhi))
  have no : ∀ k : Fin (k1_t2_loop lo hi).trips, False := fun k => Scf.rem_no_trip _ _ k
  refine ⟨loop_ok hlo hhi, fun k a => ?_, fun k a => ?_, Scf.rem_ok _ _, fun k => (no k).elim, fun k => (no k).elim⟩
  · match a with
    | 0 => exact h1 k
    | 1 => show 0 + 128 ≤ 128; omega
  · match a with
    | 0 => exact h1 k
    | 1 => show 0 + 16 ≤ 16; omega

section
variable (d : Dev nD) (i : grid1.Coords)
  (M1 : Memref sig .tc .vmem S1000x128 .f32) (h1 : M1.IsWhole) (M2 : Memref sig .tc .vmem S1x1x1000 .i32) (h2 : M2.IsWhole)
  (M3 : Memref sig .tc .vmem S10240x128 .f32) (h3 : M3.IsWhole) (M4 : Memref sig .tc .vmem S10240x16 .f32) (h4 : M4.IsWhole)
  (x : Vec F S1000x128 .f32) (ix : Vec F S1x1x1000 .i32)

/-- One trip of the loop over the windows. -/
theorem trip (hw : k1_chk1 (loW ix) (hiW ix)) (k : Fin (k1_t1_loop (loW ix) (hiW ix)).trips)
    (g3 : Vec F S10240x128 .f32) (g4 : Vec F S10240x16 .f32) (Q : Unit → sProp 𝕄) :
    iprop(own d M1 x ∗ own d M3 g3 ∗ own d M4 g4
      ∗ (iprop(own d M1 x ∗ own d M3 (tripRows ix x k g3)
          ∗ own d M4 (tripCount ix k g4)) -∗ Q ⟨⟩))
    ⊢ wp frame (wpE (defs₀ (F := F)) 𝒱₀ (d.tc : Thread nD τ) none) Set.univ
        (k1_t1_body i M1 h1 M2 h2 M3 h3 M4 h4 (flat ix) (loW ix) (baseW (loW ix)) (hiW ix) hw k ⟨⟩) Q := by
  unfold k1_t1_body own owns
  iintro ⟨⟨%f1, %e1, H1⟩, ⟨%f3, %e3, H3⟩, ⟨%f4, %e4, H4⟩, Hk⟩
  sl_exec
  sl_step
  iapply Hk
  isplitl [H1]
  · iexists f1; isplitr; · ipureintro; exact e1
    iexact H1
  isplitl [H3]
  · iexists _; isplitr; swap; · iexact H3
    ipureintro
    refine (View.read_writes_cons_put M3.view f3 (off' := ![(rowW (loW ix) k).toNat, 0]) _ _ [] rfl).trans ?_
    rw [View.writes_nil, e3]
    refine congrArg (VecWindow.put g3 _ _) ?_
    exact congr (congrArg (addRows (flat ix) (rowW (loW ix) k)) ((View.readAt_full M1.view f1 _).trans e1))
      ((View.readAt_unit M3.view f3 _ rfl (hw.2.1 k)).trans (by rw [e3]; exact window128 g3 _ _))
  iexists _; isplitr; swap; · iexact H4
  ipureintro
  refine (View.read_writes_cons_put M4.view f4 (off' := ![(rowW (loW ix) k).toNat, 0]) _ _ [] rfl).trans ?_
  rw [View.writes_nil, e4]
  refine congrArg (VecWindow.put g4 _ _) ?_
  exact congrArg (addCount (flat ix) (rowW (loW ix) k))
    ((View.readAt_unit M4.view f4 _ rfl (hw.2.2.1 k)).trans (by rw [e4]; exact window16 g4 _ _))

/-- What the loop has made of the tables before trip `k`. -/
def inv (g3 : Vec F S10240x128 .f32) (g4 : Vec F S10240x16 .f32) (k : ℕ) (_ : Unit) : sProp 𝕄 :=
  iprop(own d M1 x ∗ own d M3 (runTrips (tripRows ix x) k g3)
    ∗ own d M4 (runTrips (tripCount ix) k g4))

def none2 (_ : ℕ) (_ : Unit) : sProp 𝕄 := iprop(emp)

/-- The two loops, from what the first part returned. -/
theorem loops (hr : InR ix) (hw : k1_chk1 (loW ix) (hiW ix)) (v31 c128 v32 v37 c0 : BitVec 32)
    (hv : v31 = Scalar.subi (hiW ix) (baseW (loW ix)))
    (g3 : Vec F S10240x128 .f32) (g4 : Vec F S10240x16 .f32) (Q : PUnit → sProp 𝕄) :
    iprop(own d M1 x ∗ own d M3 g3 ∗ own d M4 g4
      ∗ (iprop(own d M1 x ∗ own d M3 (stepRows ix x g3)
          ∗ own d M4 (stepCount ix g4)) -∗ Q ⟨⟩))
    ⊢ wp frame (wpE (defs₀ (F := F)) 𝒱₀ (d.tc : Thread nD τ) none) Set.univ
        (do
          Scf.Loop.for (k1_t1_loop (loW ix) (hiW ix)) (k1_t1_ok (loW ix) (hiW ix) hw) ⟨⟩
            (k1_t1_body (F := F) i M1 h1 M2 h2 M3 h3 M4 h4 (flat ix) (loW ix) (baseW (loW ix)) (hiW ix) hw)
          Scf.Loop.for (k1_t2_loop (loW ix) (hiW ix)) (k1_t2_ok (loW ix) (hiW ix) hw) ⟨⟩
            (k1_t2_body i M1 h1 M2 h2 M3 h3 M4 h4 (flat ix) (loW ix) (baseW (loW ix)) (hiW ix) hw v31 c128 v32 v37 c0)
          pure ⟨⟩) Q := by
  iintro ⟨H1, H3, H4, Hk⟩
  sl_for (inv d M1 M3 M4 x ix g3 g4) $$ [H1 H3 H4]
  case region =>
    intro k _
    unfold inv
    iintro ⟨H1, H3, H4⟩
    iapply (trip d i M1 h1 M2 h2 M3 h3 M4 h4 x ix hw k)
    iframe H1 H3 H4
    iintro ⟨H1, H3, H4⟩
    iframe H1 H3
    iexact H4
  · unfold inv
    iframe H1 H3
    iexact H4
  iintro %_ HI
  have ht : Scf.trips (k1_t1_loop (loW ix) (hiW ix)).lb (k1_t1_loop (loW ix) (hiW ix)).ub (k1_t1_loop (loW ix) (hiW ix)).st = wins ix := trips_eq_nwin (lo_le_hi hr) (hi_lt hr)
  rw [ht]
  unfold inv
  icases HI with ⟨H1, H3, H4⟩
  sl_for (none2) $$ []
  case region =>
    intro k _
    exact (Scf.rem_no_trip _ _ k).elim
  · unfold none2; iempintro
  iintro %_ -
  sl_step
  iapply Hk
  iframe H1 H3
  iexact H4

/-- A first grid point: the tables start at zero. -/
theorem body_first (hr : InR ix) (hi : (i 0).val = 0) (Q : PUnit → sProp 𝕄) :
    iprop(own d M1 x ∗ own d M2 ix
      ∗ (∃ g, own d M3 g) ∗ (∃ g, own d M4 g)
      ∗ (iprop(own d M1 x ∗ own d M2 ix
          ∗ own d M3 (stepRows ix x zeros128)
          ∗ own d M4 (stepCount ix zeros16)) -∗ Q ⟨⟩))
    ⊢ wp frame (wpE (defs₀ (F := F)) 𝒱₀ (d.tc : Thread nD τ) none) Set.univ
        (cc1__tc_segcnt_body i M1 h1 M2 h2 M3 h3 M4 h4) Q := by
  have hc : Scalar.cmpi .ne (Scalar.extui (Scalar.cmpi .eq (BitVec.ofNat 32 (i 0).val) 0#32) : BitVec 32) 0#32 = 1#1 := by
    rw [hi]; decide
  simp only [cc1__tc_segcnt_body_eq_skeleton]; unfold cc1__tc_segcnt_body_skel
  simp only [k1_part1_eq_skeleton]; unfold k1_part1_skel
  unfold own owns
  iintro ⟨⟨%f1, %e1, H1⟩, ⟨%f2, %e2, H2⟩, ⟨%g3, %f3, %e3, H3⟩, ⟨%g4, %f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 M2 h2 M3 h3 M4 h4 x _ hr hchk _ _ _ _ _ rfl zeros128 zeros16)
  isplitl [H1]
  · unfold own owns; iexists f1; isplitr; · ipureintro; exact e1
    iexact H1
  isplitl [H3]
  · unfold own owns; iexists _; isplitr; swap; · iexact H3
    ipureintro; exact View.read_writes_full _ _ _ _ _
  isplitl [H4]
  · unfold own owns; iexists _; isplitr; swap; · iexact H4
    ipureintro; exact View.read_writes_full _ _ _ _ _
  iintro ⟨H1, H3, H4⟩
  unfold own owns
  iapply Hk
  isplitl [H1]; · iexact H1
  isplitl [H2]
  · iexists f2; isplitr; · ipureintro; exact e2
    iexact H2
  isplitl [H3]; · iexact H3
  iexact H4

/-- A later grid point: the tables go on from what they held. -/
theorem body_next (hr : InR ix) (hi : (i 0).val ≠ 0) (g3 : Vec F S10240x128 .f32) (g4 : Vec F S10240x16 .f32) (Q : PUnit → sProp 𝕄) :
    iprop(own d M1 x ∗ own d M2 ix
      ∗ own d M3 g3 ∗ own d M4 g4
      ∗ (iprop(own d M1 x ∗ own d M2 ix
          ∗ own d M3 (stepRows ix x g3)
          ∗ own d M4 (stepCount ix g4)) -∗ Q ⟨⟩))
    ⊢ wp frame (wpE (defs₀ (F := F)) 𝒱₀ (d.tc : Thread nD τ) none) Set.univ
        (cc1__tc_segcnt_body i M1 h1 M2 h2 M3 h3 M4 h4) Q := by
  have hc : ¬ Scalar.cmpi .ne (Scalar.extui (Scalar.cmpi .eq (BitVec.ofNat 32 (i 0).val) 0#32) : BitVec 32) 0#32 = 1#1 := by
    exact not_first (i 0) hi
  simp only [cc1__tc_segcnt_body_eq_skeleton]; unfold cc1__tc_segcnt_body_skel
  simp only [k1_part1_eq_skeleton]; unfold k1_part1_skel
  unfold own owns
  iintro ⟨⟨%f1, %e1, H1⟩, ⟨%f2, %e2, H2⟩, ⟨%f3, %e3, H3⟩, ⟨%f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 M2 h2 M3 h3 M4 h4 x _ hr hchk _ _ _ _ _ rfl g3 g4)
  isplitl [H1]
  · unfold own owns; iexists f1; isplitr; · ipureintro; exact e1
    iexact H1
  isplitl [H3]
  · unfold own owns; iexists f3; isplitr; · ipureintro; exact e3
    iexact H3
  isplitl [H4]
  · unfold own owns; iexists f4; isplitr; · ipureintro; exact e4
    iexact H4
  iintro ⟨H1, H3, H4⟩
  unfold own owns
  iapply Hk
  isplitl [H1]; · iexact H1
  isplitl [H2]
  · iexists f2; isplitr; · ipureintro; exact e2
    iexact H2
  isplitl [H3]; · iexact H3
  iexact H4

end

/-! ## The grid -/

section
variable (n : ℕ) (W : Dev nD → Valuation τ sig (Elt F))

/-- The block of rows of grid point `t`. -/
def xB (c : Dev nD) (t : Fin cfg1.N) : Vec F S1000x128 .f32 :=
  (win1_0.blk t).view.read (Elt F) (W c (Proc.devRef .tc (Pipeline.arrRef spec1 0)))

/-- The block of indices of grid point `t`. -/
def iB (c : Dev nD) (t : Fin cfg1.N) : Vec F S1x1x1000 .i32 :=
  (win1_1.blk t).view.read (Elt F) (W c (Proc.devRef .tc (Pipeline.arrRef spec1 1)))

/-- The table of sums after `m` grid points. -/
def rowsAt (c : Dev nD) (m : ℕ) : Vec F S10240x128 .f32 :=
  runTrips (fun t g => if h : t < cfg1.N then stepRows (iB W c ⟨t, h⟩) (xB W c ⟨t, h⟩) g else g) m zeros128

/-- The table of counts after `m` grid points. -/
def countAt (c : Dev nD) (m : ℕ) : Vec F S10240x16 .f32 :=
  runTrips (fun t g => if h : t < cfg1.N then stepCount (iB W c ⟨t, h⟩) g else g) m zeros16

theorem rowsAt_succ (c : Dev nD) (t : Fin cfg1.N) : rowsAt W c (t.val + 1) = stepRows (iB W c t) (xB W c t) (rowsAt W c t.val) := by
  unfold rowsAt; rw [runTrips_succ, dif_pos t.isLt]
theorem countAt_succ (c : Dev nD) (t : Fin cfg1.N) : countAt W c (t.val + 1) = stepCount (iB W c t) (countAt W c t.val) := by
  unfold countAt; rw [runTrips_succ, dif_pos t.isLt]

/-- What the body leaves in the staging buffers. -/
def aft (c : Dev nD) : (w : Fin (cfgs 1).W) → Fin (cfgs 1).N → ((cfgs 1).win w).block.Idx → Elt F ((cfgs 1).win w).elt
  | 0 => fun t => xB W c t
  | 1 => fun t => iB W c t
  | 2 => fun t => rowsAt W c (t.val + 1)
  | 3 => fun t => countAt W c (t.val + 1)
  | ⟨_ + 4, h⟩ => absurd h (Nat.not_lt.2 (Nat.le_add_left _ _))

theorem before0 (c : Dev nD) (t : Fin cfg1.N) (dd) : (mkDat 1 n W (aft W) c).before 0 t dd = xB W c t := by
  unfold Dat.before; exact (if_pos (fetch1_0 t)).trans rfl
theorem before1 (c : Dev nD) (t : Fin cfg1.N) (dd) : (mkDat 1 n W (aft W) c).before 1 t dd = iB W c t := by
  unfold Dat.before; exact (if_pos (fetch1_1 t)).trans rfl

theorem not_last (t : Fin cfg1.N) (ht : t.val ≠ 0) : ¬ (t.val - 1) % 320 = 319 := by
  have : t.val < 320 := t.isLt
  omega

theorem before2 (c : Dev nD) (t : Fin cfg1.N) (ht : t.val ≠ 0) (dd) : (mkDat 1 n W (aft W) c).before 2 t dd = rowsAt W c t.val := by
  refine (Dat.before_out_acc (mkDat 1 n W (aft W) c) 2 rfl t ht (Bool.eq_false_iff.mpr fun h => not_last t ht ((flush1_2 _).mp h)) (fun _ => rfl) dd).trans ?_
  have e : t.val - 1 + 1 = t.val := by omega
  show rowsAt W c (t.val - 1 + 1) = _
  rw [e]
theorem before3 (c : Dev nD) (t : Fin cfg1.N) (ht : t.val ≠ 0) (dd) : (mkDat 1 n W (aft W) c).before 3 t dd = countAt W c t.val := by
  refine (Dat.before_out_acc (mkDat 1 n W (aft W) c) 3 rfl t ht (Bool.eq_false_iff.mpr fun h => not_last t ht ((flush1_3 _).mp h)) (fun _ => rfl) dd).trans ?_
  have e : t.val - 1 + 1 = t.val := by omega
  show countAt W c (t.val - 1 + 1) = _
  rw [e]

theorem coord (t : Fin cfg1.N) : (grid1.coords t 0).val = t.val := by
  have := (by decide +kernel : ∀ t : Fin grid1.N, (grid1.coords t 0).val = t.val)
  exact this t

/-- One grid point, the rest of the core's state carried along. -/
theorem point (c : Dev nD) (t : Fin cfg1.N) (hr : InR (iB W c t)) (R S : sProp 𝕄) :
    iprop(R ∗ S ∗ (∃ dd, own c (st1_0 t) ((mkDat 1 n W (aft W) c).before 0 t dd))
      ∗ (∃ dd, own c (st1_1 t) ((mkDat 1 n W (aft W) c).before 1 t dd))
      ∗ (∃ dd, own c (st1_2 t) ((mkDat 1 n W (aft W) c).before 2 t dd))
      ∗ (∃ dd, own c (st1_3 t) ((mkDat 1 n W (aft W) c).before 3 t dd)))
    ⊢ wp frame (wpE (defs₀ (F := F)) 𝒱₀ (c.tc : Thread nD τ) none) Set.univ (bodyAt1 t) fun _ =>
      iprop(R ∗ S ∗ own c (st1_0 t) (xB W c t) ∗ own c (st1_1 t) (iB W c t)
        ∗ own c (st1_2 t) (rowsAt W c (t.val + 1)) ∗ own c (st1_3 t) (countAt W c (t.val + 1))) := by
  simp only [before0, before1]
  by_cases ht : t.val = 0
  · iintro ⟨HΦ, Ho, ⟨%d0, H0⟩, ⟨%d1, H1⟩, ⟨%d2, H2⟩, ⟨%d3, H3⟩⟩
    iapply (body_first c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3))
      (xB W c t) (iB W c t) hr ((coord t).trans ht))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    have e2 : stepRows (iB W c t) (xB W c t) zeros128 = rowsAt W c (t.val + 1) := by rw [rowsAt_succ, ht]; rfl
    have e3 : stepCount (iB W c t) zeros16 = countAt W c (t.val + 1) := by rw [countAt_succ, ht]; rfl
    rw [e2, e3]
    isplitl [H2]; · iexact H2
    iexact H3
  · simp only [before2 n W c t ht, before3 n W c t ht]
    iintro ⟨HΦ, Ho, ⟨%d0, H0⟩, ⟨%d1, H1⟩, ⟨%d2, H2⟩, ⟨%d3, H3⟩⟩
    iapply (body_next c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3))
      (xB W c t) (iB W c t) hr (fun h => ht ((coord t).symm.trans h)) (rowsAt W c t.val) (countAt W c t.val))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    rw [← rowsAt_succ, ← countAt_succ]
    isplitl [H2]; · iexact H2
    iexact H3

theorem obligation (c : Dev nD) (hr : ∀ t, InR (iB W c t)) :
    BodyObligationLoose (mkDat 1 n W (aft W) c) (defs₀ (F := F)) 𝒱₀ (none : HIx 1) Set.univ := by
  refine (show BodyObligation (mkDat 1 n W (aft W) c) (defs₀ (F := F)) 𝒱₀ (none : HIx 1) Set.univ from fun t => ?_).loose
  rw [show (mkDat 1 n W (aft W) c).Φ t.succ = (mkDat 1 n W (aft W) c).Φ t.castSucc from rfl,
    show (mkDat 1 n W (aft W) c).owesAt (none : HIx 1) t.succ = (mkDat 1 n W (aft W) c).owesAt (none : HIx 1) t.castSucc from rfl]
  rw [bigSep_W1, bigSep_W1]
  exact point n W c t (hr t) _ _

end

end C1

end Cert.Proof.KernelIdeal
-- ==== Proof.IdealSeg7.lean ====
/-
  The body of the sorted segment sum of the rows of `h_A` weighted by the scores, and of the scores, run at any staging buffers: one grid point
  takes the two tables from what they held to what the plain functions say.
-/
module

public import proofs.«01_k».proof.Proof.IdealSeg
public import proofs.«01_k».proof.Proof.Gen.KernelIdeal.Points
public import Idealize.ShloMosaic.Lib.Pipeline.FrameBody

@[expose] public section

noncomputable section

namespace Cert.Proof.KernelIdeal

open Cert.KernelIdeal Cert.KernelIdeal.Gen Cert.Proof.Seg
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C7

theorem not_first (n : Fin 320) (h : n.val ≠ 0) :
    ¬ Scalar.cmpi .ne (Scalar.extui (Scalar.cmpi .eq (BitVec.ofNat 32 n.val) 0#32) : BitVec 32) 0#32 = 1#1 := by
  have := (by decide +kernel : ∀ n : Fin 320, n.val ≠ 0 → ¬ Scalar.cmpi .ne (Scalar.extui (Scalar.cmpi .eq (BitVec.ofNat 32 n.val) 0#32) : BitVec 32) 0#32 = 1#1)
  exact this n h

theorem chk {lo hi : BitVec 32} (hlo : lo.toNat ≤ hi.toNat) (hhi : hi.toNat < 10000) : k7_chk1 lo hi := by
  have h1 : ∀ k : Fin (k7_t1_loop lo hi).trips, (rowW lo k.val).toNat + 128 ≤ 10240 := fun k =>
    row_le hlo hhi (lt_of_lt_of_eq k.isLt (trips_eq_nwin hlo hhi))
  have no : ∀ k : Fin (k7_t2_loop lo hi).trips, False := fun k => Scf.rem_no_trip _ _ k
  refine ⟨loop_ok hlo hhi, fun k a => ?_, fun k a => ?_, Scf.rem_ok _ _, fun k => (no k).elim, fun k => (no k).elim⟩
  · match a with
    | 0 => exact h1 k
    | 1 => show 0 + 128 ≤ 128; omega
  · match a with
    | 0 => exact h1 k
    | 1 => show 0 + 16 ≤ 16; omega

section
variable (d : Dev nD) (i : grid7.Coords)
  (M1 : Memref sig .tc .vmem S1000x128 .f32) (h1 : M1.IsWhole) (Mp : Memref sig .tc .vmem S1000x16 .f32) (hp : Mp.IsWhole) (M2 : Memref sig .tc .vmem S1x1x1000 .i32) (h2 : M2.IsWhole)
  (M3 : Memref sig .tc .vmem S10240x128 .f32) (h3 : M3.IsWhole) (M4 : Memref sig .tc .vmem S10240x16 .f32) (h4 : M4.IsWhole)
  (x : Vec F S1000x128 .f32) (p : Vec F S1000x16 .f32) (ix : Vec F S1x1x1000 .i32)

/-- One trip of the loop over the windows. -/
theorem trip (hw : k7_chk1 (loW ix) (hiW ix)) (k : Fin (k7_t1_loop (loW ix) (hiW ix)).trips)
    (g3 : Vec F S10240x128 .f32) (g4 : Vec F S10240x16 .f32) (Q : Unit → sProp 𝕄) :
    iprop(own d M1 x ∗ own d Mp p ∗ own d M3 g3 ∗ own d M4 g4
      ∗ (iprop(own d M1 x ∗ own d Mp p ∗ own d M3 (tripRows ix x k g3)
          ∗ own d M4 (tripPay ix p k g4)) -∗ Q ⟨⟩))
    ⊢ wp frame (wpE (defs₀ (F := F)) 𝒱₀ (d.tc : Thread nD τ) none) Set.univ
        (k7_t1_body i M1 h1 Mp hp M2 h2 M3 h3 M4 h4 (flat ix) (loW ix) (baseW (loW ix)) (hiW ix) hw k ⟨⟩) Q := by
  unfold k7_t1_body own owns
  iintro ⟨⟨%f1, %e1, H1⟩, ⟨%fp, %ep, Hp⟩, ⟨%f3, %e3, H3⟩, ⟨%f4, %e4, H4⟩, Hk⟩
  sl_exec
  sl_step
  iapply Hk
  isplitl [H1]
  · iexists f1; isplitr; · ipureintro; exact e1
    iexact H1
  isplitl [Hp]
  · iexists fp; isplitr; · ipureintro; exact ep
    iexact Hp
  isplitl [H3]
  · iexists _; isplitr; swap; · iexact H3
    ipureintro
    refine (View.read_writes_cons_put M3.view f3 (off' := ![(rowW (loW ix) k).toNat, 0]) _ _ [] rfl).trans ?_
    rw [View.writes_nil, e3]
    refine congrArg (VecWindow.put g3 _ _) ?_
    exact congr (congrArg (addRows (flat ix) (rowW (loW ix) k)) ((congrArg (fun z => shapeCast S1000x128 z shapeCasts_S1000x128_S1000x128) ((View.readAt_full M1.view f1 _).trans e1)).trans (cast_same _ _)))
      ((View.readAt_unit M3.view f3 _ rfl (hw.2.1 k)).trans (by rw [e3]; exact window128 g3 _ _))
  iexists _; isplitr; swap; · iexact H4
  ipureintro
  refine (View.read_writes_cons_put M4.view f4 (off' := ![(rowW (loW ix) k).toNat, 0]) _ _ [] rfl).trans ?_
  rw [View.writes_nil, e4]
  refine congrArg (VecWindow.put g4 _ _) ?_
  exact congr (congrArg (addPay (flat ix) (rowW (loW ix) k)) ((congrArg (fun z => shapeCast S1000x16 z shapeCasts_S1000x16_S1000x16) ((View.readAt_full Mp.view fp _).trans ep)).trans (cast_same _ _)))
    ((View.readAt_unit M4.view f4 _ rfl (hw.2.2.1 k)).trans (by rw [e4]; exact window16 g4 _ _))

/-- What the loop has made of the tables before trip `k`. -/
def inv (g3 : Vec F S10240x128 .f32) (g4 : Vec F S10240x16 .f32) (k : ℕ) (_ : Unit) : sProp 𝕄 :=
  iprop(own d M1 x ∗ own d Mp p ∗ own d M3 (runTrips (tripRows ix x) k g3)
    ∗ own d M4 (runTrips (tripPay ix p) k g4))

def none2 (_ : ℕ) (_ : Unit) : sProp 𝕄 := iprop(emp)

/-- The two loops, from what the first part returned. -/
theorem loops (hr : InR ix) (hw : k7_chk1 (loW ix) (hiW ix)) (v31 c128 v32 v37 c0 : BitVec 32)
    (hv : v31 = Scalar.subi (hiW ix) (baseW (loW ix)))
    (g3 : Vec F S10240x128 .f32) (g4 : Vec F S10240x16 .f32) (Q : PUnit → sProp 𝕄) :
    iprop(own d M1 x ∗ own d Mp p ∗ own d M3 g3 ∗ own d M4 g4
      ∗ (iprop(own d M1 x ∗ own d Mp p ∗ own d M3 (stepRows ix x g3)
          ∗ own d M4 (stepPay ix p g4)) -∗ Q ⟨⟩))
    ⊢ wp frame (wpE (defs₀ (F := F)) 𝒱₀ (d.tc : Thread nD τ) none) Set.univ
        (do
          Scf.Loop.for (k7_t1_loop (loW ix) (hiW ix)) (k7_t1_ok (loW ix) (hiW ix) hw) ⟨⟩
            (k7_t1_body (F := F) i M1 h1 Mp hp M2 h2 M3 h3 M4 h4 (flat ix) (loW ix) (baseW (loW ix)) (hiW ix) hw)
          Scf.Loop.for (k7_t2_loop (loW ix) (hiW ix)) (k7_t2_ok (loW ix) (hiW ix) hw) ⟨⟩
            (k7_t2_body i M1 h1 Mp hp M2 h2 M3 h3 M4 h4 (flat ix) (loW ix) (baseW (loW ix)) (hiW ix) hw v31 c128 v32 v37 c0)
          pure ⟨⟩) Q := by
  iintro ⟨H1, Hp, H3, H4, Hk⟩
  sl_for (inv d M1 Mp M3 M4 x p ix g3 g4) $$ [H1 Hp H3 H4]
  case region =>
    intro k _
    unfold inv
    iintro ⟨H1, Hp, H3, H4⟩
    iapply (trip d i M1 h1 Mp hp M2 h2 M3 h3 M4 h4 x p ix hw k)
    iframe H1 Hp H3 H4
    iintro ⟨H1, Hp, H3, H4⟩
    iframe H1 Hp H3
    iexact H4
  · unfold inv
    iframe H1 Hp H3
    iexact H4
  iintro %_ HI
  have ht : Scf.trips (k7_t1_loop (loW ix) (hiW ix)).lb (k7_t1_loop (loW ix) (hiW ix)).ub (k7_t1_loop (loW ix) (hiW ix)).st = wins ix := trips_eq_nwin (lo_le_hi hr) (hi_lt hr)
  rw [ht]
  unfold inv
  icases HI with ⟨H1, Hp, H3, H4⟩
  sl_for (none2) $$ []
  case region =>
    intro k _
    exact (Scf.rem_no_trip _ _ k).elim
  · unfold none2; iempintro
  iintro %_ -
  sl_step
  iapply Hk
  iframe H1 Hp H3
  iexact H4

/-- A first grid point: the tables start at zero. -/
theorem body_first (hr : InR ix) (hi : (i 0).val = 0) (Q : PUnit → sProp 𝕄) :
    iprop(own d M1 x ∗ own d Mp p ∗ own d M2 ix
      ∗ (∃ g, own d M3 g) ∗ (∃ g, own d M4 g)
      ∗ (iprop(own d M1 x ∗ own d Mp p ∗ own d M2 ix
          ∗ own d M3 (stepRows ix x zeros128)
          ∗ own d M4 (stepPay ix p zeros16)) -∗ Q ⟨⟩))
    ⊢ wp frame (wpE (defs₀ (F := F)) 𝒱₀ (d.tc : Thread nD τ) none) Set.univ
        (cc7__tc_segpay_body i M1 h1 Mp hp M2 h2 M3 h3 M4 h4) Q := by
  have hc : Scalar.cmpi .ne (Scalar.extui (Scalar.cmpi .eq (BitVec.ofNat 32 (i 0).val) 0#32) : BitVec 32) 0#32 = 1#1 := by
    rw [hi]; decide
  simp only [cc7__tc_segpay_body_eq_skeleton]; unfold cc7__tc_segpay_body_skel
  simp only [k7_part1_eq_skeleton]; unfold k7_part1_skel
  unfold own owns
  iintro ⟨⟨%f1, %e1, H1⟩, ⟨%fp, %ep, Hp⟩, ⟨%f2, %e2, H2⟩, ⟨%g3, %f3, %e3, H3⟩, ⟨%g4, %f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 Mp hp M2 h2 M3 h3 M4 h4 x p _ hr hchk _ _ _ _ _ rfl zeros128 zeros16)
  isplitl [H1]
  · unfold own owns; iexists f1; isplitr; · ipureintro; exact e1
    iexact H1
  isplitl [Hp]
  · unfold own owns; iexists fp; isplitr; · ipureintro; exact ep
    iexact Hp
  isplitl [H3]
  · unfold own owns; iexists _; isplitr; swap; · iexact H3
    ipureintro; exact View.read_writes_full _ _ _ _ _
  isplitl [H4]
  · unfold own owns; iexists _; isplitr; swap; · iexact H4
    ipureintro; exact View.read_writes_full _ _ _ _ _
  iintro ⟨H1, Hp, H3, H4⟩
  unfold own owns
  iapply Hk
  iframe H1 Hp
  isplitl [H2]
  · iexists f2; isplitr; · ipureintro; exact e2
    iexact H2
  isplitl [H3]; · iexact H3
  iexact H4

/-- A later grid point: the tables go on from what they held. -/
theorem body_next (hr : InR ix) (hi : (i 0).val ≠ 0) (g3 : Vec F S10240x128 .f32) (g4 : Vec F S10240x16 .f32) (Q : PUnit → sProp 𝕄) :
    iprop(own d M1 x ∗ own d Mp p ∗ own d M2 ix
      ∗ own d M3 g3 ∗ own d M4 g4
      ∗ (iprop(own d M1 x ∗ own d Mp p ∗ own d M2 ix
          ∗ own d M3 (stepRows ix x g3)
          ∗ own d M4 (stepPay ix p g4)) -∗ Q ⟨⟩))
    ⊢ wp frame (wpE (defs₀ (F := F)) 𝒱₀ (d.tc : Thread nD τ) none) Set.univ
        (cc7__tc_segpay_body i M1 h1 Mp hp M2 h2 M3 h3 M4 h4) Q := by
  have hc : ¬ Scalar.cmpi .ne (Scalar.extui (Scalar.cmpi .eq (BitVec.ofNat 32 (i 0).val) 0#32) : BitVec 32) 0#32 = 1#1 := by
    exact not_first (i 0) hi
  simp only [cc7__tc_segpay_body_eq_skeleton]; unfold cc7__tc_segpay_body_skel
  simp only [k7_part1_eq_skeleton]; unfold k7_part1_skel
  unfold own owns
  iintro ⟨⟨%f1, %e1, H1⟩, ⟨%fp, %ep, Hp⟩, ⟨%f2, %e2, H2⟩, ⟨%f3, %e3, H3⟩, ⟨%f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 Mp hp M2 h2 M3 h3 M4 h4 x p _ hr hchk _ _ _ _ _ rfl g3 g4)
  isplitl [H1]
  · unfold own owns; iexists f1; isplitr; · ipureintro; exact e1
    iexact H1
  isplitl [Hp]
  · unfold own owns; iexists fp; isplitr; · ipureintro; exact ep
    iexact Hp
  isplitl [H3]
  · unfold own owns; iexists f3; isplitr; · ipureintro; exact e3
    iexact H3
  isplitl [H4]
  · unfold own owns; iexists f4; isplitr; · ipureintro; exact e4
    iexact H4
  iintro ⟨H1, Hp, H3, H4⟩
  unfold own owns
  iapply Hk
  iframe H1 Hp
  isplitl [H2]
  · iexists f2; isplitr; · ipureintro; exact e2
    iexact H2
  isplitl [H3]; · iexact H3
  iexact H4

end

/-! ## The grid -/

section
variable (n : ℕ) (W : Dev nD → Valuation τ sig (Elt F))

/-- The block of rows of grid point `t`. -/
def xB (c : Dev nD) (t : Fin cfg7.N) : Vec F S1000x128 .f32 :=
  (win7_0.blk t).view.read (Elt F) (W c (Proc.devRef .tc (Pipeline.arrRef spec7 0)))

/-- The block of payload rows of grid point `t`. -/
def pB (c : Dev nD) (t : Fin cfg7.N) : Vec F S1000x16 .f32 :=
  (win7_1.blk t).view.read (Elt F) (W c (Proc.devRef .tc (Pipeline.arrRef spec7 1)))

/-- The block of indices of grid point `t`. -/
def iB (c : Dev nD) (t : Fin cfg7.N) : Vec F S1x1x1000 .i32 :=
  (win7_2.blk t).view.read (Elt F) (W c (Proc.devRef .tc (Pipeline.arrRef spec7 2)))

/-- The table of sums after `m` grid points. -/
def rowsAt (c : Dev nD) (m : ℕ) : Vec F S10240x128 .f32 :=
  runTrips (fun t g => if h : t < cfg7.N then stepRows (iB W c ⟨t, h⟩) (xB W c ⟨t, h⟩) g else g) m zeros128

/-- The table of counts after `m` grid points. -/
def payAt (c : Dev nD) (m : ℕ) : Vec F S10240x16 .f32 :=
  runTrips (fun t g => if h : t < cfg7.N then stepPay (iB W c ⟨t, h⟩) (pB W c ⟨t, h⟩) g else g) m zeros16

theorem rowsAt_succ (c : Dev nD) (t : Fin cfg7.N) : rowsAt W c (t.val + 1) = stepRows (iB W c t) (xB W c t) (rowsAt W c t.val) := by
  unfold rowsAt; rw [runTrips_succ, dif_pos t.isLt]
theorem payAt_succ (c : Dev nD) (t : Fin cfg7.N) : payAt W c (t.val + 1) = stepPay (iB W c t) (pB W c t) (payAt W c t.val) := by
  unfold payAt; rw [runTrips_succ, dif_pos t.isLt]

/-- What the body leaves in the staging buffers. -/
def aft (c : Dev nD) : (w : Fin (cfgs 6).W) → Fin (cfgs 6).N → ((cfgs 6).win w).block.Idx → Elt F ((cfgs 6).win w).elt
  | 0 => fun t => xB W c t
  | 1 => fun t => pB W c t
  | 2 => fun t => iB W c t
  | 3 => fun t => rowsAt W c (t.val + 1)
  | 4 => fun t => payAt W c (t.val + 1)
  | ⟨_ + 5, h⟩ => absurd h (Nat.not_lt.2 (Nat.le_add_left _ _))

theorem before0 (c : Dev nD) (t : Fin cfg7.N) (dd) : (mkDat 6 n W (aft W) c).before 0 t dd = xB W c t := by
  unfold Dat.before; exact (if_pos (fetch7_0 t)).trans rfl
theorem before1 (c : Dev nD) (t : Fin cfg7.N) (dd) : (mkDat 6 n W (aft W) c).before 1 t dd = pB W c t := by
  unfold Dat.before; exact (if_pos (fetch7_1 t)).trans rfl

theorem before2 (c : Dev nD) (t : Fin cfg7.N) (dd) : (mkDat 6 n W (aft W) c).before 2 t dd = iB W c t := by
  unfold Dat.before; exact (if_pos (fetch7_2 t)).trans rfl

theorem not_last (t : Fin cfg7.N) (ht : t.val ≠ 0) : ¬ (t.val - 1) % 320 = 319 := by
  have : t.val < 320 := t.isLt
  omega

theorem before3 (c : Dev nD) (t : Fin cfg7.N) (ht : t.val ≠ 0) (dd) : (mkDat 6 n W (aft W) c).before 3 t dd = rowsAt W c t.val := by
  refine (Dat.before_out_acc (mkDat 6 n W (aft W) c) 3 rfl t ht (Bool.eq_false_iff.mpr fun h => not_last t ht ((flush7_3 _).mp h)) (fun _ => rfl) dd).trans ?_
  have e : t.val - 1 + 1 = t.val := by omega
  show rowsAt W c (t.val - 1 + 1) = _
  rw [e]
theorem before4 (c : Dev nD) (t : Fin cfg7.N) (ht : t.val ≠ 0) (dd) : (mkDat 6 n W (aft W) c).before 4 t dd = payAt W c t.val := by
  refine (Dat.before_out_acc (mkDat 6 n W (aft W) c) 4 rfl t ht (Bool.eq_false_iff.mpr fun h => not_last t ht ((flush7_4 _).mp h)) (fun _ => rfl) dd).trans ?_
  have e : t.val - 1 + 1 = t.val := by omega
  show payAt W c (t.val - 1 + 1) = _
  rw [e]

theorem coord (t : Fin cfg7.N) : (grid7.coords t 0).val = t.val := by
  have := (by decide +kernel : ∀ t : Fin grid7.N, (grid7.coords t 0).val = t.val)
  exact this t

/-- One grid point, the rest of the core's state carried along. -/
theorem point (c : Dev nD) (t : Fin cfg7.N) (hr : InR (iB W c t)) (R S : sProp 𝕄) :
    iprop(R ∗ S ∗ (∃ dd, own c (st7_0 t) ((mkDat 6 n W (aft W) c).before 0 t dd))
      ∗ (∃ dd, own c (st7_1 t) ((mkDat 6 n W (aft W) c).before 1 t dd))
      ∗ (∃ dd, own c (st7_2 t) ((mkDat 6 n W (aft W) c).before 2 t dd))
      ∗ (∃ dd, own c (st7_3 t) ((mkDat 6 n W (aft W) c).before 3 t dd))
      ∗ (∃ dd, own c (st7_4 t) ((mkDat 6 n W (aft W) c).before 4 t dd)))
    ⊢ wp frame (wpE (defs₀ (F := F)) 𝒱₀ (c.tc : Thread nD τ) none) Set.univ (bodyAt7 t) fun _ =>
      iprop(R ∗ S ∗ own c (st7_0 t) (xB W c t) ∗ own c (st7_1 t) (pB W c t)
        ∗ own c (st7_2 t) (iB W c t)
        ∗ own c (st7_3 t) (rowsAt W c (t.val + 1)) ∗ own c (st7_4 t) (payAt W c (t.val + 1))) := by
  simp only [before0, before1, before2]
  by_cases ht : t.val = 0
  · iintro ⟨HΦ, Ho, ⟨%d0, H0⟩, ⟨%dp, Hp⟩, ⟨%d1, H1⟩, ⟨%d2, H2⟩, ⟨%d3, H3⟩⟩
    iapply (body_first c (grid7.coords t) _ (hstage7_0 ((cfg7.slots t 0).cast nbuf7_0)) _ (hstage7_1 ((cfg7.slots t 1).cast nbuf7_1)) _ (hstage7_2 ((cfg7.slots t 2).cast nbuf7_2)) _ (hstage7_3 ((cfg7.slots t 3).cast nbuf7_3)) _ (hstage7_4 ((cfg7.slots t 4).cast nbuf7_4))
      (xB W c t) (pB W c t) (iB W c t) hr ((coord t).trans ht))
    isplitl [H0]; · iexact H0
    isplitl [Hp]; · iexact Hp
    isplitl [H1]; · iexact H1
    isplitl [H2]; · iexists _; iexact H2
    isplitl [H3]; · iexists _; iexact H3
    iintro ⟨H0, Hp, H1, H2, H3⟩
    isplitl [HΦ]; · iexact HΦ
    isplitl [Ho]; · iexact Ho
    isplitl [H0]; · iexact H0
    isplitl [Hp]; · iexact Hp
    isplitl [H1]; · iexact H1
    have e2 : stepRows (iB W c t) (xB W c t) zeros128 = rowsAt W c (t.val + 1) := by rw [rowsAt_succ, ht]; rfl
    have e3 : stepPay (iB W c t) (pB W c t) zeros16 = payAt W c (t.val + 1) := by rw [payAt_succ, ht]; rfl
    rw [e2, e3]
    isplitl [H2]; · iexact H2
    iexact H3
  · simp only [before3 n W c t ht, before4 n W c t ht]
    iintro ⟨HΦ, Ho, ⟨%d0, H0⟩, ⟨%dp, Hp⟩, ⟨%d1, H1⟩, ⟨%d2, H2⟩, ⟨%d3, H3⟩⟩
    iapply (body_next c (grid7.coords t) _ (hstage7_0 ((cfg7.slots t 0).cast nbuf7_0)) _ (hstage7_1 ((cfg7.slots t 1).cast nbuf7_1)) _ (hstage7_2 ((cfg7.slots t 2).cast nbuf7_2)) _ (hstage7_3 ((cfg7.slots t 3).cast nbuf7_3)) _ (hstage7_4 ((cfg7.slots t 4).cast nbuf7_4))
      (xB W c t) (pB W c t) (iB W c t) hr (fun h => ht ((coord t).symm.trans h)) (rowsAt W c t.val) (payAt W c t.val))
    isplitl [H0]; · iexact H0
    isplitl [Hp]; · iexact Hp
    isplitl [H1]; · iexact H1
    isplitl [H2]; · iexact H2
    isplitl [H3]; · iexact H3
    iintro ⟨H0, Hp, H1, H2, H3⟩
    isplitl [HΦ]; · iexact HΦ
    isplitl [Ho]; · iexact Ho
    isplitl [H0]; · iexact H0
    isplitl [Hp]; · iexact Hp
    isplitl [H1]; · iexact H1
    rw [← rowsAt_succ, ← payAt_succ]
    isplitl [H2]; · iexact H2
    iexact H3

theorem obligation (c : Dev nD) (hr : ∀ t, InR (iB W c t)) :
    BodyObligationLoose (mkDat 6 n W (aft W) c) (defs₀ (F := F)) 𝒱₀ (none : HIx 1) Set.univ := by
  refine (show BodyObligation (mkDat 6 n W (aft W) c) (defs₀ (F := F)) 𝒱₀ (none : HIx 1) Set.univ from fun t => ?_).loose
  rw [show (mkDat 6 n W (aft W) c).Φ t.succ = (mkDat 6 n W (aft W) c).Φ t.castSucc from rfl,
    show (mkDat 6 n W (aft W) c).owesAt (none : HIx 1) t.succ = (mkDat 6 n W (aft W) c).owesAt (none : HIx 1) t.castSucc from rfl]
  rw [bigSep_W7, bigSep_W7]
  exact point n W c t (hr t) _ _

end

end C7

end Cert.Proof.KernelIdeal
-- ==== Proof.IdealSeg8.lean ====
/-
  The body of the sorted segment sum of the rows of `h_B` weighted by the scores, and of the scores, run at any staging buffers: one grid point
  takes the two tables from what they held to what the plain functions say.
-/
module

public import proofs.«01_k».proof.Proof.IdealSeg
public import proofs.«01_k».proof.Proof.Gen.KernelIdeal.Points
public import Idealize.ShloMosaic.Lib.Pipeline.FrameBody

@[expose] public section

noncomputable section

namespace Cert.Proof.KernelIdeal

open Cert.KernelIdeal Cert.KernelIdeal.Gen Cert.Proof.Seg
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C8

theorem not_first (n : Fin 320) (h : n.val ≠ 0) :
    ¬ Scalar.cmpi .ne (Scalar.extui (Scalar.cmpi .eq (BitVec.ofNat 32 n.val) 0#32) : BitVec 32) 0#32 = 1#1 := by
  have := (by decide +kernel : ∀ n : Fin 320, n.val ≠ 0 → ¬ Scalar.cmpi .ne (Scalar.extui (Scalar.cmpi .eq (BitVec.ofNat 32 n.val) 0#32) : BitVec 32) 0#32 = 1#1)
  exact this n h

theorem chk {lo hi : BitVec 32} (hlo : lo.toNat ≤ hi.toNat) (hhi : hi.toNat < 10000) : k8_chk1 lo hi := by
  have h1 : ∀ k : Fin (k8_t1_loop lo hi).trips, (rowW lo k.val).toNat + 128 ≤ 10240 := fun k =>
    row_le hlo hhi (lt_of_lt_of_eq k.isLt (trips_eq_nwin hlo hhi))
  have no : ∀ k : Fin (k8_t2_loop lo hi).trips, False := fun k => Scf.rem_no_trip _ _ k
  refine ⟨loop_ok hlo hhi, fun k a => ?_, fun k a => ?_, Scf.rem_ok _ _, fun k => (no k).elim, fun k => (no k).elim⟩
  · match a with
    | 0 => exact h1 k
    | 1 => show 0 + 128 ≤ 128; omega
  · match a with
    | 0 => exact h1 k
    | 1 => show 0 + 16 ≤ 16; omega

section
variable (d : Dev nD) (i : grid8.Coords)
  (M1 : Memref sig .tc .vmem S1000x128 .f32) (h1 : M1.IsWhole) (Mp : Memref sig .tc .vmem S1000x16 .f32) (hp : Mp.IsWhole) (M2 : Memref sig .tc .vmem S1x1x1000 .i32) (h2 : M2.IsWhole)
  (M3 : Memref sig .tc .vmem S10240x128 .f32) (h3 : M3.IsWhole) (M4 : Memref sig .tc .vmem S10240x16 .f32) (h4 : M4.IsWhole)
  (x : Vec F S1000x128 .f32) (p : Vec F S1000x16 .f32) (ix : Vec F S1x1x1000 .i32)

/-- One trip of the loop over the windows. -/
theorem trip (hw : k8_chk1 (loW ix) (hiW ix)) (k : Fin (k8_t1_loop (loW ix) (hiW ix)).trips)
    (g3 : Vec F S10240x128 .f32) (g4 : Vec F S10240x16 .f32) (Q : Unit → sProp 𝕄) :
    iprop(own d M1 x ∗ own d Mp p ∗ own d M3 g3 ∗ own d M4 g4
      ∗ (iprop(own d M1 x ∗ own d Mp p ∗ own d M3 (tripRows ix x k g3)
          ∗ own d M4 (tripPay ix p k g4)) -∗ Q ⟨⟩))
    ⊢ wp frame (wpE (defs₀ (F := F)) 𝒱₀ (d.tc : Thread nD τ) none) Set.univ
        (k8_t1_body i M1 h1 Mp hp M2 h2 M3 h3 M4 h4 (flat ix) (loW ix) (baseW (loW ix)) (hiW ix) hw k ⟨⟩) Q := by
  unfold k8_t1_body own owns
  iintro ⟨⟨%f1, %e1, H1⟩, ⟨%fp, %ep, Hp⟩, ⟨%f3, %e3, H3⟩, ⟨%f4, %e4, H4⟩, Hk⟩
  sl_exec
  sl_step
  iapply Hk
  isplitl [H1]
  · iexists f1; isplitr; · ipureintro; exact e1
    iexact H1
  isplitl [Hp]
  · iexists fp; isplitr; · ipureintro; exact ep
    iexact Hp
  isplitl [H3]
  · iexists _; isplitr; swap; · iexact H3
    ipureintro
    refine (View.read_writes_cons_put M3.view f3 (off' := ![(rowW (loW ix) k).toNat, 0]) _ _ [] rfl).trans ?_
    rw [View.writes_nil, e3]
    refine congrArg (VecWindow.put g3 _ _) ?_
    exact congr (congrArg (addRows (flat ix) (rowW (loW ix) k)) ((congrArg (fun z => shapeCast S1000x128 z shapeCasts_S1000x128_S1000x128) ((View.readAt_full M1.view f1 _).trans e1)).trans (cast_same _ _)))
      ((View.readAt_unit M3.view f3 _ rfl (hw.2.1 k)).trans (by rw [e3]; exact window128 g3 _ _))
  iexists _; isplitr; swap; · iexact H4
  ipureintro
  refine (View.read_writes_cons_put M4.view f4 (off' := ![(rowW (loW ix) k).toNat, 0]) _ _ [] rfl).trans ?_
  rw [View.writes_nil, e4]
  refine congrArg (VecWindow.put g4 _ _) ?_
  exact congr (congrArg (addPay (flat ix) (rowW (loW ix) k)) ((congrArg (fun z => shapeCast S1000x16 z shapeCasts_S1000x16_S1000x16) ((View.readAt_full Mp.view fp _).trans ep)).trans (cast_same _ _)))
    ((View.readAt_unit M4.view f4 _ rfl (hw.2.2.1 k)).trans (by rw [e4]; exact window16 g4 _ _))

/-- What the loop has made of the tables before trip `k`. -/
def inv (g3 : Vec F S10240x128 .f32) (g4 : Vec F S10240x16 .f32) (k : ℕ) (_ : Unit) : sProp 𝕄 :=
  iprop(own d M1 x ∗ own d Mp p ∗ own d M3 (runTrips (tripRows ix x) k g3)
    ∗ own d M4 (runTrips (tripPay ix p) k g4))

def none2 (_ : ℕ) (_ : Unit) : sProp 𝕄 := iprop(emp)

/-- The two loops, from what the first part returned. -/
theorem loops (hr : InR ix) (hw : k8_chk1 (loW ix) (hiW ix)) (v31 c128 v32 v37 c0 : BitVec 32)
    (hv : v31 = Scalar.subi (hiW ix) (baseW (loW ix)))
    (g3 : Vec F S10240x128 .f32) (g4 : Vec F S10240x16 .f32) (Q : PUnit → sProp 𝕄) :
    iprop(own d M1 x ∗ own d Mp p ∗ own d M3 g3 ∗ own d M4 g4
      ∗ (iprop(own d M1 x ∗ own d Mp p ∗ own d M3 (stepRows ix x g3)
          ∗ own d M4 (stepPay ix p g4)) -∗ Q ⟨⟩))
    ⊢ wp frame (wpE (defs₀ (F := F)) 𝒱₀ (d.tc : Thread nD τ) none) Set.univ
        (do
          Scf.Loop.for (k8_t1_loop (loW ix) (hiW ix)) (k8_t1_ok (loW ix) (hiW ix) hw) ⟨⟩
            (k8_t1_body (F := F) i M1 h1 Mp hp M2 h2 M3 h3 M4 h4 (flat ix) (loW ix) (baseW (loW ix)) (hiW ix) hw)
          Scf.Loop.for (k8_t2_loop (loW ix) (hiW ix)) (k8_t2_ok (loW ix) (hiW ix) hw) ⟨⟩
            (k8_t2_body i M1 h1 Mp hp M2 h2 M3 h3 M4 h4 (flat ix) (loW ix) (baseW (loW ix)) (hiW ix) hw v31 c128 v32 v37 c0)
          pure ⟨⟩) Q := by
  iintro ⟨H1, Hp, H3, H4, Hk⟩
  sl_for (inv d M1 Mp M3 M4 x p ix g3 g4) $$ [H1 Hp H3 H4]
  case region =>
    intro k _
    unfold inv
    iintro ⟨H1, Hp, H3, H4⟩
    iapply (trip d i M1 h1 Mp hp M2 h2 M3 h3 M4 h4 x p ix hw k)
    iframe H1 Hp H3 H4
    iintro ⟨H1, Hp, H3, H4⟩
    iframe H1 Hp H3
    iexact H4
  · unfold inv
    iframe H1 Hp H3
    iexact H4
  iintro %_ HI
  have ht : Scf.trips (k8_t1_loop (loW ix) (hiW ix)).lb (k8_t1_loop (loW ix) (hiW ix)).ub (k8_t1_loop (loW ix) (hiW ix)).st = wins ix := trips_eq_nwin (lo_le_hi hr) (hi_lt hr)
  rw [ht]
  unfold inv
  icases HI with ⟨H1, Hp, H3, H4⟩
  sl_for (none2) $$ []
  case region =>
    intro k _
    exact (Scf.rem_no_trip _ _ k).elim
  · unfold none2; iempintro
  iintro %_ -
  sl_step
  iapply Hk
  iframe H1 Hp H3
  iexact H4

/-- A first grid point: the tables start at zero. -/
theorem body_first (hr : InR ix) (hi : (i 0).val = 0) (Q : PUnit → sProp 𝕄) :
    iprop(own d M1 x ∗ own d Mp p ∗ own d M2 ix
      ∗ (∃ g, own d M3 g) ∗ (∃ g, own d M4 g)
      ∗ (iprop(own d M1 x ∗ own d Mp p ∗ own d M2 ix
          ∗ own d M3 (stepRows ix x zeros128)
          ∗ own d M4 (stepPay ix p zeros16)) -∗ Q ⟨⟩))
    ⊢ wp frame (wpE (defs₀ (F := F)) 𝒱₀ (d.tc : Thread nD τ) none) Set.univ
        (cc8__tc_segpay_body i M1 h1 Mp hp M2 h2 M3 h3 M4 h4) Q := by
  have hc : Scalar.cmpi .ne (Scalar.extui (Scalar.cmpi .eq (BitVec.ofNat 32 (i 0).val) 0#32) : BitVec 32) 0#32 = 1#1 := by
    rw [hi]; decide
  simp only [cc8__tc_segpay_body_eq_skeleton]; unfold cc8__tc_segpay_body_skel
  simp only [k8_part1_eq_skeleton]; unfold k8_part1_skel
  unfold own owns
  iintro ⟨⟨%f1, %e1, H1⟩, ⟨%fp, %ep, Hp⟩, ⟨%f2, %e2, H2⟩, ⟨%g3, %f3, %e3, H3⟩, ⟨%g4, %f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 Mp hp M2 h2 M3 h3 M4 h4 x p _ hr hchk _ _ _ _ _ rfl zeros128 zeros16)
  isplitl [H1]
  · unfold own owns; iexists f1; isplitr; · ipureintro; exact e1
    iexact H1
  isplitl [Hp]
  · unfold own owns; iexists fp; isplitr; · ipureintro; exact ep
    iexact Hp
  isplitl [H3]
  · unfold own owns; iexists _; isplitr; swap; · iexact H3
    ipureintro; exact View.read_writes_full _ _ _ _ _
  isplitl [H4]
  · unfold own owns; iexists _; isplitr; swap; · iexact H4
    ipureintro; exact View.read_writes_full _ _ _ _ _
  iintro ⟨H1, Hp, H3, H4⟩
  unfold own owns
  iapply Hk
  iframe H1 Hp
  isplitl [H2]
  · iexists f2; isplitr; · ipureintro; exact e2
    iexact H2
  isplitl [H3]; · iexact H3
  iexact H4

/-- A later grid point: the tables go on from what they held. -/
theorem body_next (hr : InR ix) (hi : (i 0).val ≠ 0) (g3 : Vec F S10240x128 .f32) (g4 : Vec F S10240x16 .f32) (Q : PUnit → sProp 𝕄) :
    iprop(own d M1 x ∗ own d Mp p ∗ own d M2 ix
      ∗ own d M3 g3 ∗ own d M4 g4
      ∗ (iprop(own d M1 x ∗ own d Mp p ∗ own d M2 ix
          ∗ own d M3 (stepRows ix x g3)
          ∗ own d M4 (stepPay ix p g4)) -∗ Q ⟨⟩))
    ⊢ wp frame (wpE (defs₀ (F := F)) 𝒱₀ (d.tc : Thread nD τ) none) Set.univ
        (cc8__tc_segpay_body i M1 h1 Mp hp M2 h2 M3 h3 M4 h4) Q := by
  have hc : ¬ Scalar.cmpi .ne (Scalar.extui (Scalar.cmpi .eq (BitVec.ofNat 32 (i 0).val) 0#32) : BitVec 32) 0#32 = 1#1 := by
    exact not_first (i 0) hi
  simp only [cc8__tc_segpay_body_eq_skeleton]; unfold cc8__tc_segpay_body_skel
  simp only [k8_part1_eq_skeleton]; unfold k8_part1_skel
  unfold own owns
  iintro ⟨⟨%f1, %e1, H1⟩, ⟨%fp, %ep, Hp⟩, ⟨%f2, %e2, H2⟩, ⟨%f3, %e3, H3⟩, ⟨%f4, %e4, H4⟩, Hk⟩
  have e2' : M2.view.readAt (Elt F) (Rect.unit (s := S1x1x1000) ![0, 0, 0] S1x1x1000.size inb_S1x1x1000_S1x1x1000_0_0_0).toLoadRect f2 = ix :=
    (View.readAt_full M2.view f2 _).trans e2
  subst e2'
  have hchk := chk (lo_le_hi hr) (hi_lt hr)
  sl_exec (disch := first | sl_exact hc | exact hchk)
  dsimp only
  iapply (loops d i M1 h1 Mp hp M2 h2 M3 h3 M4 h4 x p _ hr hchk _ _ _ _ _ rfl g3 g4)
  isplitl [H1]
  · unfold own owns; iexists f1; isplitr; · ipureintro; exact e1
    iexact H1
  isplitl [Hp]
  · unfold own owns; iexists fp; isplitr; · ipureintro; exact ep
    iexact Hp
  isplitl [H3]
  · unfold own owns; iexists f3; isplitr; · ipureintro; exact e3
    iexact H3
  isplitl [H4]
  · unfold own owns; iexists f4; isplitr; · ipureintro; exact e4
    iexact H4
  iintro ⟨H1, Hp, H3, H4⟩
  unfold own owns
  iapply Hk
  iframe H1 Hp
  isplitl [H2]
  · iexists f2; isplitr; · ipureintro; exact e2
    iexact H2
  isplitl [H3]; · iexact H3
  iexact H4

end

/-! ## The grid -/

section
variable (n : ℕ) (W : Dev nD → Valuation τ sig (Elt F))

/-- The block of rows of grid point `t`. -/
def xB (c : Dev nD) (t : Fin cfg8.N) : Vec F S1000x128 .f32 :=
  (win8_0.blk t).view.read (Elt F) (W c (Proc.devRef .tc (Pipeline.arrRef spec8 0)))

/-- The block of payload rows of grid point `t`. -/
def pB (c : Dev nD) (t : Fin cfg8.N) : Vec F S1000x16 .f32 :=
  (win8_1.blk t).view.read (Elt F) (W c (Proc.devRef .tc (Pipeline.arrRef spec8 1)))

/-- The block of indices of grid point `t`. -/
def iB (c : Dev nD) (t : Fin cfg8.N) : Vec F S1x1x1000 .i32 :=
  (win8_2.blk t).view.read (Elt F) (W c (Proc.devRef .tc (Pipeline.arrRef spec8 2)))

/-- The table of sums after `m` grid points. -/
def rowsAt (c : Dev nD) (m : ℕ) : Vec F S10240x128 .f32 :=
  runTrips (fun t g => if h : t < cfg8.N then stepRows (iB W c ⟨t, h⟩) (xB W c ⟨t, h⟩) g else g) m zeros128

/-- The table of counts after `m` grid points. -/
def payAt (c : Dev nD) (m : ℕ) : Vec F S10240x16 .f32 :=
  runTrips (fun t g => if h : t < cfg8.N then stepPay (iB W c ⟨t, h⟩) (pB W c ⟨t, h⟩) g else g) m zeros16

theorem rowsAt_succ (c : Dev nD) (t : Fin cfg8.N) : rowsAt W c (t.val + 1) = stepRows (iB W c t) (xB W c t) (rowsAt W c t.val) := by
  unfold rowsAt; rw [runTrips_succ, dif_pos t.isLt]
theorem payAt_succ (c : Dev nD) (t : Fin cfg8.N) : payAt W c (t.val + 1) = stepPay (iB W c t) (pB W c t) (payAt W c t.val) := by
  unfold payAt; rw [runTrips_succ, dif_pos t.isLt]

/-- What the body leaves in the staging buffers. -/
def aft (c : Dev nD) : (w : Fin (cfgs 7).W) → Fin (cfgs 7).N → ((cfgs 7).win w).block.Idx → Elt F ((cfgs 7).win w).elt
  | 0 => fun t => xB W c t
  | 1 => fun t => pB W c t
  | 2 => fun t => iB W c t
  | 3 => fun t => rowsAt W c (t.val + 1)
  | 4 => fun t => payAt W c (t.val + 1)
  | ⟨_ + 5, h⟩ => absurd h (Nat.not_lt.2 (Nat.le_add_left _ _))

theorem before0 (c : Dev nD) (t : Fin cfg8.N) (dd) : (mkDat 7 n W (aft W) c).before 0 t dd = xB W c t := by
  unfold Dat.before; exact (if_pos (fetch8_0 t)).trans rfl
theorem before1 (c : Dev nD) (t : Fin cfg8.N) (dd) : (mkDat 7 n W (aft W) c).before 1 t dd = pB W c t := by
  unfold Dat.before; exact (if_pos (fetch8_1 t)).trans rfl

theorem before2 (c : Dev nD) (t : Fin cfg8.N) (dd) : (mkDat 7 n W (aft W) c).before 2 t dd = iB W c t := by
  unfold Dat.before; exact (if_pos (fetch8_2 t)).trans rfl

theorem not_last (t : Fin cfg8.N) (ht : t.val ≠ 0) : ¬ (t.val - 1) % 320 = 319 := by
  have : t.val < 320 := t.isLt
  omega

theorem before3 (c : Dev nD) (t : Fin cfg8.N) (ht : t.val ≠ 0) (dd) : (mkDat 7 n W (aft W) c).before 3 t dd = rowsAt W c t.val := by
  refine (Dat.before_out_acc (mkDat 7 n W (aft W) c) 3 rfl t ht (Bool.eq_false_iff.mpr fun h => not_last t ht ((flush8_3 _).mp h)) (fun _ => rfl) dd).trans ?_
  have e : t.val - 1 + 1 = t.val := by omega
  show rowsAt W c (t.val - 1 + 1) = _
  rw [e]
theorem before4 (c : Dev nD) (t : Fin cfg8.N) (ht : t.val ≠ 0) (dd) : (mkDat 7 n W (aft W) c).before 4 t dd = payAt W c t.val := by
  refine (Dat.before_out_acc (mkDat 7 n W (aft W) c) 4 rfl t ht (Bool.eq_false_iff.mpr fun h => not_last t ht ((flush8_4 _).mp h)) (fun _ => rfl) dd).trans ?_
  have e : t.val - 1 + 1 = t.val := by omega
  show payAt W c (t.val - 1 + 1) = _
  rw [e]

theorem coord (t : Fin cfg8.N) : (grid8.coords t 0).val = t.val := by
  have := (by decide +kernel : ∀ t : Fin grid8.N, (grid8.coords t 0).val = t.val)
  exact this t

/-- One grid point, the rest of the core's state carried along. -/
theorem point (c : Dev nD) (t : Fin cfg8.N) (hr : InR (iB W c t)) (R S : sProp 𝕄) :
    iprop(R ∗ S ∗ (∃ dd, own c (st8_0 t) ((mkDat 7 n W (aft W) c).before 0 t dd))
      ∗ (∃ dd, own c (st8_1 t) ((mkDat 7 n W (aft W) c).before 1 t dd))
      ∗ (∃ dd, own c (st8_2 t) ((mkDat 7 n W (aft W) c).before 2 t dd))
      ∗ (∃ dd, own c (st8_3 t) ((mkDat 7 n W (aft W) c).before 3 t dd))
      ∗ (∃ dd, own c (st8_4 t) ((mkDat 7 n W (aft W) c).before 4 t dd)))
    ⊢ wp frame (wpE (defs₀ (F := F)) 𝒱₀ (c.tc : Thread nD τ) none) Set.univ (bodyAt8 t) fun _ =>
      iprop(R ∗ S ∗ own c (st8_0 t) (xB W c t) ∗ own c (st8_1 t) (pB W c t)
        ∗ own c (st8_2 t) (iB W c t)
        ∗ own c (st8_3 t) (rowsAt W c (t.val + 1)) ∗ own c (st8_4 t) (payAt W c (t.val + 1))) := by
  simp only [before0, before1, before2]
  by_cases ht : t.val = 0
  · iintro ⟨HΦ, Ho, ⟨%d0, H0⟩, ⟨%dp, Hp⟩, ⟨%d1, H1⟩, ⟨%d2, H2⟩, ⟨%d3, H3⟩⟩
    iapply (body_first c (grid8.coords t) _ (hstage8_0 ((cfg8.slots t 0).cast nbuf8_0)) _ (hstage8_1 ((cfg8.slots t 1).cast nbuf8_1)) _ (hstage8_2 ((cfg8.slots t 2).cast nbuf8_2)) _ (hstage8_3 ((cfg8.slots t 3).cast nbuf8_3)) _ (hstage8_4 ((cfg8.slots t 4).cast nbuf8_4))
      (xB W c t) (pB W c t) (iB W c t) hr ((coord t).trans ht))
    isplitl [H0]; · iexact H0
    isplitl [Hp]; · iexact Hp
    isplitl [H1]; · iexact H1
    isplitl [H2]; · iexists _; iexact H2
    isplitl [H3]; · iexists _; iexact H3
    iintro ⟨H0, Hp, H1, H2, H3⟩
    isplitl [HΦ]; · iexact HΦ
    isplitl [Ho]; · iexact Ho
    isplitl [H0]; · iexact H0
    isplitl [Hp]; · iexact Hp
    isplitl [H1]; · iexact H1
    have e2 : stepRows (iB W c t) (xB W c t) zeros128 = rowsAt W c (t.val + 1) := by rw [rowsAt_succ, ht]; rfl
    have e3 : stepPay (iB W c t) (pB W c t) zeros16 = payAt W c (t.val + 1) := by rw [payAt_succ, ht]; rfl
    rw [e2, e3]
    isplitl [H2]; · iexact H2
    iexact H3
  · simp only [before3 n W c t ht, before4 n W c t ht]
    iintro ⟨HΦ, Ho, ⟨%d0, H0⟩, ⟨%dp, Hp⟩, ⟨%d1, H1⟩, ⟨%d2, H2⟩, ⟨%d3, H3⟩⟩
    iapply (body_next c (grid8.coords t) _ (hstage8_0 ((cfg8.slots t 0).cast nbuf8_0)) _ (hstage8_1 ((cfg8.slots t 1).cast nbuf8_1)) _ (hstage8_2 ((cfg8.slots t 2).cast nbuf8_2)) _ (hstage8_3 ((cfg8.slots t 3).cast nbuf8_3)) _ (hstage8_4 ((cfg8.slots t 4).cast nbuf8_4))
      (xB W c t) (pB W c t) (iB W c t) hr (fun h => ht ((coord t).symm.trans h)) (rowsAt W c t.val) (payAt W c t.val))
    isplitl [H0]; · iexact H0
    isplitl [Hp]; · iexact Hp
    isplitl [H1]; · iexact H1
    isplitl [H2]; · iexact H2
    isplitl [H3]; · iexact H3
    iintro ⟨H0, Hp, H1, H2, H3⟩
    isplitl [HΦ]; · iexact HΦ
    isplitl [Ho]; · iexact Ho
    isplitl [H0]; · iexact H0
    isplitl [Hp]; · iexact Hp
    isplitl [H1]; · iexact H1
    rw [← rowsAt_succ, ← payAt_succ]
    isplitl [H2]; · iexact H2
    iexact H3

theorem obligation (c : Dev nD) (hr : ∀ t, InR (iB W c t)) :
    BodyObligationLoose (mkDat 7 n W (aft W) c) (defs₀ (F := F)) 𝒱₀ (none : HIx 1) Set.univ := by
  refine (show BodyObligation (mkDat 7 n W (aft W) c) (defs₀ (F := F)) 𝒱₀ (none : HIx 1) Set.univ from fun t => ?_).loose
  rw [show (mkDat 7 n W (aft W) c).Φ t.succ = (mkDat 7 n W (aft W) c).Φ t.castSucc from rfl,
    show (mkDat 7 n W (aft W) c).owesAt (none : HIx 1) t.succ = (mkDat 7 n W (aft W) c).owesAt (none : HIx 1) t.castSucc from rfl]
  rw [bigSep_W8, bigSep_W8]
  exact point n W c t (hr t) _ _

end

end C8

end Cert.Proof.KernelIdeal
-- ==== Proof.IdealPt2.lean ====
/-
  The table of projected segment means: run at any staging buffers, one grid point leaves in its results the plain functions of its blocks.
-/
module

public import proofs.«01_k».proof.Proof.IdealStage
public import proofs.«01_k».proof.Proof.Gen.KernelIdeal.Points
public import Idealize.ShloMosaic.Lib.Pipeline.FrameBody
public import Idealize.ShloMosaic.Lib.VecWindow

@[expose] public section

noncomputable section

namespace Cert.Proof.KernelIdeal

open Cert.KernelIdeal Cert.KernelIdeal.Gen
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C2

/-- The first columns of a block, as the body loads them. -/
def col1 (x : Vec F S1024x16 .f32) : Vec F S1024x1 .f32 := VecWindow.window (s := S1024x16) x ![0, 0] S1024x1.size inb_S1024x16_S1024x1_0_0

section
variable (d : Dev nD) (i : grid2.Coords)
  (M1 : Memref sig .tc .vmem S1024x128 .f32) (h1 : M1.IsWhole) (M2 : Memref sig .tc .vmem S1024x16 .f32) (h2 : M2.IsWhole) (M3 : Memref sig .tc .vmem S128x64 .f32) (h3 : M3.IsWhole) (M4 : Memref sig .tc .vmem S1x64 .f32) (h4 : M4.IsWhole) (M5 : Memref sig .tc .vmem S1024x128 .f32) (h5 : M5.IsWhole)
  (x : Vec F S1024x128 .f32) (z : Vec F S1024x16 .f32) (w : Vec F S128x64 .f32) (b : Vec F S1x64 .f32)

/-- One run of the body. -/
theorem body (Q : PUnit → sProp 𝕄) :
    iprop(own d M1 x ∗ own d M2 z ∗ own d M3 w ∗ own d M4 b ∗ (∃ g, own d M5 g)
      ∗ (iprop(own d M1 x ∗ own d M2 z ∗ own d M3 w ∗ own d M4 b ∗ own d M5 (k2_pay1 (col1 z) x w b)) -∗ Q ⟨⟩))
    ⊢ wp frame (wpE (defs₀ (F := F)) 𝒱₀ (d.tc : Thread nD τ) none) Set.univ
        (cc2__tc_vtab_body i M1 h1 M2 h2 M3 h3 M4 h4 M5 h5) Q := by
  simp only [cc2__tc_vtab_body_eq_skeleton]; unfold cc2__tc_vtab_body_skel
  unfold own owns
  iintro ⟨⟨%f1, %e1, H1⟩, ⟨%f2, %e2, H2⟩, ⟨%f3, %e3, H3⟩, ⟨%f4, %e4, H4⟩, ⟨%g0, %f5, %e5, H5⟩, Hk⟩
  have q1 : M1.view.readAt (Elt F) (Rect.unit (s := S1024x128) ![0, 0] S1024x128.size inb_S1024x128_S1024x128_0_0).toLoadRect f1 = x :=
    (View.readAt_full M1.view f1 _).trans e1
  have q2 : M2.view.readAt (Elt F) (Rect.unit (s := S1024x16) ![0, 0] S1024x1.size inb_S1024x16_S1024x1_0_0).toLoadRect f2 = col1 z :=
    (View.readAt_unit M2.view f2 _ rfl inb_S1024x16_S1024x1_0_0).trans (by rw [e2]; rfl)
  have q3 : M3.view.readAt (Elt F) (Rect.unit (s := S128x64) ![0, 0] S128x64.size inb_S128x64_S128x64_0_0).toLoadRect f3 = w :=
    (View.readAt_full M3.view f3 _).trans e3
  have q4 : M4.view.readAt (Elt F) (Rect.unit (s := S1x64) ![0, 0] S1x64.size inb_S1x64_S1x64_0_0).toLoadRect f4 = b :=
    (View.readAt_full M4.view f4 _).trans e4
  sl_exec
  skip
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  iexists _; isplitr; swap; · iexact H5
  ipureintro; refine (View.read_writes_full _ _ _ _ _).trans ?_; simp only [q1, q2, q3, q4]; try rfl

end

/-! ## The grid -/

section
variable (n : ℕ) (W : Dev nD → Valuation τ sig (Elt F))

/-- Block of operand 0 at grid point `t`. -/
def b0 (c : Dev nD) (t : Fin cfg2.N) : Vec F S1024x128 .f32 :=
  (win2_0.blk t).view.read (Elt F) (W c (Proc.devRef .tc (Pipeline.arrRef spec2 0)))

/-- Block of operand 1 at grid point `t`. -/
def b1 (c : Dev nD) (t : Fin cfg2.N) : Vec F S1024x16 .f32 :=
  (win2_1.blk t).view.read (Elt F) (W c (Proc.devRef .tc (Pipeline.arrRef spec2 1)))

/-- Block of operand 2 at grid point `t`. -/
def b2 (c : Dev nD) (t : Fin cfg2.N) : Vec F S128x64 .f32 :=
  (win2_2.blk t).view.read (Elt F) (W c (Proc.devRef .tc (Pipeline.arrRef spec2 2)))

/-- Block of operand 3 at grid point `t`. -/
def b3 (c : Dev nD) (t : Fin cfg2.N) : Vec F S1x64 .f32 :=
  (win2_3.blk t).view.read (Elt F) (W c (Proc.devRef .tc (Pipeline.arrRef spec2 3)))

/-- What grid point `t` leaves in result 0. -/
def o0 (c : Dev nD) (t : Fin cfg2.N) : Vec F S1024x128 .f32 := k2_pay1 (col1 (b1 W c t)) (b0 W c t) (b2 W c t) (b3 W c t)

/-- What the body leaves in the staging buffers. -/
def aft (c : Dev nD) : (w : Fin (cfgs 2).W) → Fin (cfgs 2).N → ((cfgs 2).win w).block.Idx → Elt F ((cfgs 2).win w).elt
  | 0 => fun t => b0 W c t
  | 1 => fun t => b1 W c t
  | 2 => fun t => b2 W c t
  | 3 => fun t => b3 W c t
  | 4 => fun t => o0 W c t
  | ⟨_ + 5, h⟩ => absurd h (Nat.not_lt.2 (Nat.le_add_left _ _))

theorem before0 (c : Dev nD) (t : Fin cfg2.N) (dd) : (mkDat 2 n W (aft W) c).before 0 t dd = b0 W c t :=
  (Dat.before_in_eq_fetched (mkDat 2 n W (aft W) c) 0 rfl (fun _ => rfl) (fun _ _ _ => rfl) (fun _ => rfl) t dd).trans rfl

theorem before1 (c : Dev nD) (t : Fin cfg2.N) (dd) : (mkDat 2 n W (aft W) c).before 1 t dd = b1 W c t :=
  (Dat.before_in_eq_fetched (mkDat 2 n W (aft W) c) 1 rfl (fun _ => rfl) (fun _ _ _ => rfl) (fun _ => rfl) t dd).trans rfl

theorem before2 (c : Dev nD) (t : Fin cfg2.N) (dd) : (mkDat 2 n W (aft W) c).before 2 t dd = b2 W c t :=
  (Dat.before_in_eq_fetched (mkDat 2 n W (aft W) c) 2 rfl (fun _ => rfl) (fun _ _ _ => rfl) (fun _ => rfl) t dd).trans rfl

theorem before3 (c : Dev nD) (t : Fin cfg2.N) (dd) : (mkDat 2 n W (aft W) c).before 3 t dd = b3 W c t :=
  (Dat.before_in_eq_fetched (mkDat 2 n W (aft W) c) 3 rfl (fun _ => rfl) (fun _ _ _ => rfl) (fun _ => rfl) t dd).trans rfl

/-- One grid point, the rest of the core's state carried along. -/
theorem point (c : Dev nD) (t : Fin cfg2.N) (R S : sProp 𝕄) :
    iprop(R ∗ S ∗ (∃ dd, own c (st2_0 t) ((mkDat 2 n W (aft W) c).before 0 t dd))
      ∗ (∃ dd, own c (st2_1 t) ((mkDat 2 n W (aft W) c).before 1 t dd))
      ∗ (∃ dd, own c (st2_2 t) ((mkDat 2 n W (aft W) c).before 2 t dd))
      ∗ (∃ dd, own c (st2_3 t) ((mkDat 2 n W (aft W) c).before 3 t dd))
      ∗ (∃ dd, own c (st2_4 t) ((mkDat 2 n W (aft W) c).before 4 t dd)))
    ⊢ wp frame (wpE (defs₀ (F := F)) 𝒱₀ (c.tc : Thread nD τ) none) Set.univ (bodyAt2 t) fun _ =>
      iprop(R ∗ S ∗ own c (st2_0 t) (b0 W c t)
        ∗ own c (st2_1 t) (b1 W c t)
        ∗ own c (st2_2 t) (b2 W c t)
        ∗ own c (st2_3 t) (b3 W c t)
        ∗ own c (st2_4 t) (o0 W c t)) := by
  simp only [before0, before1, before2, before3]
  iintro ⟨HΦ, Ho, ⟨%d0, H0⟩, ⟨%d1, H1⟩, ⟨%d2, H2⟩, ⟨%d3, H3⟩, ⟨%d4, H4⟩⟩
  iapply (body c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4))
    (b0 W c t) (b1 W c t) (b2 W c t) (b3 W c t))
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem obligation (c : Dev nD) :
    BodyObligationLoose (mkDat 2 n W (aft W) c) (defs₀ (F := F)) 𝒱₀ (none : HIx 1) Set.univ := by
  refine (show BodyObligation (mkDat 2 n W (aft W) c) (defs₀ (F := F)) 𝒱₀ (none : HIx 1) Set.univ from fun t => ?_).loose
  rw [show (mkDat 2 n W (aft W) c).Φ t.succ = (mkDat 2 n W (aft W) c).Φ t.castSucc from rfl,
    show (mkDat 2 n W (aft W) c).owesAt (none : HIx 1) t.succ = (mkDat 2 n W (aft W) c).owesAt (none : HIx 1) t.castSucc from rfl]
  rw [bigSep_W2, bigSep_W2]
  exact point n W c t _ _

end

end C2

end Cert.Proof.KernelIdeal
-- ==== Proof.IdealPt3.lean ====
/-
  The table of projected segment means: run at any staging buffers, one grid point leaves in its results the plain functions of its blocks.
-/
module

public import proofs.«01_k».proof.Proof.IdealStage
public import proofs.«01_k».proof.Proof.Gen.KernelIdeal.Points
public import Idealize.ShloMosaic.Lib.Pipeline.FrameBody
public import Idealize.ShloMosaic.Lib.VecWindow

@[expose] public section

noncomputable section

namespace Cert.Proof.KernelIdeal

open Cert.KernelIdeal Cert.KernelIdeal.Gen
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C3

/-- The first columns of a block, as the body loads them. -/
def col1 (x : Vec F S1024x16 .f32) : Vec F S1024x1 .f32 := VecWindow.window (s := S1024x16) x ![0, 0] S1024x1.size inb_S1024x16_S1024x1_0_0

section
variable (d : Dev nD) (i : grid3.Coords)
  (M1 : Memref sig .tc .vmem S1024x128 .f32) (h1 : M1.IsWhole) (M2 : Memref sig .tc .vmem S1024x16 .f32) (h2 : M2.IsWhole) (M3 : Memref sig .tc .vmem S128x64 .f32) (h3 : M3.IsWhole) (M4 : Memref sig .tc .vmem S1x64 .f32) (h4 : M4.IsWhole) (M5 : Memref sig .tc .vmem S1024x128 .f32) (h5 : M5.IsWhole)
  (x : Vec F S1024x128 .f32) (z : Vec F S1024x16 .f32) (w : Vec F S128x64 .f32) (b : Vec F S1x64 .f32)

/-- One run of the body. -/
theorem body (Q : PUnit → sProp 𝕄) :
    iprop(own d M1 x ∗ own d M2 z ∗ own d M3 w ∗ own d M4 b ∗ (∃ g, own d M5 g)
      ∗ (iprop(own d M1 x ∗ own d M2 z ∗ own d M3 w ∗ own d M4 b ∗ own d M5 (k3_pay1 (col1 z) x w b)) -∗ Q ⟨⟩))
    ⊢ wp frame (wpE (defs₀ (F := F)) 𝒱₀ (d.tc : Thread nD τ) none) Set.univ
        (cc3__tc_vtab_body i M1 h1 M2 h2 M3 h3 M4 h4 M5 h5) Q := by
  simp only [cc3__tc_vtab_body_eq_skeleton]; unfold cc3__tc_vtab_body_skel
  unfold own owns
  iintro ⟨⟨%f1, %e1, H1⟩, ⟨%f2, %e2, H2⟩, ⟨%f3, %e3, H3⟩, ⟨%f4, %e4, H4⟩, ⟨%g0, %f5, %e5, H5⟩, Hk⟩
  have q1 : M1.view.readAt (Elt F) (Rect.unit (s := S1024x128) ![0, 0] S1024x128.size inb_S1024x128_S1024x128_0_0).toLoadRect f1 = x :=
    (View.readAt_full M1.view f1 _).trans e1
  have q2 : M2.view.readAt (Elt F) (Rect.unit (s := S1024x16) ![0, 0] S1024x1.size inb_S1024x16_S1024x1_0_0).toLoadRect f2 = col1 z :=
    (View.readAt_unit M2.view f2 _ rfl inb_S1024x16_S1024x1_0_0).trans (by rw [e2]; rfl)
  have q3 : M3.view.readAt (Elt F) (Rect.unit (s := S128x64) ![0, 0] S128x64.size inb_S128x64_S128x64_0_0).toLoadRect f3 = w :=
    (View.readAt_full M3.view f3 _).trans e3
  have q4 : M4.view.readAt (Elt F) (Rect.unit (s := S1x64) ![0, 0] S1x64.size inb_S1x64_S1x64_0_0).toLoadRect f4 = b :=
    (View.readAt_full M4.view f4 _).trans e4
  sl_exec
  skip
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  iexists _; isplitr; swap; · iexact H5
  ipureintro; refine (View.read_writes_full _ _ _ _ _).trans ?_; simp only [q1, q2, q3, q4]; try rfl

end

/-! ## The grid -/

section
variable (n : ℕ) (W : Dev nD → Valuation τ sig (Elt F))

/-- Block of operand 0 at grid point `t`. -/
def b0 (c : Dev nD) (t : Fin cfg3.N) : Vec F S1024x128 .f32 :=
  (win3_0.blk t).view.read (Elt F) (W c (Proc.devRef .tc (Pipeline.arrRef spec3 0)))

/-- Block of operand 1 at grid point `t`. -/
def b1 (c : Dev nD) (t : Fin cfg3.N) : Vec F S1024x16 .f32 :=
  (win3_1.blk t).view.read (Elt F) (W c (Proc.devRef .tc (Pipeline.arrRef spec3 1)))

/-- Block of operand 2 at grid point `t`. -/
def b2 (c : Dev nD) (t : Fin cfg3.N) : Vec F S128x64 .f32 :=
  (win3_2.blk t).view.read (Elt F) (W c (Proc.devRef .tc (Pipeline.arrRef spec3 2)))

/-- Block of operand 3 at grid point `t`. -/
def b3 (c : Dev nD) (t : Fin cfg3.N) : Vec F S1x64 .f32 :=
  (win3_3.blk t).view.read (Elt F) (W c (Proc.devRef .tc (Pipeline.arrRef spec3 3)))

/-- What grid point `t` leaves in result 0. -/
def o0 (c : Dev nD) (t : Fin cfg3.N) : Vec F S1024x128 .f32 := k3_pay1 (col1 (b1 W c t)) (b0 W c t) (b2 W c t) (b3 W c t)

/-- What the body leaves in the staging buffers. -/
def aft (c : Dev nD) : (w : Fin (cfgs 3).W) → Fin (cfgs 3).N → ((cfgs 3).win w).block.Idx → Elt F ((cfgs 3).win w).elt
  | 0 => fun t => b0 W c t
  | 1 => fun t => b1 W c t
  | 2 => fun t => b2 W c t
  | 3 => fun t => b3 W c t
  | 4 => fun t => o0 W c t
  | ⟨_ + 5, h⟩ => absurd h (Nat.not_lt.2 (Nat.le_add_left _ _))

theorem before0 (c : Dev nD) (t : Fin cfg3.N) (dd) : (mkDat 3 n W (aft W) c).before 0 t dd = b0 W c t :=
  (Dat.before_in_eq_fetched (mkDat 3 n W (aft W) c) 0 rfl (fun _ => rfl) (fun _ _ _ => rfl) (fun _ => rfl) t dd).trans rfl

theorem before1 (c : Dev nD) (t : Fin cfg3.N) (dd) : (mkDat 3 n W (aft W) c).before 1 t dd = b1 W c t :=
  (Dat.before_in_eq_fetched (mkDat 3 n W (aft W) c) 1 rfl (fun _ => rfl) (fun _ _ _ => rfl) (fun _ => rfl) t dd).trans rfl

theorem before2 (c : Dev nD) (t : Fin cfg3.N) (dd) : (mkDat 3 n W (aft W) c).before 2 t dd = b2 W c t :=
  (Dat.before_in_eq_fetched (mkDat 3 n W (aft W) c) 2 rfl (fun _ => rfl) (fun _ _ _ => rfl) (fun _ => rfl) t dd).trans rfl

theorem before3 (c : Dev nD) (t : Fin cfg3.N) (dd) : (mkDat 3 n W (aft W) c).before 3 t dd = b3 W c t :=
  (Dat.before_in_eq_fetched (mkDat 3 n W (aft W) c) 3 rfl (fun _ => rfl) (fun _ _ _ => rfl) (fun _ => rfl) t dd).trans rfl

/-- One grid point, the rest of the core's state carried along. -/
theorem point (c : Dev nD) (t : Fin cfg3.N) (R S : sProp 𝕄) :
    iprop(R ∗ S ∗ (∃ dd, own c (st3_0 t) ((mkDat 3 n W (aft W) c).before 0 t dd))
      ∗ (∃ dd, own c (st3_1 t) ((mkDat 3 n W (aft W) c).before 1 t dd))
      ∗ (∃ dd, own c (st3_2 t) ((mkDat 3 n W (aft W) c).before 2 t dd))
      ∗ (∃ dd, own c (st3_3 t) ((mkDat 3 n W (aft W) c).before 3 t dd))
      ∗ (∃ dd, own c (st3_4 t) ((mkDat 3 n W (aft W) c).before 4 t dd)))
    ⊢ wp frame (wpE (defs₀ (F := F)) 𝒱₀ (c.tc : Thread nD τ) none) Set.univ (bodyAt3 t) fun _ =>
      iprop(R ∗ S ∗ own c (st3_0 t) (b0 W c t)
        ∗ own c (st3_1 t) (b1 W c t)
        ∗ own c (st3_2 t) (b2 W c t)
        ∗ own c (st3_3 t) (b3 W c t)
        ∗ own c (st3_4 t) (o0 W c t)) := by
  simp only [before0, before1, before2, before3]
  iintro ⟨HΦ, Ho, ⟨%d0, H0⟩, ⟨%d1, H1⟩, ⟨%d2, H2⟩, ⟨%d3, H3⟩, ⟨%d4, H4⟩⟩
  iapply (body c (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4))
    (b0 W c t) (b1 W c t) (b2 W c t) (b3 W c t))
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem obligation (c : Dev nD) :
    BodyObligationLoose (mkDat 3 n W (aft W) c) (defs₀ (F := F)) 𝒱₀ (none : HIx 1) Set.univ := by
  refine (show BodyObligation (mkDat 3 n W (aft W) c) (defs₀ (F := F)) 𝒱₀ (none : HIx 1) Set.univ from fun t => ?_).loose
  rw [show (mkDat 3 n W (aft W) c).Φ t.succ = (mkDat 3 n W (aft W) c).Φ t.castSucc from rfl,
    show (mkDat 3 n W (aft W) c).owesAt (none : HIx 1) t.succ = (mkDat 3 n W (aft W) c).owesAt (none : HIx 1) t.castSucc from rfl]
  rw [bigSep_W3, bigSep_W3]
  exact point n W c t _ _

end

end C3

end Cert.Proof.KernelIdeal
-- ==== Proof.IdealPt5.lean ====
/-
  The attention scores and the weighted rows: run at any staging buffers, one grid point leaves in its results the plain functions of its blocks.
-/
module

public import proofs.«01_k».proof.Proof.IdealStage
public import proofs.«01_k».proof.Proof.Gen.KernelIdeal.Points
public import Idealize.ShloMosaic.Lib.Pipeline.FrameBody
public import Idealize.ShloMosaic.Lib.VecWindow

@[expose] public section

noncomputable section

namespace Cert.Proof.KernelIdeal

open Cert.KernelIdeal Cert.KernelIdeal.Gen
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C5

/-- The first columns of a block, as the body loads them. -/
def col1 (x : Vec F S4000x128 .f32) : Vec F S4000x64 .f32 := VecWindow.window (s := S4000x128) x ![0, 0] S4000x64.size inb_S4000x128_S4000x64_0_0

section
variable (d : Dev nD) (i : grid5.Coords)
  (M1 : Memref sig .tc .vmem S4000x128 .f32) (h1 : M1.IsWhole) (M2 : Memref sig .tc .vmem S4000x128 .f32) (h2 : M2.IsWhole) (M3 : Memref sig .tc .vmem S128x64 .f32) (h3 : M3.IsWhole) (M4 : Memref sig .tc .vmem S1x64 .f32) (h4 : M4.IsWhole) (M5 : Memref sig .tc .vmem S1x1 .f32) (h5 : M5.IsWhole) (M6 : Memref sig .tc .vmem S4000x16 .f32) (h6 : M6.IsWhole) (M7 : Memref sig .tc .vmem S4000x128 .f32) (h7 : M7.IsWhole)
  (h : Vec F S4000x128 .f32) (v : Vec F S4000x128 .f32) (w1 : Vec F S128x64 .f32) (w2 : Vec F S1x64 .f32) (b : Vec F S1x1 .f32)

/-- One run of the body. -/
theorem body (Q : PUnit → sProp 𝕄) :
    iprop(own d M1 h ∗ own d M2 v ∗ own d M3 w1 ∗ own d M4 w2 ∗ own d M5 b ∗ (∃ g, own d M6 g) ∗ (∃ g, own d M7 g)
      ∗ (iprop(own d M1 h ∗ own d M2 v ∗ own d M3 w1 ∗ own d M4 w2 ∗ own d M5 b ∗ own d M6 (k5_pay2 h w1 (col1 v) w2 b) ∗ own d M7 (k5_pay3 h w1 (col1 v) w2 b h)) -∗ Q ⟨⟩))
    ⊢ wp frame (wpE (defs₀ (F := F)) 𝒱₀ (d.tc : Thread nD τ) none) Set.univ
        (cc5__tc_score_body i M1 h1 M2 h2 M3 h3 M4 h4 M5 h5 M6 h6 M7 h7) Q := by
  simp only [cc5__tc_score_body_eq_skeleton]; unfold cc5__tc_score_body_skel
  unfold own owns
  iintro ⟨⟨%f1, %e1, H1⟩, ⟨%f2, %e2, H2⟩, ⟨%f3, %e3, H3⟩, ⟨%f4, %e4, H4⟩, ⟨%f5, %e5, H5⟩, ⟨%g0, %f6, %e6, H6⟩, ⟨%g1, %f7, %e7, H7⟩, Hk⟩
  have q1 : M1.view.readAt (Elt F) (Rect.unit (s := S4000x128) ![0, 0] S4000x128.size inb_S4000x128_S4000x128_0_0).toLoadRect f1 = h :=
    (View.readAt_full M1.view f1 _).trans e1
  have q2 : M2.view.readAt (Elt F) (Rect.unit (s := S4000x128) ![0, 0] S4000x64.size inb_S4000x128_S4000x64_0_0).toLoadRect f2 = col1 v :=
    (View.readAt_unit M2.view f2 _ rfl inb_S4000x128_S4000x64_0_0).trans (by rw [e2]; rfl)
  have q3 : M3.view.readAt (Elt F) (Rect.unit (s := S128x64) ![0, 0] S128x64.size inb_S128x64_S128x64_0_0).toLoadRect f3 = w1 :=
    (View.readAt_full M3.view f3 _).trans e3
  have q4 : M4.view.readAt (Elt F) (Rect.unit (s := S1x64) ![0, 0] S1x64.size inb_S1x64_S1x64_0_0).toLoadRect f4 = w2 :=
    (View.readAt_full M4.view f4 _).trans e4
  have q5 : M5.view.readAt (Elt F) (Rect.unit (s := S1x1) ![0, 0] S1x1.size inb_S1x1_S1x1_0_0).toLoadRect f5 = b :=
    (View.readAt_full M5.view f5 _).trans e5
  sl_exec
  skip
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists _; isplitr; swap; · iexact H6
    ipureintro; refine (View.read_writes_full _ _ _ _ _).trans ?_; simp only [q1, q2, q3, q4, q5]; try rfl
  iexists _; isplitr; swap; · iexact H7
  ipureintro; refine (View.read_writes_full _ _ _ _ _).trans ?_; simp only [q1, q2, q3, q4, q5]; try rfl

end

/-! ## The grid -/

section
variable (n : ℕ) (W : Dev nD → Valuation τ sig (Elt F))

/-- Block of operand 0 at grid point `t`. -/
def b0 (c : Dev nD) (t : Fin cfg5.N) : Vec F S4000x128 .f32 :=
  (win5_0.blk t).view.read (Elt F) (W c (Proc.devRef .tc (Pipeline.arrRef spec5 0)))

/-- Block of operand 1 at grid point `t`. -/
def b1 (c : Dev nD) (t : Fin cfg5.N) : Vec F S4000x128 .f32 :=
  (win5_1.blk t).view.read (Elt F) (W c (Proc.devRef .tc (Pipeline.arrRef spec5 1)))

/-- Block of operand 2 at grid point `t`. -/
def b2 (c : Dev nD) (t : Fin cfg5.N) : Vec F S128x64 .f32 :=
  (win5_2.blk t).view.read (Elt F) (W c (Proc.devRef .tc (Pipeline.arrRef spec5 2)))

/-- Block of operand 3 at grid point `t`. -/
def b3 (c : Dev nD) (t : Fin cfg5.N) : Vec F S1x64 .f32 :=
  (win5_3.blk t).view.read (Elt F) (W c (Proc.devRef .tc (Pipeline.arrRef spec5 3)))

/-- Block of operand 4 at grid point `t`. -/
def b4 (c : Dev nD) (t : Fin cfg5.N) : Vec F S1x1 .f32 :=
  (win5_4.blk t).view.read (Elt F) (W c (Proc.devRef .tc (Pipeline.arrRef spec5 4)))

/-- What grid point `t` leaves in result 0. -/
def o0 (c : Dev nD) (t : Fin cfg5.N) : Vec F S4000x16 .f32 := k5_pay2 (b0 W c t) (b2 W c t) (col1 (b1 W c t)) (b3 W c t) (b4 W c t)

/-- What grid point `t` leaves in result 1. -/
def o1 (c : Dev nD) (t : Fin cfg5.N) : Vec F S4000x128 .f32 := k5_pay3 (b0 W c t) (b2 W c t) (col1 (b1 W c t)) (b3 W c t) (b4 W c t) (b0 W c t)

/-- What the body leaves in the staging buffers. -/
def aft (c : Dev nD) : (w : Fin (cfgs 4).W) → Fin (cfgs 4).N → ((cfgs 4).win w).block.Idx → Elt F ((cfgs 4).win w).elt
  | 0 => fun t => b0 W c t
  | 1 => fun t => b1 W c t
  | 2 => fun t => b2 W c t
  | 3 => fun t => b3 W c t
  | 4 => fun t => b4 W c t
  | 5 => fun t => o0 W c t
  | 6 => fun t => o1 W c t
  | ⟨_ + 7, h⟩ => absurd h (Nat.not_lt.2 (Nat.le_add_left _ _))

theorem before0 (c : Dev nD) (t : Fin cfg5.N) (dd) : (mkDat 4 n W (aft W) c).before 0 t dd = b0 W c t :=
  (Dat.before_in_eq_fetched (mkDat 4 n W (aft W) c) 0 rfl (fun _ => rfl) (fun _ _ _ => rfl) (fun _ => rfl) t dd).trans rfl

theorem before1 (c : Dev nD) (t : Fin cfg5.N) (dd) : (mkDat 4 n W (aft W) c).before 1 t dd = b1 W c t :=
  (Dat.before_in_eq_fetched (mkDat 4 n W (aft W) c) 1 rfl (fun _ => rfl) (fun _ _ _ => rfl) (fun _ => rfl) t dd).trans rfl

theorem before2 (c : Dev nD) (t : Fin cfg5.N) (dd) : (mkDat 4 n W (aft W) c).before 2 t dd = b2 W c t :=
  (Dat.before_in_eq_fetched (mkDat 4 n W (aft W) c) 2 rfl (fun _ => rfl) (fun _ _ _ => rfl) (fun _ => rfl) t dd).trans rfl

theorem before3 (c : Dev nD) (t : Fin cfg5.N) (dd) : (mkDat 4 n W (aft W) c).before 3 t dd = b3 W c t :=
  (Dat.before_in_eq_fetched (mkDat 4 n W (aft W) c) 3 rfl (fun _ => rfl) (fun _ _ _ => rfl) (fun _ => rfl) t dd).trans rfl

theorem before4 (c : Dev nD) (t : Fin cfg5.N) (dd) : (mkDat 4 n W (aft W) c).before 4 t dd = b4 W c t :=
  (Dat.before_in_eq_fetched (mkDat 4 n W (aft W) c) 4 rfl (fun _ => rfl) (fun _ _ _ => rfl) (fun _ => rfl) t dd).trans rfl

/-- One grid point, the rest of the core's state carried along. -/
theorem point (c : Dev nD) (t : Fin cfg5.N) (R S : sProp 𝕄) :
    iprop(R ∗ S ∗ (∃ dd, own c (st5_0 t) ((mkDat 4 n W (aft W) c).before 0 t dd))
      ∗ (∃ dd, own c (st5_1 t) ((mkDat 4 n W (aft W) c).before 1 t dd))
      ∗ (∃ dd, own c (st5_2 t) ((mkDat 4 n W (aft W) c).before 2 t dd))
      ∗ (∃ dd, own c (st5_3 t) ((mkDat 4 n W (aft W) c).before 3 t dd))
      ∗ (∃ dd, own c (st5_4 t) ((mkDat 4 n W (aft W) c).before 4 t dd))
      ∗ (∃ dd, own c (st5_5 t) ((mkDat 4 n W (aft W) c).before 5 t dd))
      ∗ (∃ dd, own c (st5_6 t) ((mkDat 4 n W (aft W) c).before 6 t dd)))
    ⊢ wp frame (wpE (defs₀ (F := F)) 𝒱₀ (c.tc : Thread nD τ) none) Set.univ (bodyAt5 t) fun _ =>
      iprop(R ∗ S ∗ own c (st5_0 t) (b0 W c t)
        ∗ own c (st5_1 t) (b1 W c t)
        ∗ own c (st5_2 t) (b2 W c t)
        ∗ own c (st5_3 t) (b3 W c t)
        ∗ own c (st5_4 t) (b4 W c t)
        ∗ own c (st5_5 t) (o0 W c t)
        ∗ own c (st5_6 t) (o1 W c t)) := by
  simp only [before0, before1, before2, before3, before4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c (grid5.coords t) _ (hstage5_0 ((cfg5.slots t 0).cast nbuf5_0)) _ (hstage5_1 ((cfg5.slots t 1).cast nbuf5_1)) _ (hstage5_2 ((cfg5.slots t 2).cast nbuf5_2)) _ (hstage5_3 ((cfg5.slots t 3).cast nbuf5_3)) _ (hstage5_4 ((cfg5.slots t 4).cast nbuf5_4)) _ (hstage5_5 ((cfg5.slots t 5).cast nbuf5_5)) _ (hstage5_6 ((cfg5.slots t 6).cast nbuf5_6))
    (b0 W c t) (b1 W c t) (b2 W c t) (b3 W c t) (b4 W c t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem obligation (c : Dev nD) :
    BodyObligationLoose (mkDat 4 n W (aft W) c) (defs₀ (F := F)) 𝒱₀ (none : HIx 1) Set.univ := by
  refine (show BodyObligation (mkDat 4 n W (aft W) c) (defs₀ (F := F)) 𝒱₀ (none : HIx 1) Set.univ from fun t => ?_).loose
  rw [show (mkDat 4 n W (aft W) c).Φ t.succ = (mkDat 4 n W (aft W) c).Φ t.castSucc from rfl,
    show (mkDat 4 n W (aft W) c).owesAt (none : HIx 1) t.succ = (mkDat 4 n W (aft W) c).owesAt (none : HIx 1) t.castSucc from rfl]
  rw [bigSep_W5, bigSep_W5]
  exact point n W c t _ _

end

end C5

end Cert.Proof.KernelIdeal
-- ==== Proof.IdealPt6.lean ====
/-
  The attention scores and the weighted rows: run at any staging buffers, one grid point leaves in its results the plain functions of its blocks.
-/
module

public import proofs.«01_k».proof.Proof.IdealStage
public import proofs.«01_k».proof.Proof.Gen.KernelIdeal.Points
public import Idealize.ShloMosaic.Lib.Pipeline.FrameBody
public import Idealize.ShloMosaic.Lib.VecWindow

@[expose] public section

noncomputable section

namespace Cert.Proof.KernelIdeal

open Cert.KernelIdeal Cert.KernelIdeal.Gen
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C6

/-- The first columns of a block, as the body loads them. -/
def col1 (x : Vec F S4000x128 .f32) : Vec F S4000x64 .f32 := VecWindow.window (s := S4000x128) x ![0, 0] S4000x64.size inb_S4000x128_S4000x64_0_0

section
variable (d : Dev nD) (i : grid6.Coords)
  (M1 : Memref sig .tc .vmem S4000x128 .f32) (h1 : M1.IsWhole) (M2 : Memref sig .tc .vmem S4000x128 .f32) (h2 : M2.IsWhole) (M3 : Memref sig .tc .vmem S128x64 .f32) (h3 : M3.IsWhole) (M4 : Memref sig .tc .vmem S1x64 .f32) (h4 : M4.IsWhole) (M5 : Memref sig .tc .vmem S1x1 .f32) (h5 : M5.IsWhole) (M6 : Memref sig .tc .vmem S4000x16 .f32) (h6 : M6.IsWhole) (M7 : Memref sig .tc .vmem S4000x128 .f32) (h7 : M7.IsWhole)
  (h : Vec F S4000x128 .f32) (v : Vec F S4000x128 .f32) (w1 : Vec F S128x64 .f32) (w2 : Vec F S1x64 .f32) (b : Vec F S1x1 .f32)

/-- One run of the body. -/
theorem body (Q : PUnit → sProp 𝕄) :
    iprop(own d M1 h ∗ own d M2 v ∗ own d M3 w1 ∗ own d M4 w2 ∗ own d M5 b ∗ (∃ g, own d M6 g) ∗ (∃ g, own d M7 g)
      ∗ (iprop(own d M1 h ∗ own d M2 v ∗ own d M3 w1 ∗ own d M4 w2 ∗ own d M5 b ∗ own d M6 (k6_pay2 h w1 (col1 v) w2 b) ∗ own d M7 (k6_pay3 h w1 (col1 v) w2 b h)) -∗ Q ⟨⟩))
    ⊢ wp frame (wpE (defs₀ (F := F)) 𝒱₀ (d.tc : Thread nD τ) none) Set.univ
        (cc6__tc_score_body i M1 h1 M2 h2 M3 h3 M4 h4 M5 h5 M6 h6 M7 h7) Q := by
  simp only [cc6__tc_score_body_eq_skeleton]; unfold cc6__tc_score_body_skel
  unfold own owns
  iintro ⟨⟨%f1, %e1, H1⟩, ⟨%f2, %e2, H2⟩, ⟨%f3, %e3, H3⟩, ⟨%f4, %e4, H4⟩, ⟨%f5, %e5, H5⟩, ⟨%g0, %f6, %e6, H6⟩, ⟨%g1, %f7, %e7, H7⟩, Hk⟩
  have q1 : M1.view.readAt (Elt F) (Rect.unit (s := S4000x128) ![0, 0] S4000x128.size inb_S4000x128_S4000x128_0_0).toLoadRect f1 = h :=
    (View.readAt_full M1.view f1 _).trans e1
  have q2 : M2.view.readAt (Elt F) (Rect.unit (s := S4000x128) ![0, 0] S4000x64.size inb_S4000x128_S4000x64_0_0).toLoadRect f2 = col1 v :=
    (View.readAt_unit M2.view f2 _ rfl inb_S4000x128_S4000x64_0_0).trans (by rw [e2]; rfl)
  have q3 : M3.view.readAt (Elt F) (Rect.unit (s := S128x64) ![0, 0] S128x64.size inb_S128x64_S128x64_0_0).toLoadRect f3 = w1 :=
    (View.readAt_full M3.view f3 _).trans e3
  have q4 : M4.view.readAt (Elt F) (Rect.unit (s := S1x64) ![0, 0] S1x64.size inb_S1x64_S1x64_0_0).toLoadRect f4 = w2 :=
    (View.readAt_full M4.view f4 _).trans e4
  have q5 : M5.view.readAt (Elt F) (Rect.unit (s := S1x1) ![0, 0] S1x1.size inb_S1x1_S1x1_0_0).toLoadRect f5 = b :=
    (View.readAt_full M5.view f5 _).trans e5
  sl_exec
  skip
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists _; isplitr; swap; · iexact H6
    ipureintro; refine (View.read_writes_full _ _ _ _ _).trans ?_; simp only [q1, q2, q3, q4, q5]; try rfl
  iexists _; isplitr; swap; · iexact H7
  ipureintro; refine (View.read_writes_full _ _ _ _ _).trans ?_; simp only [q1, q2, q3, q4, q5]; try rfl

end

/-! ## The grid -/

section
variable (n : ℕ) (W : Dev nD → Valuation τ sig (Elt F))

/-- Block of operand 0 at grid point `t`. -/
def b0 (c : Dev nD) (t : Fin cfg6.N) : Vec F S4000x128 .f32 :=
  (win6_0.blk t).view.read (Elt F) (W c (Proc.devRef .tc (Pipeline.arrRef spec6 0)))

/-- Block of operand 1 at grid point `t`. -/
def b1 (c : Dev nD) (t : Fin cfg6.N) : Vec F S4000x128 .f32 :=
  (win6_1.blk t).view.read (Elt F) (W c (Proc.devRef .tc (Pipeline.arrRef spec6 1)))

/-- Block of operand 2 at grid point `t`. -/
def b2 (c : Dev nD) (t : Fin cfg6.N) : Vec F S128x64 .f32 :=
  (win6_2.blk t).view.read (Elt F) (W c (Proc.devRef .tc (Pipeline.arrRef spec6 2)))

/-- Block of operand 3 at grid point `t`. -/
def b3 (c : Dev nD) (t : Fin cfg6.N) : Vec F S1x64 .f32 :=
  (win6_3.blk t).view.read (Elt F) (W c (Proc.devRef .tc (Pipeline.arrRef spec6 3)))

/-- Block of operand 4 at grid point `t`. -/
def b4 (c : Dev nD) (t : Fin cfg6.N) : Vec F S1x1 .f32 :=
  (win6_4.blk t).view.read (Elt F) (W c (Proc.devRef .tc (Pipeline.arrRef spec6 4)))

/-- What grid point `t` leaves in result 0. -/
def o0 (c : Dev nD) (t : Fin cfg6.N) : Vec F S4000x16 .f32 := k6_pay2 (b0 W c t) (b2 W c t) (col1 (b1 W c t)) (b3 W c t) (b4 W c t)

/-- What grid point `t` leaves in result 1. -/
def o1 (c : Dev nD) (t : Fin cfg6.N) : Vec F S4000x128 .f32 := k6_pay3 (b0 W c t) (b2 W c t) (col1 (b1 W c t)) (b3 W c t) (b4 W c t) (b0 W c t)

/-- What the body leaves in the staging buffers. -/
def aft (c : Dev nD) : (w : Fin (cfgs 5).W) → Fin (cfgs 5).N → ((cfgs 5).win w).block.Idx → Elt F ((cfgs 5).win w).elt
  | 0 => fun t => b0 W c t
  | 1 => fun t => b1 W c t
  | 2 => fun t => b2 W c t
  | 3 => fun t => b3 W c t
  | 4 => fun t => b4 W c t
  | 5 => fun t => o0 W c t
  | 6 => fun t => o1 W c t
  | ⟨_ + 7, h⟩ => absurd h (Nat.not_lt.2 (Nat.le_add_left _ _))

theorem before0 (c : Dev nD) (t : Fin cfg6.N) (dd) : (mkDat 5 n W (aft W) c).before 0 t dd = b0 W c t :=
  (Dat.before_in_eq_fetched (mkDat 5 n W (aft W) c) 0 rfl (fun _ => rfl) (fun _ _ _ => rfl) (fun _ => rfl) t dd).trans rfl

theorem before1 (c : Dev nD) (t : Fin cfg6.N) (dd) : (mkDat 5 n W (aft W) c).before 1 t dd = b1 W c t :=
  (Dat.before_in_eq_fetched (mkDat 5 n W (aft W) c) 1 rfl (fun _ => rfl) (fun _ _ _ => rfl) (fun _ => rfl) t dd).trans rfl

theorem before2 (c : Dev nD) (t : Fin cfg6.N) (dd) : (mkDat 5 n W (aft W) c).before 2 t dd = b2 W c t :=
  (Dat.before_in_eq_fetched (mkDat 5 n W (aft W) c) 2 rfl (fun _ => rfl) (fun _ _ _ => rfl) (fun _ => rfl) t dd).trans rfl

theorem before3 (c : Dev nD) (t : Fin cfg6.N) (dd) : (mkDat 5 n W (aft W) c).before 3 t dd = b3 W c t :=
  (Dat.before_in_eq_fetched (mkDat 5 n W (aft W) c) 3 rfl (fun _ => rfl) (fun _ _ _ => rfl) (fun _ => rfl) t dd).trans rfl

theorem before4 (c : Dev nD) (t : Fin cfg6.N) (dd) : (mkDat 5 n W (aft W) c).before 4 t dd = b4 W c t :=
  (Dat.before_in_eq_fetched (mkDat 5 n W (aft W) c) 4 rfl (fun _ => rfl) (fun _ _ _ => rfl) (fun _ => rfl) t dd).trans rfl

/-- One grid point, the rest of the core's state carried along. -/
theorem point (c : Dev nD) (t : Fin cfg6.N) (R S : sProp 𝕄) :
    iprop(R ∗ S ∗ (∃ dd, own c (st6_0 t) ((mkDat 5 n W (aft W) c).before 0 t dd))
      ∗ (∃ dd, own c (st6_1 t) ((mkDat 5 n W (aft W) c).before 1 t dd))
      ∗ (∃ dd, own c (st6_2 t) ((mkDat 5 n W (aft W) c).before 2 t dd))
      ∗ (∃ dd, own c (st6_3 t) ((mkDat 5 n W (aft W) c).before 3 t dd))
      ∗ (∃ dd, own c (st6_4 t) ((mkDat 5 n W (aft W) c).before 4 t dd))
      ∗ (∃ dd, own c (st6_5 t) ((mkDat 5 n W (aft W) c).before 5 t dd))
      ∗ (∃ dd, own c (st6_6 t) ((mkDat 5 n W (aft W) c).before 6 t dd)))
    ⊢ wp frame (wpE (defs₀ (F := F)) 𝒱₀ (c.tc : Thread nD τ) none) Set.univ (bodyAt6 t) fun _ =>
      iprop(R ∗ S ∗ own c (st6_0 t) (b0 W c t)
        ∗ own c (st6_1 t) (b1 W c t)
        ∗ own c (st6_2 t) (b2 W c t)
        ∗ own c (st6_3 t) (b3 W c t)
        ∗ own c (st6_4 t) (b4 W c t)
        ∗ own c (st6_5 t) (o0 W c t)
        ∗ own c (st6_6 t) (o1 W c t)) := by
  simp only [before0, before1, before2, before3, before4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c (grid6.coords t) _ (hstage6_0 ((cfg6.slots t 0).cast nbuf6_0)) _ (hstage6_1 ((cfg6.slots t 1).cast nbuf6_1)) _ (hstage6_2 ((cfg6.slots t 2).cast nbuf6_2)) _ (hstage6_3 ((cfg6.slots t 3).cast nbuf6_3)) _ (hstage6_4 ((cfg6.slots t 4).cast nbuf6_4)) _ (hstage6_5 ((cfg6.slots t 5).cast nbuf6_5)) _ (hstage6_6 ((cfg6.slots t 6).cast nbuf6_6))
    (b0 W c t) (b1 W c t) (b2 W c t) (b3 W c t) (b4 W c t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem obligation (c : Dev nD) :
    BodyObligationLoose (mkDat 5 n W (aft W) c) (defs₀ (F := F)) 𝒱₀ (none : HIx 1) Set.univ := by
  refine (show BodyObligation (mkDat 5 n W (aft W) c) (defs₀ (F := F)) 𝒱₀ (none : HIx 1) Set.univ from fun t => ?_).loose
  rw [show (mkDat 5 n W (aft W) c).Φ t.succ = (mkDat 5 n W (aft W) c).Φ t.castSucc from rfl,
    show (mkDat 5 n W (aft W) c).owesAt (none : HIx 1) t.succ = (mkDat 5 n W (aft W) c).owesAt (none : HIx 1) t.castSucc from rfl]
  rw [bigSep_W6, bigSep_W6]
  exact point n W c t _ _

end

end C6

end Cert.Proof.KernelIdeal
-- ==== Proof.IdealPt9.lean ====
/-
  The fused heads: run at any staging buffers, one grid point leaves in its results the plain functions of its blocks.
-/
module

public import proofs.«01_k».proof.Proof.IdealStage
public import proofs.«01_k».proof.Proof.Gen.KernelIdeal.Points
public import Idealize.ShloMosaic.Lib.Pipeline.FrameBody
public import Idealize.ShloMosaic.Lib.VecWindow

@[expose] public section

noncomputable section

namespace Cert.Proof.KernelIdeal

open Cert.KernelIdeal Cert.KernelIdeal.Gen
open Idealize.ShloMosaic
open Idealize.ShloMosaic.SparseCore.Cfg (HIx Pay)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

namespace C9

/-- The first columns of a block, as the body loads them. -/
def col1 (x : Vec F S1000x16 .f32) : Vec F S1000x1 .f32 := VecWindow.window (s := S1000x16) x ![0, 0] S1000x1.size inb_S1000x16_S1000x1_0_0

/-- The first columns of a block, as the body loads them. -/
def col3 (x : Vec F S1000x16 .f32) : Vec F S1000x1 .f32 := VecWindow.window (s := S1000x16) x ![0, 0] S1000x1.size inb_S1000x16_S1000x1_0_0

section
variable (d : Dev nD) (i : grid9.Coords)
  (M1 : Memref sig .tc .vmem S1000x128 .f32) (h1 : M1.IsWhole) (M2 : Memref sig .tc .vmem S1000x16 .f32) (h2 : M2.IsWhole) (M3 : Memref sig .tc .vmem S1000x128 .f32) (h3 : M3.IsWhole) (M4 : Memref sig .tc .vmem S1000x16 .f32) (h4 : M4.IsWhole) (M5 : Memref sig .tc .vmem S512x256 .f32) (h5 : M5.IsWhole) (M6 : Memref sig .tc .vmem S1x256 .f32) (h6 : M6.IsWhole) (M7 : Memref sig .tc .vmem S256x128 .f32) (h7 : M7.IsWhole) (M8 : Memref sig .tc .vmem S1x128 .f32) (h8 : M8.IsWhole) (M9 : Memref sig .tc .vmem S1000x128 .f32) (h9 : M9.IsWhole) (M10 : Memref sig .tc .vmem S1000x128 .f32) (h10 : M10.IsWhole) (M11 : Memref sig .tc .vmem S1000x128 .f32) (h11 : M11.IsWhole)
  (x : Vec F S1000x128 .f32) (z : Vec F S1000x16 .f32) (y : Vec F S1000x128 .f32) (u : Vec F S1000x16 .f32) (m1 : Vec F S512x256 .f32) (k1 : Vec F S1x256 .f32) (m2 : Vec F S256x128 .f32) (k2 : Vec F S1x128 .f32)

/-- One run of the body. -/
theorem body (Q : PUnit → sProp 𝕄) :
    iprop(own d M1 x ∗ own d M2 z ∗ own d M3 y ∗ own d M4 u ∗ own d M5 m1 ∗ own d M6 k1 ∗ own d M7 m2 ∗ own d M8 k2 ∗ (∃ g, own d M9 g) ∗ (∃ g, own d M10 g) ∗ (∃ g, own d M11 g)
      ∗ (iprop(own d M1 x ∗ own d M2 z ∗ own d M3 y ∗ own d M4 u ∗ own d M5 m1 ∗ own d M6 k1 ∗ own d M7 m2 ∗ own d M8 k2 ∗ own d M9 (k9_pay1 (k9_pay4 (col1 z) (col3 u) x y m1 k1 m2) k2) ∗ own d M10 (k9_pay2 (col1 z) x) ∗ own d M11 (k9_pay3 (col3 u) y)) -∗ Q ⟨⟩))
    ⊢ wp frame (wpE (defs₀ (F := F)) 𝒱₀ (d.tc : Thread nD τ) none) Set.univ
        (cc9__tc_fuse_body i M1 h1 M2 h2 M3 h3 M4 h4 M5 h5 M6 h6 M7 h7 M8 h8 M9 h9 M10 h10 M11 h11) Q := by
  simp only [cc9__tc_fuse_body_eq_skeleton]; unfold cc9__tc_fuse_body_skel
  simp only [k9_part1_eq_skeleton]; unfold k9_part1_skel
  unfold own owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%g0, %f9, %e9, H9⟩, ⟨%g1, %f10, %e10, H10⟩, ⟨%g2, %f11, %e11, H11⟩, Hk⟩
  have q1 : M1.view.readAt (Elt F) (Rect.unit (s := S1000x128) ![0, 0] S1000x128.size inb_S1000x128_S1000x128_0_0).toLoadRect f1 = x :=
    (View.readAt_full M1.view f1 _).trans e1
  have q2 : M2.view.readAt (Elt F) (Rect.unit (s := S1000x16) ![0, 0] S1000x1.size inb_S1000x16_S1000x1_0_0).toLoadRect f2 = col1 z :=
    (View.readAt_unit M2.view f2 _ rfl inb_S1000x16_S1000x1_0_0).trans (by rw [e2]; rfl)
  have q3 : M3.view.readAt (Elt F) (Rect.unit (s := S1000x128) ![0, 0] S1000x128.size inb_S1000x128_S1000x128_0_0).toLoadRect f3 = y :=
    (View.readAt_full M3.view f3 _).trans e3
  have q4 : M4.view.readAt (Elt F) (Rect.unit (s := S1000x16) ![0, 0] S1000x1.size inb_S1000x16_S1000x1_0_0).toLoadRect f4 = col3 u :=
    (View.readAt_unit M4.view f4 _ rfl inb_S1000x16_S1000x1_0_0).trans (by rw [e4]; rfl)
  have q5 : M5.view.readAt (Elt F) (Rect.unit (s := S512x256) ![0, 0] S512x256.size inb_S512x256_S512x256_0_0).toLoadRect f5 = m1 :=
    (View.readAt_full M5.view f5 _).trans e5
  have q6 : M6.view.readAt (Elt F) (Rect.unit (s := S1x256) ![0, 0] S1x256.size inb_S1x256_S1x256_0_0).toLoadRect f6 = k1 :=
    (View.readAt_full M6.view f6 _).trans e6
  have q7 : M7.view.readAt (Elt F) (Rect.unit (s := S256x128) ![0, 0] S256x128.size inb_S256x128_S256x128_0_0).toLoadRect f7 = m2 :=
    (View.readAt_full M7.view f7 _).trans e7
  have q8 : M8.view.readAt (Elt F) (Rect.unit (s := S1x128) ![0, 0] S1x128.size inb_S1x128_S1x128_0_0).toLoadRect f8 = k2 :=
    (View.readAt_full M8.view f8 _).trans e8
  sl_exec
  dsimp only
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists _; isplitr; swap; · iexact H9
    ipureintro; refine (View.read_writes_full _ _ _ _ _).trans ?_; simp only [q1, q2, q3, q4, q5, q6, q7, q8]; try rfl
  isplitl [H10]
  · iexists _; isplitr; swap; · iexact H10
    ipureintro; refine (View.read_writes_full _ _ _ _ _).trans ?_; simp only [q1, q2, q3, q4, q5, q6, q7, q8]; try rfl
  iexists _; isplitr; swap; · iexact H11
  ipureintro; refine (View.read_writes_full _ _ _ _ _).trans ?_; simp only [q1, q2, q3, q4, q5, q6, q7, q8]; try rfl

end

/-! ## The grid -/

section
variable (n : ℕ) (W : Dev nD → Valuation τ sig (Elt F))

theorem clip0 (t : Fin cfg9.N) : ∀ a, (win9_0.clip (grid9.coords t)) a = none := by
  have := (by decide +kernel : ∀ (t : Fin grid9.N) (a : Fin 2), (win9_0.clip (grid9.coords t)) a = none)
  exact this t

/-- Block of operand 0 at grid point `t`, which lies in the array. -/
def b0 (c : Dev nD) (t : Fin cfg9.N) : Vec F S1000x128 .f32 :=
  win9_0.fill (grid9.coords t) (fun _ => Classical.arbitrary _) ((win9_0.blk t).view.read (Elt F) (W c (Proc.devRef .tc (Pipeline.arrRef spec9 0))))

theorem clip1 (t : Fin cfg9.N) : ∀ a, (win9_1.clip (grid9.coords t)) a = none := by
  have := (by decide +kernel : ∀ (t : Fin grid9.N) (a : Fin 2), (win9_1.clip (grid9.coords t)) a = none)
  exact this t

/-- Block of operand 1 at grid point `t`, which lies in the array. -/
def b1 (c : Dev nD) (t : Fin cfg9.N) : Vec F S1000x16 .f32 :=
  win9_1.fill (grid9.coords t) (fun _ => Classical.arbitrary _) ((win9_1.blk t).view.read (Elt F) (W c (Proc.devRef .tc (Pipeline.arrRef spec9 1))))

theorem clip2 (t : Fin cfg9.N) : ∀ a, (win9_2.clip (grid9.coords t)) a = none := by
  have := (by decide +kernel : ∀ (t : Fin grid9.N) (a : Fin 2), (win9_2.clip (grid9.coords t)) a = none)
  exact this t

/-- Block of operand 2 at grid point `t`, which lies in the array. -/
def b2 (c : Dev nD) (t : Fin cfg9.N) : Vec F S1000x128 .f32 :=
  win9_2.fill (grid9.coords t) (fun _ => Classical.arbitrary _) ((win9_2.blk t).view.read (Elt F) (W c (Proc.devRef .tc (Pipeline.arrRef spec9 2))))

theorem clip3 (t : Fin cfg9.N) : ∀ a, (win9_3.clip (grid9.coords t)) a = none := by
  have := (by decide +kernel : ∀ (t : Fin grid9.N) (a : Fin 2), (win9_3.clip (grid9.coords t)) a = none)
  exact this t

/-- Block of operand 3 at grid point `t`, which lies in the array. -/
def b3 (c : Dev nD) (t : Fin cfg9.N) : Vec F S1000x16 .f32 :=
  win9_3.fill (grid9.coords t) (fun _ => Classical.arbitrary _) ((win9_3.blk t).view.read (Elt F) (W c (Proc.devRef .tc (Pipeline.arrRef spec9 3))))

/-- Block of operand 4 at grid point `t`. -/
def b4 (c : Dev nD) (t : Fin cfg9.N) : Vec F S512x256 .f32 :=
  (win9_4.blk t).view.read (Elt F) (W c (Proc.devRef .tc (Pipeline.arrRef spec9 4)))

/-- Block of operand 5 at grid point `t`. -/
def b5 (c : Dev nD) (t : Fin cfg9.N) : Vec F S1x256 .f32 :=
  (win9_5.blk t).view.read (Elt F) (W c (Proc.devRef .tc (Pipeline.arrRef spec9 5)))

/-- Block of operand 6 at grid point `t`. -/
def b6 (c : Dev nD) (t : Fin cfg9.N) : Vec F S256x128 .f32 :=
  (win9_6.blk t).view.read (Elt F) (W c (Proc.devRef .tc (Pipeline.arrRef spec9 6)))

/-- Block of operand 7 at grid point `t`. -/
def b7 (c : Dev nD) (t : Fin cfg9.N) : Vec F S1x128 .f32 :=
  (win9_7.blk t).view.read (Elt F) (W c (Proc.devRef .tc (Pipeline.arrRef spec9 7)))

/-- What grid point `t` leaves in result 0. -/
def o0 (c : Dev nD) (t : Fin cfg9.N) : Vec F S1000x128 .f32 := k9_pay1 (k9_pay4 (col1 (b1 W c t)) (col3 (b3 W c t)) (b0 W c t) (b2 W c t) (b4 W c t) (b5 W c t) (b6 W c t)) (b7 W c t)

/-- What grid point `t` leaves in result 1. -/
def o1 (c : Dev nD) (t : Fin cfg9.N) : Vec F S1000x128 .f32 := k9_pay2 (col1 (b1 W c t)) (b0 W c t)

/-- What grid point `t` leaves in result 2. -/
def o2 (c : Dev nD) (t : Fin cfg9.N) : Vec F S1000x128 .f32 := k9_pay3 (col3 (b3 W c t)) (b2 W c t)

/-- What the body leaves in the staging buffers. -/
def aft (c : Dev nD) : (w : Fin (cfgs 8).W) → Fin (cfgs 8).N → ((cfgs 8).win w).block.Idx → Elt F ((cfgs 8).win w).elt
  | 0 => fun t => b0 W c t
  | 1 => fun t => b1 W c t
  | 2 => fun t => b2 W c t
  | 3 => fun t => b3 W c t
  | 4 => fun t => b4 W c t
  | 5 => fun t => b5 W c t
  | 6 => fun t => b6 W c t
  | 7 => fun t => b7 W c t
  | 8 => fun t => o0 W c t
  | 9 => fun t => o1 W c t
  | 10 => fun t => o2 W c t
  | ⟨_ + 11, h⟩ => absurd h (Nat.not_lt.2 (Nat.le_add_left _ _))

theorem before0 (c : Dev nD) (t : Fin cfg9.N) (dd) : (mkDat 8 n W (aft W) c).before 0 t dd = b0 W c t :=
  (Dat.before_in_eq_fetched (mkDat 8 n W (aft W) c) 0 rfl (fun _ => rfl)
    (fun t t' _ => funext fun a => (clip0 t a).trans (clip0 t' a).symm)
    (fun t => win9_0.cut_fill _ _ _) t dd).trans (Pipeline.fill_of_clip_none (cfg := cfg9) 0 _ (clip0 t) _ _ _)

theorem before1 (c : Dev nD) (t : Fin cfg9.N) (dd) : (mkDat 8 n W (aft W) c).before 1 t dd = b1 W c t :=
  (Dat.before_in_eq_fetched (mkDat 8 n W (aft W) c) 1 rfl (fun _ => rfl)
    (fun t t' _ => funext fun a => (clip1 t a).trans (clip1 t' a).symm)
    (fun t => win9_1.cut_fill _ _ _) t dd).trans (Pipeline.fill_of_clip_none (cfg := cfg9) 1 _ (clip1 t) _ _ _)

theorem before2 (c : Dev nD) (t : Fin cfg9.N) (dd) : (mkDat 8 n W (aft W) c).before 2 t dd = b2 W c t :=
  (Dat.before_in_eq_fetched (mkDat 8 n W (aft W) c) 2 rfl (fun _ => rfl)
    (fun t t' _ => funext fun a => (clip2 t a).trans (clip2 t' a).symm)
    (fun t => win9_2.cut_fill _ _ _) t dd).trans (Pipeline.fill_of_clip_none (cfg := cfg9) 2 _ (clip2 t) _ _ _)

theorem before3 (c : Dev nD) (t : Fin cfg9.N) (dd) : (mkDat 8 n W (aft W) c).before 3 t dd = b3 W c t :=
  (Dat.before_in_eq_fetched (mkDat 8 n W (aft W) c) 3 rfl (fun _ => rfl)
    (fun t t' _ => funext fun a => (clip3 t a).trans (clip3 t' a).symm)
    (fun t => win9_3.cut_fill _ _ _) t dd).trans (Pipeline.fill_of_clip_none (cfg := cfg9) 3 _ (clip3 t) _ _ _)

theorem before4 (c : Dev nD) (t : Fin cfg9.N) (dd) : (mkDat 8 n W (aft W) c).before 4 t dd = b4 W c t :=
  (Dat.before_in_eq_fetched (mkDat 8 n W (aft W) c) 4 rfl (fun _ => rfl) (fun _ _ _ => rfl) (fun _ => rfl) t dd).trans rfl

theorem before5 (c : Dev nD) (t : Fin cfg9.N) (dd) : (mkDat 8 n W (aft W) c).before 5 t dd = b5 W c t :=
  (Dat.before_in_eq_fetched (mkDat 8 n W (aft W) c) 5 rfl (fun _ => rfl) (fun _ _ _ => rfl) (fun _ => rfl) t dd).trans rfl

theorem before6 (c : Dev nD) (t : Fin cfg9.N) (dd) : (mkDat 8 n W (aft W) c).before 6 t dd = b6 W c t :=
  (Dat.before_in_eq_fetched (mkDat 8 n W (aft W) c) 6 rfl (fun _ => rfl) (fun _ _ _ => rfl) (fun _ => rfl) t dd).trans rfl

theorem before7 (c : Dev nD) (t : Fin cfg9.N) (dd) : (mkDat 8 n W (aft W) c).before 7 t dd = b7 W c t :=
  (Dat.before_in_eq_fetched (mkDat 8 n W (aft W) c) 7 rfl (fun _ => rfl) (fun _ _ _ => rfl) (fun _ => rfl) t dd).trans rfl

/-- One grid point, the rest of the core's state carried along. -/
theorem point (c : Dev nD) (t : Fin cfg9.N) (R S : sProp 𝕄) :
    iprop(R ∗ S ∗ (∃ dd, own c (st9_0 t) ((mkDat 8 n W (aft W) c).before 0 t dd))
      ∗ (∃ dd, own c (st9_1 t) ((mkDat 8 n W (aft W) c).before 1 t dd))
      ∗ (∃ dd, own c (st9_2 t) ((mkDat 8 n W (aft W) c).before 2 t dd))
      ∗ (∃ dd, own c (st9_3 t) ((mkDat 8 n W (aft W) c).before 3 t dd))
      ∗ (∃ dd, own c (st9_4 t) ((mkDat 8 n W (aft W) c).before 4 t dd))
      ∗ (∃ dd, own c (st9_5 t) ((mkDat 8 n W (aft W) c).before 5 t dd))
      ∗ (∃ dd, own c (st9_6 t) ((mkDat 8 n W (aft W) c).before 6 t dd))
      ∗ (∃ dd, own c (st9_7 t) ((mkDat 8 n W (aft W) c).before 7 t dd))
      ∗ (∃ dd, own c (st9_8 t) ((mkDat 8 n W (aft W) c).before 8 t dd))
      ∗ (∃ dd, own c (st9_9 t) ((mkDat 8 n W (aft W) c).before 9 t dd))
      ∗ (∃ dd, own c (st9_10 t) ((mkDat 8 n W (aft W) c).before 10 t dd)))
    ⊢ wp frame (wpE (defs₀ (F := F)) 𝒱₀ (c.tc : Thread nD τ) none) Set.univ (bodyAt9 t) fun _ =>
      iprop(R ∗ S ∗ own c (st9_0 t) (b0 W c t)
        ∗ own c (st9_1 t) (b1 W c t)
        ∗ own c (st9_2 t) (b2 W c t)
        ∗ own c (st9_3 t) (b3 W c t)
        ∗ own c (st9_4 t) (b4 W c t)
        ∗ own c (st9_5 t) (b5 W c t)
        ∗ own c (st9_6 t) (b6 W c t)
        ∗ own c (st9_7 t) (b7 W c t)
        ∗ own c (st9_8 t) (o0 W c t)
        ∗ own c (st9_9 t) (o1 W c t)
        ∗ own c (st9_10 t) (o2 W c t)) := by
  simp only [before0, before1, before2, before3, before4, before5, before6, before7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body c (grid9.coords t) _ (hstage9_0 ((cfg9.slots t 0).cast nbuf9_0)) _ (hstage9_1 ((cfg9.slots t 1).cast nbuf9_1)) _ (hstage9_2 ((cfg9.slots t 2).cast nbuf9_2)) _ (hstage9_3 ((cfg9.slots t 3).cast nbuf9_3)) _ (hstage9_4 ((cfg9.slots t 4).cast nbuf9_4)) _ (hstage9_5 ((cfg9.slots t 5).cast nbuf9_5)) _ (hstage9_6 ((cfg9.slots t 6).cast nbuf9_6)) _ (hstage9_7 ((cfg9.slots t 7).cast nbuf9_7)) _ (hstage9_8 ((cfg9.slots t 8).cast nbuf9_8)) _ (hstage9_9 ((cfg9.slots t 9).cast nbuf9_9)) _ (hstage9_10 ((cfg9.slots t 10).cast nbuf9_10))
    (b0 W c t) (b1 W c t) (b2 W c t) (b3 W c t) (b4 W c t) (b5 W c t) (b6 W c t) (b7 W c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem obligation (c : Dev nD) :
    BodyObligationLoose (mkDat 8 n W (aft W) c) (defs₀ (F := F)) 𝒱₀ (none : HIx 1) Set.univ := by
  refine (show BodyObligation (mkDat 8 n W (aft W) c) (defs₀ (F := F)) 𝒱₀ (none : HIx 1) Set.univ from fun t => ?_).loose
  rw [show (mkDat 8 n W (aft W) c).Φ t.succ = (mkDat 8 n W (aft W) c).Φ t.castSucc from rfl,
    show (mkDat 8 n W (aft W) c).owesAt (none : HIx 1) t.succ = (mkDat 8 n W (aft W) c).owesAt (none : HIx 1) t.castSucc from rfl]
  rw [bigSep_W9, bigSep_W9]
  exact point n W c t _ _

end

end C9

end Cert.Proof.KernelIdeal
-- ==== Proof.IdealMain.lean ====
/-
  The program's run: the host operations, the nine TensorCore calls and the SparseCore call in their order, each taking the
  arrays from one contents to the next. Every weakly fair run ends with the arrays at the last of these contents, the
  arguments as they were and every semaphore at zero.
-/
module

public import proofs.«01_k».proof.Proof.IdealFund
public import proofs.«01_k».proof.Proof.IdealRows
public import proofs.«01_k».proof.Proof.IdealSeg0
public import proofs.«01_k».proof.Proof.IdealSeg1
public import proofs.«01_k».proof.Proof.IdealSeg7
public import proofs.«01_k».proof.Proof.IdealSeg8
public import proofs.«01_k».proof.Proof.IdealPt2
public import proofs.«01_k».proof.Proof.IdealPt3
public import proofs.«01_k».proof.Proof.IdealPt5
public import proofs.«01_k».proof.Proof.IdealPt6
public import proofs.«01_k».proof.Proof.IdealPt9

@[expose] public section

noncomputable section

namespace Cert.Proof.KernelIdeal

open Cert.KernelIdeal Cert.KernelIdeal.Gen Cert.Proof.Seg

open Idealize.ShloMosaic
open Idealize.ShloMosaic.ValueIdx
open Idealize.ShloMosaic.SparseCore (S V T)
open Idealize.ShloMosaic.SparseCore.Cfg (HIx Pay)
open Idealize.ShloMosaic.StableHlo (after held wp_seq seq)
open Idealize.ShloMosaic.Pipeline (Dat ucRefs unscopedBufs_held sub_ucRefs devRef_mem_ucRefs arrRef afterRegion pin cellsGhost toksInit LaunchFacts BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The host operations -/

abbrev opsA : List (HloOp τ sig (Elt F)) :=
  [StableHlo.reshape main_arg1 main_v0 (rfl : (.i32 : EltTy) = .i32) shapeCasts_S320000_S2500x1x128,
   StableHlo.reshape main_arg3 main_v1 (rfl : (.i32 : EltTy) = .i32) shapeCasts_S320000_S2500x1x128,
   StableHlo.reshape main_arg1 main_v2 (rfl : (.i32 : EltTy) = .i32) shapeCasts_S320000_S320x1x1000,
   StableHlo.reshape main_arg3 main_v3 (rfl : (.i32 : EltTy) = .i32) shapeCasts_S320000_S320x1x1000]

abbrev opsB : List (HloOp τ sig (Elt F)) :=
  [StableHlo.unary main_arg4 main_v6 ((extractStridedSlice S128x64 ![0, 0] · slices_S256x64_S128x64_0_0) : (⟨S256x64, .f32⟩ : BufTy).Contents (Elt F) → (⟨S128x64, .f32⟩ : BufTy).Contents (Elt F)),
   StableHlo.unary main_arg4 main_v7 ((extractStridedSlice S128x64 ![128, 0] · slices_S256x64_S128x64_128_0) : (⟨S256x64, .f32⟩ : BufTy).Contents (Elt F) → (⟨S128x64, .f32⟩ : BufTy).Contents (Elt F)),
   StableHlo.reshape main_arg5 main_v8 (rfl : (.f32 : EltTy) = .f32) shapeCasts_S64_S1x64]

abbrev opsC : List (HloOp τ sig (Elt F)) :=
  [StableHlo.unary main_v10 main_v11 (broadcastInDim S1x10240x128 ![1, 2] bcast_S10240x128_S1x10240x128_1_2 : (⟨S10240x128, .f32⟩ : BufTy).Contents (Elt F) → (⟨S1x10240x128, .f32⟩ : BufTy).Contents (Elt F)),
   StableHlo.unary main_v9 main_v12 (broadcastInDim S1x10240x128 ![1, 2] bcast_S10240x128_S1x10240x128_1_2 : (⟨S10240x128, .f32⟩ : BufTy).Contents (Elt F) → (⟨S1x10240x128, .f32⟩ : BufTy).Contents (Elt F)),
   StableHlo.binary main_v11 main_v12 main_v13 ((fun a b => concatenate S2x10240x128 0 [⟨S1x10240x128, a⟩, ⟨S1x10240x128, b⟩] concatenates_S1x10240x128_S1x10240x128_S2x10240x128_d0) : (⟨S1x10240x128, .f32⟩ : BufTy).Contents (Elt F) → (⟨S1x10240x128, .f32⟩ : BufTy).Contents (Elt F) → (⟨S2x10240x128, .f32⟩ : BufTy).Contents (Elt F)),
   StableHlo.unary main_v0 main_v14 (broadcastInDim S1x2500x1x128 ![1, 2, 3] bcast_S2500x1x128_S1x2500x1x128_1_2_3 : (⟨S2500x1x128, .i32⟩ : BufTy).Contents (Elt F) → (⟨S1x2500x1x128, .i32⟩ : BufTy).Contents (Elt F)),
   StableHlo.unary main_v1 main_v15 (broadcastInDim S1x2500x1x128 ![1, 2, 3] bcast_S2500x1x128_S1x2500x1x128_1_2_3 : (⟨S2500x1x128, .i32⟩ : BufTy).Contents (Elt F) → (⟨S1x2500x1x128, .i32⟩ : BufTy).Contents (Elt F)),
   StableHlo.binary main_v14 main_v15 main_v16 ((fun a b => concatenate S2x2500x1x128 0 [⟨S1x2500x1x128, a⟩, ⟨S1x2500x1x128, b⟩] concatenates_S1x2500x1x128_S1x2500x1x128_S2x2500x1x128_d0) : (⟨S1x2500x1x128, .i32⟩ : BufTy).Contents (Elt F) → (⟨S1x2500x1x128, .i32⟩ : BufTy).Contents (Elt F) → (⟨S2x2500x1x128, .i32⟩ : BufTy).Contents (Elt F))]

abbrev opsD : List (HloOp τ sig (Elt F)) :=
  [StableHlo.unary main_v17 main_v18 ((extractStridedSlice S1x2500x128x128 ![0, 0, 0, 0] · slices_S2x2500x128x128_S1x2500x128x128_0_0_0_0) : (⟨S2x2500x128x128, .f32⟩ : BufTy).Contents (Elt F) → (⟨S1x2500x128x128, .f32⟩ : BufTy).Contents (Elt F)),
   StableHlo.reshape main_v18 main_v19 (rfl : (.f32 : EltTy) = .f32) shapeCasts_S1x2500x128x128_S2500x128x128,
   StableHlo.reshape main_v19 main_v20 (rfl : (.f32 : EltTy) = .f32) shapeCasts_S2500x128x128_S320000x128,
   StableHlo.unary main_v17 main_v21 ((extractStridedSlice S1x2500x128x128 ![1, 0, 0, 0] · slices_S2x2500x128x128_S1x2500x128x128_1_0_0_0) : (⟨S2x2500x128x128, .f32⟩ : BufTy).Contents (Elt F) → (⟨S1x2500x128x128, .f32⟩ : BufTy).Contents (Elt F)),
   StableHlo.reshape main_v21 main_v22 (rfl : (.f32 : EltTy) = .f32) shapeCasts_S1x2500x128x128_S2500x128x128,
   StableHlo.reshape main_v22 main_v23 (rfl : (.f32 : EltTy) = .f32) shapeCasts_S2500x128x128_S320000x128,
   StableHlo.reshape main_arg6 main_v24 (rfl : (.f32 : EltTy) = .f32) shapeCasts_S64x1_S1x64,
   StableHlo.reshape main_arg7 main_v25 (rfl : (.f32 : EltTy) = .f32) shapeCasts_S1_S1x1]

abbrev opsE : List (HloOp τ sig (Elt F)) :=
  [StableHlo.reshape main_arg9 main_v30 (rfl : (.f32 : EltTy) = .f32) shapeCasts_S256_S1x256,
   StableHlo.reshape main_arg11 main_v31 (rfl : (.f32 : EltTy) = .f32) shapeCasts_S128_S1x128]

theorem subA : ∀ op ∈ (opsA : List (HloOp τ sig (Elt F))), op.bufs ⊆ ucRefs τ sig := fun op h =>
  sub_ucRefs op (by
    simp only [opsA, List.mem_cons, List.not_mem_nil, or_false] at h
    rcases h with rfl | rfl | rfl | rfl
    exacts [StableHlo.reshape_bufs_sub .., StableHlo.reshape_bufs_sub .., StableHlo.reshape_bufs_sub .., StableHlo.reshape_bufs_sub ..])
theorem freshA : ∀ op ∈ (opsA : List (HloOp τ sig (Elt F))), op.fresh = ∅ :=
  List.forall_iff_forall_mem.mp (StableHlo.forall_fresh_of_map rfl)
theorem keepA (X : Valuation τ sig (Elt F)) (r : Ref sig .tc) (hr : r ∉ ([main_v0, main_v1, main_v2, main_v3] : List (Ref sig .tc))) :
    after opsA X (Proc.devRef .tc r) = X (Proc.devRef .tc r) :=
  StableHlo.after_of_writes_sub opsA X (StableHlo.forall_writes_sub_of_map rfl) hr

theorem subB : ∀ op ∈ (opsB : List (HloOp τ sig (Elt F))), op.bufs ⊆ ucRefs τ sig := fun op h =>
  sub_ucRefs op (by
    simp only [opsB, List.mem_cons, List.not_mem_nil, or_false] at h
    rcases h with rfl | rfl | rfl
    exacts [StableHlo.unary_bufs_sub .., StableHlo.unary_bufs_sub .., StableHlo.reshape_bufs_sub ..])
theorem freshB : ∀ op ∈ (opsB : List (HloOp τ sig (Elt F))), op.fresh = ∅ :=
  List.forall_iff_forall_mem.mp (StableHlo.forall_fresh_of_map rfl)
theorem keepB (X : Valuation τ sig (Elt F)) (r : Ref sig .tc) (hr : r ∉ ([main_v6, main_v7, main_v8] : List (Ref sig .tc))) :
    after opsB X (Proc.devRef .tc r) = X (Proc.devRef .tc r) :=
  StableHlo.after_of_writes_sub opsB X (StableHlo.forall_writes_sub_of_map rfl) hr

theorem subC : ∀ op ∈ (opsC : List (HloOp τ sig (Elt F))), op.bufs ⊆ ucRefs τ sig := fun op h =>
  sub_ucRefs op (by
    simp only [opsC, List.mem_cons, List.not_mem_nil, or_false] at h
    rcases h with rfl | rfl | rfl | rfl | rfl | rfl
    exacts [StableHlo.unary_bufs_sub .., StableHlo.unary_bufs_sub .., StableHlo.binary_bufs_sub .., StableHlo.unary_bufs_sub .., StableHlo.unary_bufs_sub .., StableHlo.binary_bufs_sub ..])
theorem freshC : ∀ op ∈ (opsC : List (HloOp τ sig (Elt F))), op.fresh = ∅ :=
  List.forall_iff_forall_mem.mp (StableHlo.forall_fresh_of_map rfl)
theorem keepC (X : Valuation τ sig (Elt F)) (r : Ref sig .tc) (hr : r ∉ ([main_v11, main_v12, main_v13, main_v14, main_v15, main_v16] : List (Ref sig .tc))) :
    after opsC X (Proc.devRef .tc r) = X (Proc.devRef .tc r) :=
  StableHlo.after_of_writes_sub opsC X (StableHlo.forall_writes_sub_of_map rfl) hr

theorem subD : ∀ op ∈ (opsD : List (HloOp τ sig (Elt F))), op.bufs ⊆ ucRefs τ sig := fun op h =>
  sub_ucRefs op (by
    simp only [opsD, List.mem_cons, List.not_mem_nil, or_false] at h
    rcases h with rfl | rfl | rfl | rfl | rfl | rfl | rfl | rfl
    exacts [StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.reshape_bufs_sub ..])
theorem freshD : ∀ op ∈ (opsD : List (HloOp τ sig (Elt F))), op.fresh = ∅ :=
  List.forall_iff_forall_mem.mp (StableHlo.forall_fresh_of_map rfl)
theorem keepD (X : Valuation τ sig (Elt F)) (r : Ref sig .tc) (hr : r ∉ ([main_v18, main_v19, main_v20, main_v21, main_v22, main_v23, main_v24, main_v25] : List (Ref sig .tc))) :
    after opsD X (Proc.devRef .tc r) = X (Proc.devRef .tc r) :=
  StableHlo.after_of_writes_sub opsD X (StableHlo.forall_writes_sub_of_map rfl) hr

theorem subE : ∀ op ∈ (opsE : List (HloOp τ sig (Elt F))), op.bufs ⊆ ucRefs τ sig := fun op h =>
  sub_ucRefs op (by
    simp only [opsE, List.mem_cons, List.not_mem_nil, or_false] at h
    rcases h with rfl | rfl
    exacts [StableHlo.reshape_bufs_sub .., StableHlo.reshape_bufs_sub ..])
theorem freshE : ∀ op ∈ (opsE : List (HloOp τ sig (Elt F))), op.fresh = ∅ :=
  List.forall_iff_forall_mem.mp (StableHlo.forall_fresh_of_map rfl)
theorem keepE (X : Valuation τ sig (Elt F)) (r : Ref sig .tc) (hr : r ∉ ([main_v30, main_v31] : List (Ref sig .tc))) :
    after opsE X (Proc.devRef .tc r) = X (Proc.devRef .tc r) :=
  StableHlo.after_of_writes_sub opsE X (StableHlo.forall_writes_sub_of_map rfl) hr

set_option maxRecDepth 4000 in
theorem main_eq (d : Dev nD) :
    main (F := F) d = (seq opsA >>= fun _ =>
      Prog.lift (.customCall (SparseCore.inner (Pipeline.entry 0)) ()) >>= fun _ =>
      Prog.lift (.customCall (SparseCore.inner (Pipeline.entry 1)) ()) >>= fun _ =>
      seq opsB >>= fun _ =>
      Prog.lift (.customCall (SparseCore.inner (Pipeline.entry 2)) ()) >>= fun _ =>
      Prog.lift (.customCall (SparseCore.inner (Pipeline.entry 3)) ()) >>= fun _ =>
      seq opsC >>= fun _ =>
      (sc (F := F)).run d 0 >>= fun _ =>
      seq opsD >>= fun _ =>
      Prog.lift (.customCall (SparseCore.inner (Pipeline.entry 4)) ()) >>= fun _ =>
      Prog.lift (.customCall (SparseCore.inner (Pipeline.entry 5)) ()) >>= fun _ =>
      Prog.lift (.customCall (SparseCore.inner (Pipeline.entry 6)) ()) >>= fun _ =>
      Prog.lift (.customCall (SparseCore.inner (Pipeline.entry 7)) ()) >>= fun _ =>
      seq opsE >>= fun _ =>
      Prog.lift (.customCall (SparseCore.inner (Pipeline.entry 8)) ()) >>= fun _ => pure ⟨⟩) := by
  simp only [main, seq, bind_assoc, pure_bind]

/-! ## What the arrays hold -/

abbrev aT : DevRef τ sig := Proc.devRef .tc (main_v13 : Ref sig .tc)
abbrev aI : DevRef τ sig := Proc.devRef .tc (main_v16 : Ref sig .tc)
abbrev aO : DevRef τ sig := Proc.devRef .tc (main_v17 : Ref sig .tc)

/-- The arrays' contents at the start. -/
def V0 (d : Dev nD) : Valuation τ sig (Elt F) := fun b => m (d, b)
/-- After 4 host operations. -/
def V1 (d : Dev nD) : Valuation τ sig (Elt F) := after opsA (V0 m d)
/-- After TensorCore call 0. -/
def V2 (d : Dev nD) : Valuation τ sig (Elt F) := afterRegion (mkDat 0 0 (V1 m) (C0.aft (V1 m)) d) (V1 m d)
/-- After TensorCore call 1. -/
def V3 (d : Dev nD) : Valuation τ sig (Elt F) := afterRegion (mkDat 1 0 (V2 m) (C1.aft (V2 m)) d) (V2 m d)
/-- After 3 host operations. -/
def V4 (d : Dev nD) : Valuation τ sig (Elt F) := after opsB (V3 m d)
/-- After TensorCore call 2. -/
def V5 (d : Dev nD) : Valuation τ sig (Elt F) := afterRegion (mkDat 2 0 (V4 m) (C2.aft (V4 m)) d) (V4 m d)
/-- After TensorCore call 3. -/
def V6 (d : Dev nD) : Valuation τ sig (Elt F) := afterRegion (mkDat 3 0 (V5 m) (C3.aft (V5 m)) d) (V5 m d)
/-- After 6 host operations. -/
def V7 (d : Dev nD) : Valuation τ sig (Elt F) := after opsC (V6 m d)
abbrev tabs (d : Dev nD) : Buf (Elt F) (tLoc d) := V7 m d aT
abbrev idxs (d : Dev nD) : Buf (Elt F) (iLoc d) := V7 m d aI
/-- After the SparseCore call. -/
def V8 (d : Dev nD) : Valuation τ sig (Elt F) := Function.update (V7 m d) aO (G (tabs m) (idxs m) d)
/-- After 8 host operations. -/
def V9 (d : Dev nD) : Valuation τ sig (Elt F) := after opsD (V8 m d)
/-- After TensorCore call 4. -/
def V10 (d : Dev nD) : Valuation τ sig (Elt F) := afterRegion (mkDat 4 1 (V9 m) (C5.aft (V9 m)) d) (V9 m d)
/-- After TensorCore call 5. -/
def V11 (d : Dev nD) : Valuation τ sig (Elt F) := afterRegion (mkDat 5 1 (V10 m) (C6.aft (V10 m)) d) (V10 m d)
/-- After TensorCore call 6. -/
def V12 (d : Dev nD) : Valuation τ sig (Elt F) := afterRegion (mkDat 6 1 (V11 m) (C7.aft (V11 m)) d) (V11 m d)
/-- After TensorCore call 7. -/
def V13 (d : Dev nD) : Valuation τ sig (Elt F) := afterRegion (mkDat 7 1 (V12 m) (C8.aft (V12 m)) d) (V12 m d)
/-- After 2 host operations. -/
def V14 (d : Dev nD) : Valuation τ sig (Elt F) := after opsE (V13 m d)
/-- After TensorCore call 8. -/
def V15 (d : Dev nD) : Valuation τ sig (Elt F) := afterRegion (mkDat 8 1 (V14 m) (C9.aft (V14 m)) d) (V14 m d)

/-! ## Buffers a step does not write -/

theorem K1 (d : Dev nD) (r : Ref sig .tc) (hr : r ∉ ([main_v0, main_v1, main_v2, main_v3] : List (Ref sig .tc))) :
    V1 m d (Proc.devRef .tc r) = V0 m d (Proc.devRef .tc r) := keepA _ r hr
theorem K2 (d : Dev nD) (r : Ref sig .tc) (hr : ∀ w, arrRef (cfgs 0).spec w = r → ((cfgs 0).win w).isOut = false) :
    V2 m d (Proc.devRef .tc r) = V1 m d (Proc.devRef .tc r) :=
  Pipeline.afterRegion_keeps (mkDat 0 0 (V1 m) (C0.aft (V1 m)) d) (V1 m d) launch0.win.arr_inj (fun _ => rfl) r hr
theorem K3 (d : Dev nD) (r : Ref sig .tc) (hr : ∀ w, arrRef (cfgs 1).spec w = r → ((cfgs 1).win w).isOut = false) :
    V3 m d (Proc.devRef .tc r) = V2 m d (Proc.devRef .tc r) :=
  Pipeline.afterRegion_keeps (mkDat 1 0 (V2 m) (C1.aft (V2 m)) d) (V2 m d) launch1.win.arr_inj (fun _ => rfl) r hr
theorem K4 (d : Dev nD) (r : Ref sig .tc) (hr : r ∉ ([main_v6, main_v7, main_v8] : List (Ref sig .tc))) :
    V4 m d (Proc.devRef .tc r) = V3 m d (Proc.devRef .tc r) := keepB _ r hr
theorem K5 (d : Dev nD) (r : Ref sig .tc) (hr : ∀ w, arrRef (cfgs 2).spec w = r → ((cfgs 2).win w).isOut = false) :
    V5 m d (Proc.devRef .tc r) = V4 m d (Proc.devRef .tc r) :=
  Pipeline.afterRegion_keeps (mkDat 2 0 (V4 m) (C2.aft (V4 m)) d) (V4 m d) launch2.win.arr_inj (fun _ => rfl) r hr
theorem K6 (d : Dev nD) (r : Ref sig .tc) (hr : ∀ w, arrRef (cfgs 3).spec w = r → ((cfgs 3).win w).isOut = false) :
    V6 m d (Proc.devRef .tc r) = V5 m d (Proc.devRef .tc r) :=
  Pipeline.afterRegion_keeps (mkDat 3 0 (V5 m) (C3.aft (V5 m)) d) (V5 m d) launch3.win.arr_inj (fun _ => rfl) r hr
theorem K7 (d : Dev nD) (r : Ref sig .tc) (hr : r ∉ ([main_v11, main_v12, main_v13, main_v14, main_v15, main_v16] : List (Ref sig .tc))) :
    V7 m d (Proc.devRef .tc r) = V6 m d (Proc.devRef .tc r) := keepC _ r hr
theorem K8 (d : Dev nD) (r : Ref sig .tc) (hr : r ≠ main_v17) :
    V8 m d (Proc.devRef .tc r) = V7 m d (Proc.devRef .tc r) := by
  unfold V8
  rw [Function.update_of_ne (StableHlo.devRef_ne_of_ne hr)]
theorem K9 (d : Dev nD) (r : Ref sig .tc) (hr : r ∉ ([main_v18, main_v19, main_v20, main_v21, main_v22, main_v23, main_v24, main_v25] : List (Ref sig .tc))) :
    V9 m d (Proc.devRef .tc r) = V8 m d (Proc.devRef .tc r) := keepD _ r hr
theorem K10 (d : Dev nD) (r : Ref sig .tc) (hr : ∀ w, arrRef (cfgs 4).spec w = r → ((cfgs 4).win w).isOut = false) :
    V10 m d (Proc.devRef .tc r) = V9 m d (Proc.devRef .tc r) :=
  Pipeline.afterRegion_keeps (mkDat 4 1 (V9 m) (C5.aft (V9 m)) d) (V9 m d) launch5.win.arr_inj (fun _ => rfl) r hr
theorem K11 (d : Dev nD) (r : Ref sig .tc) (hr : ∀ w, arrRef (cfgs 5).spec w = r → ((cfgs 5).win w).isOut = false) :
    V11 m d (Proc.devRef .tc r) = V10 m d (Proc.devRef .tc r) :=
  Pipeline.afterRegion_keeps (mkDat 5 1 (V10 m) (C6.aft (V10 m)) d) (V10 m d) launch6.win.arr_inj (fun _ => rfl) r hr
theorem K12 (d : Dev nD) (r : Ref sig .tc) (hr : ∀ w, arrRef (cfgs 6).spec w = r → ((cfgs 6).win w).isOut = false) :
    V12 m d (Proc.devRef .tc r) = V11 m d (Proc.devRef .tc r) :=
  Pipeline.afterRegion_keeps (mkDat 6 1 (V11 m) (C7.aft (V11 m)) d) (V11 m d) launch7.win.arr_inj (fun _ => rfl) r hr
theorem K13 (d : Dev nD) (r : Ref sig .tc) (hr : ∀ w, arrRef (cfgs 7).spec w = r → ((cfgs 7).win w).isOut = false) :
    V13 m d (Proc.devRef .tc r) = V12 m d (Proc.devRef .tc r) :=
  Pipeline.afterRegion_keeps (mkDat 7 1 (V12 m) (C8.aft (V12 m)) d) (V12 m d) launch8.win.arr_inj (fun _ => rfl) r hr
theorem K14 (d : Dev nD) (r : Ref sig .tc) (hr : r ∉ ([main_v30, main_v31] : List (Ref sig .tc))) :
    V14 m d (Proc.devRef .tc r) = V13 m d (Proc.devRef .tc r) := keepE _ r hr
theorem K15 (d : Dev nD) (r : Ref sig .tc) (hr : ∀ w, arrRef (cfgs 8).spec w = r → ((cfgs 8).win w).isOut = false) :
    V15 m d (Proc.devRef .tc r) = V14 m d (Proc.devRef .tc r) :=
  Pipeline.afterRegion_keeps (mkDat 8 1 (V14 m) (C9.aft (V14 m)) d) (V14 m d) launch9.win.arr_inj (fun _ => rfl) r hr

/-- Nothing after the first host operations writes the buffer. -/
abbrev Kept (r : Ref sig .tc) : Prop :=
  r ∉ ([main_v6, main_v7, main_v8] : List (Ref sig .tc)) ∧ r ∉ ([main_v11, main_v12, main_v13, main_v14, main_v15, main_v16] : List (Ref sig .tc))
    ∧ r ∉ ([main_v18, main_v19, main_v20, main_v21, main_v22, main_v23, main_v24, main_v25] : List (Ref sig .tc)) ∧ r ∉ ([main_v30, main_v31] : List (Ref sig .tc))
    ∧ r ≠ main_v17 ∧ ∀ p w, arrRef (cfgs p).spec w = r → ((cfgs p).win w).isOut = false

theorem from1 (d : Dev nD) (r : Ref sig .tc) (_ : Kept r) : V1 m d (Proc.devRef .tc r) = V1 m d (Proc.devRef .tc r) := rfl
theorem from2 (d : Dev nD) (r : Ref sig .tc) (h : Kept r) : V2 m d (Proc.devRef .tc r) = V1 m d (Proc.devRef .tc r) :=
  (K2 m d r (h.2.2.2.2.2 0)).trans (from1 m d r h)
theorem from3 (d : Dev nD) (r : Ref sig .tc) (h : Kept r) : V3 m d (Proc.devRef .tc r) = V1 m d (Proc.devRef .tc r) :=
  (K3 m d r (h.2.2.2.2.2 1)).trans (from2 m d r h)
theorem from4 (d : Dev nD) (r : Ref sig .tc) (h : Kept r) : V4 m d (Proc.devRef .tc r) = V1 m d (Proc.devRef .tc r) :=
  (K4 m d r h.1).trans (from3 m d r h)
theorem from5 (d : Dev nD) (r : Ref sig .tc) (h : Kept r) : V5 m d (Proc.devRef .tc r) = V1 m d (Proc.devRef .tc r) :=
  (K5 m d r (h.2.2.2.2.2 2)).trans (from4 m d r h)
theorem from6 (d : Dev nD) (r : Ref sig .tc) (h : Kept r) : V6 m d (Proc.devRef .tc r) = V1 m d (Proc.devRef .tc r) :=
  (K6 m d r (h.2.2.2.2.2 3)).trans (from5 m d r h)
theorem from7 (d : Dev nD) (r : Ref sig .tc) (h : Kept r) : V7 m d (Proc.devRef .tc r) = V1 m d (Proc.devRef .tc r) :=
  (K7 m d r h.2.1).trans (from6 m d r h)
theorem from8 (d : Dev nD) (r : Ref sig .tc) (h : Kept r) : V8 m d (Proc.devRef .tc r) = V1 m d (Proc.devRef .tc r) :=
  (K8 m d r h.2.2.2.2.1).trans (from7 m d r h)
theorem from9 (d : Dev nD) (r : Ref sig .tc) (h : Kept r) : V9 m d (Proc.devRef .tc r) = V1 m d (Proc.devRef .tc r) :=
  (K9 m d r h.2.2.1).trans (from8 m d r h)
theorem from10 (d : Dev nD) (r : Ref sig .tc) (h : Kept r) : V10 m d (Proc.devRef .tc r) = V1 m d (Proc.devRef .tc r) :=
  (K10 m d r (h.2.2.2.2.2 4)).trans (from9 m d r h)
theorem from11 (d : Dev nD) (r : Ref sig .tc) (h : Kept r) : V11 m d (Proc.devRef .tc r) = V1 m d (Proc.devRef .tc r) :=
  (K11 m d r (h.2.2.2.2.2 5)).trans (from10 m d r h)
theorem from12 (d : Dev nD) (r : Ref sig .tc) (h : Kept r) : V12 m d (Proc.devRef .tc r) = V1 m d (Proc.devRef .tc r) :=
  (K12 m d r (h.2.2.2.2.2 6)).trans (from11 m d r h)
theorem from13 (d : Dev nD) (r : Ref sig .tc) (h : Kept r) : V13 m d (Proc.devRef .tc r) = V1 m d (Proc.devRef .tc r) :=
  (K13 m d r (h.2.2.2.2.2 7)).trans (from12 m d r h)
theorem from14 (d : Dev nD) (r : Ref sig .tc) (h : Kept r) : V14 m d (Proc.devRef .tc r) = V1 m d (Proc.devRef .tc r) :=
  (K14 m d r h.2.2.2.1).trans (from13 m d r h)
theorem from15 (d : Dev nD) (r : Ref sig .tc) (h : Kept r) : V15 m d (Proc.devRef .tc r) = V1 m d (Proc.devRef .tc r) :=
  (K15 m d r (h.2.2.2.2.2 8)).trans (from14 m d r h)

/-- The arguments are as they were. -/
theorem kept (d : Dev nD) (r : Ref sig .tc) (h : Kept r) (h' : r ∉ ([main_v0, main_v1, main_v2, main_v3] : List (Ref sig .tc))) :
    V15 m d (Proc.devRef .tc r) = V0 m d (Proc.devRef .tc r) :=
  (from15 m d r h).trans (K1 m d r h')

/-! ## The index arrays -/

/-- The row numbers the run is given are rows of the tables. -/
def PreOK : Prop := ∀ (d : Dev nD) (i : S320000.Idx),
  BitVec.toNat (m ((SparseCore.T d).loc main_arg1) i) < 10000 ∧ BitVec.toNat (m ((SparseCore.T d).loc main_arg3) i) < 10000

theorem v2_eq (d : Dev nD) : V1 m d (Proc.devRef .tc main_v2)
    = shapeCast S320x1x1000 (m ((SparseCore.T d).loc main_arg1)) shapeCasts_S320000_S320x1x1000 := by
  unfold V1
  after_results
  rfl
theorem v3_eq (d : Dev nD) : V1 m d (Proc.devRef .tc main_v3)
    = shapeCast S320x1x1000 (m ((SparseCore.T d).loc main_arg3)) shapeCasts_S320000_S320x1x1000 := by
  unfold V1
  after_results
  rfl
theorem v0_eq (d : Dev nD) : V1 m d (Proc.devRef .tc main_v0)
    = shapeCast S2500x1x128 (m ((SparseCore.T d).loc main_arg1)) shapeCasts_S320000_S2500x1x128 := by
  unfold V1
  after_results
  rfl
theorem v1_eq (d : Dev nD) : V1 m d (Proc.devRef .tc main_v1)
    = shapeCast S2500x1x128 (m ((SparseCore.T d).loc main_arg3)) shapeCasts_S320000_S2500x1x128 := by
  unfold V1
  after_results
  rfl

theorem v3_at2 (d : Dev nD) : V2 m d (Proc.devRef .tc main_v3) = V1 m d (Proc.devRef .tc main_v3) :=
  from2 m d main_v3 (by decide)
theorem v2_at11 (d : Dev nD) : V11 m d (Proc.devRef .tc main_v2) = V1 m d (Proc.devRef .tc main_v2) :=
  from11 m d main_v2 (by decide)
theorem v3_at12 (d : Dev nD) : V12 m d (Proc.devRef .tc main_v3) = V1 m d (Proc.devRef .tc main_v3) :=
  from12 m d main_v3 (by decide)

theorem inR0 (h : PreOK m) (d : Dev nD) : ∀ t, InR (C0.iB (V1 m) d t) := fun t y => by
  show BitVec.toNat (V1 m d (Proc.devRef .tc main_v2) _) < 10000
  rw [v2_eq]
  exact (h d _).1
theorem inR1 (h : PreOK m) (d : Dev nD) : ∀ t, InR (C1.iB (V2 m) d t) := fun t y => by
  show BitVec.toNat (V2 m d (Proc.devRef .tc main_v3) _) < 10000
  rw [v3_at2, v3_eq]
  exact (h d _).2
theorem inR6 (h : PreOK m) (d : Dev nD) : ∀ t, InR (C7.iB (V11 m) d t) := fun t y => by
  show BitVec.toNat (V11 m d (Proc.devRef .tc main_v2) _) < 10000
  rw [v2_at11, v2_eq]
  exact (h d _).1
theorem inR7 (h : PreOK m) (d : Dev nD) : ∀ t, InR (C8.iB (V12 m) d t) := fun t y => by
  show BitVec.toNat (V12 m d (Proc.devRef .tc main_v3) _) < 10000
  rw [v3_at12, v3_eq]
  exact (h d _).2

theorem idxs_eq (d : Dev nD) : idxs m d = lists (m ((SparseCore.T d).loc main_arg1)) (m ((SparseCore.T d).loc main_arg3)) := by
  unfold idxs V7 aI
  after_results
  rw [show V6 m d (Proc.devRef .tc main_v0) = V1 m d (Proc.devRef .tc main_v0) from from6 m d main_v0 (by decide),
    show V6 m d (Proc.devRef .tc main_v1) = V1 m d (Proc.devRef .tc main_v1) from from6 m d main_v1 (by decide), v0_eq, v1_eq]
  rfl

theorem tabs_eq (d : Dev nD) : tabs m d = tables (V6 m d (Proc.devRef .tc main_v10)) (V6 m d (Proc.devRef .tc main_v9)) := by
  unfold tabs V7 aT
  after_results
  rfl

theorem rows_ok (h : PreOK m) : InRows (idxs m) := fun d j => by
  rw [idxs_eq]
  exact lists_lt _ _ 10240 (fun i => lt_trans (h d i).1 (by norm_num)) (fun i => lt_trans (h d i).2 (by norm_num)) j

/-- What is owed to SparseCore beside the signals. -/
def rest (n : ℕ) (d : Dev nD) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (n : ℕ) (d : Dev nD) : ((K (F := F)).tcSt EH d n : sProp 𝕄) = iprop(owing (F := F) n d ∗ rest (F := F) n d) := rfl

theorem nine (Φ : Fin 9 → sProp 𝕄) : bigSep Finset.univ Φ
    = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

/-! ## The three arrays of the SparseCore call out of all, and back -/

theorem aT_mem : aT ∈ ucRefs τ sig := devRef_mem_ucRefs rfl
theorem aI_mem : aI ∈ ucRefs τ sig := devRef_mem_ucRefs rfl
theorem aO_mem : aO ∈ ucRefs τ sig := devRef_mem_ucRefs rfl
abbrev others : Finset (DevRef τ sig) := (((ucRefs τ sig).erase aT).erase aI).erase aO

theorem split3 (d : Dev nD) (W : Valuation τ sig (Elt F)) :
    (held (SparseCore.T d) (ucRefs τ sig) W : sProp 𝕄)
      = iprop((tLoc d ↦{fullShare} W aT) ∗ (iLoc d ↦{fullShare} W aI) ∗ (oLoc d ↦{fullShare} W aO) ∗ held (SparseCore.T d) others W) := by
  unfold held
  rw [SparseCore.bigSep_erase' aT_mem,
    SparseCore.bigSep_erase' (s := (ucRefs τ sig).erase aT) (i := aI) (Finset.mem_erase.mpr ⟨by decide, aI_mem⟩),
    SparseCore.bigSep_erase' (s := ((ucRefs τ sig).erase aT).erase aI) (i := aO)
      (Finset.mem_erase.mpr ⟨by decide, Finset.mem_erase.mpr ⟨by decide, aO_mem⟩⟩)]

theorem others_eq (d : Dev nD) : (held (SparseCore.T d) others (V7 m d) : sProp 𝕄) = held (SparseCore.T d) others (V8 m d) :=
  bigSep_congr fun b hb => by
    unfold V8
    rw [Function.update_of_ne (Finset.ne_of_mem_erase hb)]

theorem back3 (d : Dev nD) :
    (held (SparseCore.T d) (ucRefs τ sig) (V8 m d) : sProp 𝕄)
      = iprop((tLoc d ↦{fullShare} tabs m d) ∗ (iLoc d ↦{fullShare} idxs m d) ∗ (oLoc d ↦{fullShare} G (tabs m) (idxs m) d)
          ∗ held (SparseCore.T d) others (V7 m d)) := by
  rw [split3, others_eq]
  rw [show V8 m d aT = tabs m d from Function.update_of_ne (by decide) _ _,
    show V8 m d aI = idxs m d from Function.update_of_ne (by decide) _ _,
    show V8 m d aO = G (tabs m) (idxs m) d from Function.update_self _ _ _]

/-! ## @main -/

/-- A TensorCore call, what it needs of the launch's ghost state given as one. -/
theorem step (p : Fin 9) (n : ℕ) (W : Dev nD → Valuation τ sig (Elt F))
    (aft : (c : Dev nD) → (w : Fin (cfgs p).W) → Fin (cfgs p).N → ((cfgs p).win w).block.Idx → Elt F ((cfgs p).win w).elt)
    (kit : LaunchFacts (nD := nD) (τ := τ) cfgs p)
    (hbody : ∀ c, BodyObligationLoose (mkDat p n W aft c) (defs₀ (F := F)) 𝒱₀ (none : HIx 1) Set.univ)
    (κ : GSem nD τ sig → ℕ) (d : Dev nD) (Q : PUnit → sProp 𝕄) :
    iprop((K (F := F)).ctx EH (P (tabs m) (idxs m)) κ ∗ boundary (SparseCore.T d) ∗ held (SparseCore.T d) (ucRefs τ sig) (W d) ∗ owing (F := F) n d ∗ fuel (F := F) p d
        ∗ (iprop(boundary (SparseCore.T d) ∗ held (SparseCore.T d) (ucRefs τ sig) (afterRegion (mkDat p n W aft d) (W d)) ∗ owing (F := F) n d) -∗ Q ⟨⟩))
      ⊢ wp frame (wpE ((K (F := F)).defs (D (F := F))) 𝒱 (SparseCore.T d) none) Set.univ
          (Prog.lift (.customCall (SparseCore.inner (Pipeline.entry p)) ())) Q := by
  refine BIBase.Entails.trans ?_ (wp_region p n W aft kit hbody d Q)
  unfold fuel
  iintro ⟨#Hctx, Hb, Hh, HO, ⟨Hc, Ht⟩, Hk⟩
  ihave Hlev := (SparseCore.Cfg.ctx_levAts (K := K (F := F)) (EH := EH) (P := P (tabs m) (idxs m)) κ) $$ Hctx
  iframe Hk Hb Hh HO Hlev
  isplitl [Hc] <;> iassumption

/-- What @main leaves: every array at its last contents. -/
abbrev FIN (d : Dev nD) : sProp 𝕄 := held (SparseCore.T d) (ucRefs τ sig) (V15 m d)

set_option backward.isDefEq.respectTransparency.types false in
set_option maxHeartbeats 1000000 in
/-- @main on a device's TensorCore. -/
theorem hmain (hpre : PreOK m) (κ : GSem nD τ sig → ℕ) (d : Dev nD) :
    iprop((K (F := F)).ctx EH (P (tabs m) (idxs m)) κ ∗ (K (F := F)).tcSt EH d 0 ∗ (K (F := F)).tcRes m ρ d ∗ fuels (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d)
    from unscopedBufs_held d (V0 m d), main_eq, tcSt_eq, show (fuels (F := F) d : sProp 𝕄) = _ from nine (F := F) _]
  iintro ⟨#Hctx, ⟨HO, HR⟩, ⟨Hb, Hheld, Hts, -⟩, ⟨Hf0, Hf1, Hf2, Hf3, Hf4, Hf5, Hf6, Hf7, Hf8⟩⟩
  iapply (wp_seq 𝒱 none Set.univ d (ucRefs τ sig) _ opsA subA freshA (V0 m d)) $$ [Hb Hheld]
  · iframe Hb Hheld
  iintro ⟨Hb, Hheld⟩
  rw [wp_bind]
  iapply (step m 0 0 (V1 m) (C0.aft (V1 m)) launch0 (fun c => C0.obligation 0 (V1 m) c (inR0 m hpre c)) κ d) $$ [Hb Hheld HO HR Hts Hf0 Hf1 Hf2 Hf3 Hf4 Hf5 Hf6 Hf7 Hf8]
  isplitr; · iexact Hctx
  iframe Hb Hheld HO Hf0
  iintro ⟨Hb, Hheld, HO⟩
  rw [wp_bind]
  iapply (step m 1 0 (V2 m) (C1.aft (V2 m)) launch1 (fun c => C1.obligation 0 (V2 m) c (inR1 m hpre c)) κ d) $$ [Hb Hheld HO HR Hts Hf1 Hf2 Hf3 Hf4 Hf5 Hf6 Hf7 Hf8]
  isplitr; · iexact Hctx
  iframe Hb Hheld HO Hf1
  iintro ⟨Hb, Hheld, HO⟩
  iapply (wp_seq 𝒱 none Set.univ d (ucRefs τ sig) _ opsB subB freshB (V3 m d)) $$ [Hb Hheld]
  · iframe Hb Hheld
  iintro ⟨Hb, Hheld⟩
  rw [wp_bind]
  iapply (step m 2 0 (V4 m) (C2.aft (V4 m)) launch2 (fun c => C2.obligation 0 (V4 m) c) κ d) $$ [Hb Hheld HO HR Hts Hf2 Hf3 Hf4 Hf5 Hf6 Hf7 Hf8]
  isplitr; · iexact Hctx
  iframe Hb Hheld HO Hf2
  iintro ⟨Hb, Hheld, HO⟩
  rw [wp_bind]
  iapply (step m 3 0 (V5 m) (C3.aft (V5 m)) launch3 (fun c => C3.obligation 0 (V5 m) c) κ d) $$ [Hb Hheld HO HR Hts Hf3 Hf4 Hf5 Hf6 Hf7 Hf8]
  isplitr; · iexact Hctx
  iframe Hb Hheld HO Hf3
  iintro ⟨Hb, Hheld, HO⟩
  iapply (wp_seq 𝒱 none Set.univ d (ucRefs τ sig) _ opsC subC freshC (V6 m d)) $$ [Hb Hheld]
  · iframe Hb Hheld
  iintro ⟨Hb, Hheld⟩
  ihave Hh := (Entails.of_eq (show (held d.tc (ucRefs τ sig) (after opsC (V6 m d)) : sProp 𝕄) = _ from split3 (F := F) d (V7 m d))) $$ Hheld
  icases Hh with ⟨Ht, Hi, Ho, Hrest⟩
  ihave Hst := (Entails.of_eq (tcSt_eq (F := F) 0 d).symm) $$ [HO HR]
  · isplitl [HO] <;> iassumption
  rw [wp_bind]
  iapply ((K (F := F)).wp_run (D (F := F)) 𝒱 (EH := EH) (P := P (tabs m) (idxs m)) κ d 0) $$ [Hst Ht Hi Ho Hb Hrest Hts Hf4 Hf5 Hf6 Hf7 Hf8]
  isplitr; · iexact Hctx
  isplitl [Hst]; · iexact Hst
  isplitl [Ht Hi Ho]
  · iapply (give_cores (tabs m) (idxs m) d)
    iframe Ht Hi
    iexists _; iexact Ho
  iintro ⟨Hst, Hdn⟩
  ihave Hst := (Entails.of_eq (show ((K (F := F)).tcSt EH d ((0 : Fin 1).val + 1) : sProp 𝕄) = _ from tcSt_eq (F := F) 1 d)) $$ Hst
  icases Hst with ⟨HO, HR⟩
  ihave Hdn' := (take_cores (tabs m) (idxs m) d) $$ Hdn
  icases Hdn' with ⟨Ht, Hi, Ho⟩
  ihave Hheld := (Entails.of_eq (back3 (F := F) m d).symm) $$ [Ht Hi Ho Hrest]
  · isplitl [Ht]; · iexact Ht
    iframe Hi Ho
    iexact Hrest
  iapply (wp_seq 𝒱 none Set.univ d (ucRefs τ sig) _ opsD subD freshD (V8 m d)) $$ [Hb Hheld]
  · iframe Hb Hheld
  iintro ⟨Hb, Hheld⟩
  rw [wp_bind]
  iapply (step m 4 1 (V9 m) (C5.aft (V9 m)) launch5 (fun c => C5.obligation 1 (V9 m) c) κ d) $$ [Hb Hheld HO HR Hts Hf4 Hf5 Hf6 Hf7 Hf8]
  isplitr; · iexact Hctx
  iframe Hb Hheld HO Hf4
  iintro ⟨Hb, Hheld, HO⟩
  rw [wp_bind]
  iapply (step m 5 1 (V10 m) (C6.aft (V10 m)) launch6 (fun c => C6.obligation 1 (V10 m) c) κ d) $$ [Hb Hheld HO HR Hts Hf5 Hf6 Hf7 Hf8]
  isplitr; · iexact Hctx
  iframe Hb Hheld HO Hf5
  iintro ⟨Hb, Hheld, HO⟩
  rw [wp_bind]
  iapply (step m 6 1 (V11 m) (C7.aft (V11 m)) launch7 (fun c => C7.obligation 1 (V11 m) c (inR6 m hpre c)) κ d) $$ [Hb Hheld HO HR Hts Hf6 Hf7 Hf8]
  isplitr; · iexact Hctx
  iframe Hb Hheld HO Hf6
  iintro ⟨Hb, Hheld, HO⟩
  rw [wp_bind]
  iapply (step m 7 1 (V12 m) (C8.aft (V12 m)) launch8 (fun c => C8.obligation 1 (V12 m) c (inR7 m hpre c)) κ d) $$ [Hb Hheld HO HR Hts Hf7 Hf8]
  isplitr; · iexact Hctx
  iframe Hb Hheld HO Hf7
  iintro ⟨Hb, Hheld, HO⟩
  iapply (wp_seq 𝒱 none Set.univ d (ucRefs τ sig) _ opsE subE freshE (V13 m d)) $$ [Hb Hheld]
  · iframe Hb Hheld
  iintro ⟨Hb, Hheld⟩
  rw [wp_bind]
  iapply (step m 8 1 (V14 m) (C9.aft (V14 m)) launch9 (fun c => C9.obligation 1 (V14 m) c) κ d) $$ [Hb Hheld HO HR Hts Hf8]
  isplitr; · iexact Hctx
  iframe Hb Hheld HO Hf8
  iintro ⟨Hb, Hheld, HO⟩
  rw [wp_pure]
  imodintro
  isplitl [HO HR]
  · iapply (Entails.of_eq (tcSt_eq (F := F) 1 d).symm)
    isplitl [HO] <;> iassumption
  isplitr [Hb Hts]
  · iexact Hheld
  isplitl [Hb] <;> iassumption

/-- What is read of a device's final state: every array at its last contents. -/
def fq (d : Dev nD) (s' : Phys nD τ sig (Elt F)) : Prop := ∀ b ∈ ucRefs τ sig, s'.mem.mem (d, b) = V15 m d b

theorem one_of_held (d : Dev nD) (s' : Phys nD τ sig (Elt F)) (b : DevRef τ sig) (hb : b ∈ ucRefs τ sig) :
    iprop(FIN m d ∗ SI s') ⊢ (⌜s'.mem.mem (d, b) = V15 m d b⌝ : sProp 𝕄) := by
  unfold FIN held
  rw [SparseCore.bigSep_erase' hb]
  iintro ⟨⟨Hx, -⟩, HSI⟩
  ihave H := (SI_pointsTo_agree (st := s') (ℓ := (d, b)) (I := Finset.univ) (q := fullShare) (f := V15 m d b)) $$ [HSI Hx]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  unfold fq
  refine BIBase.Entails.trans (forall_intro fun b => ?_) pure_forall.2
  by_cases hb : b ∈ ucRefs τ sig
  · refine BIBase.Entails.trans (one_of_held m d s' b hb) (Laws.pure_mono fun h _ => h)
  · exact BIClass.pure_intro fun h => absurd h hb

/-! ## The run -/

def QC : PUnit × MemSt nD τ sig (Elt F) → Prop := fun r =>
  (∀ d : Dev nD, ∀ b ∈ ucRefs τ sig, r.2.mem (d, b) = V15 m d b) ∧ r.2.sem = fun _ => 0

theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabs m) (idxs m)) (A := ∅) facts v₀
    (fun q hq => match q with | 0 => nomatch hq)
    (fun q _ => match q with | 0 => tileObl (tabs m) (idxs m) facts (rows_ok m hpre))
    (fun q _ => match q with | 0 => SparseCore.Cfg.VecSplit.of_plain (vecSplit (tabs m) (idxs m)))
    m ρ main (fun d => fuels (F := F) d) (FIN m) (u₀ (F := F)) (sep_elim_left.trans (hu₀ (tabs m) (idxs m))) (hmain m ρ hpre) (fq m) (hfin m) (QC m)
    (fun _ h hz => ⟨h, hz⟩)

/-- The run in the words of the claims: the results at the last contents, the arguments as they were. -/
theorem run_all (hpre : PreOK m) :
    θ_run (Cert.KernelIdeal.defs (F := F)) (Cert.KernelIdeal.threads (F := F)) ⟨m, fun _ => 0, ρ⟩ fun r =>
      (∀ c : Dev nD,
        r.2.mem ((c.tc : Thread nD τ).loc main_v32_0) = V15 m c (Proc.devRef .tc main_v32_0)
        ∧ r.2.mem ((c.tc : Thread nD τ).loc main_v32_1) = V15 m c (Proc.devRef .tc main_v32_1)
        ∧ r.2.mem ((c.tc : Thread nD τ).loc main_v32_2) = V15 m c (Proc.devRef .tc main_v32_2)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
      ∧ r.2.sem = fun _ => 0 :=
  (θ_run _ _ _).mono (fun s h => ⟨fun c =>
    have k (r : Ref sig .tc) (hu : Proc.devRef .tc r ∈ ucRefs τ sig) h' h'' :
        s.2.mem ((c.tc : Thread nD τ).loc r) = m ((c.tc : Thread nD τ).loc r) := (h.1 c _ hu).trans (kept m c r h' h'')
    ⟨h.1 c _ (devRef_mem_ucRefs rfl), h.1 c _ (devRef_mem_ucRefs rfl), h.1 c _ (devRef_mem_ucRefs rfl),
      k main_arg0 (devRef_mem_ucRefs rfl) (by decide) (by decide),
      k main_arg1 (devRef_mem_ucRefs rfl) (by decide) (by decide),
      k main_arg2 (devRef_mem_ucRefs rfl) (by decide) (by decide),
      k main_arg3 (devRef_mem_ucRefs rfl) (by decide) (by decide),
      k main_arg4 (devRef_mem_ucRefs rfl) (by decide) (by decide),
      k main_arg5 (devRef_mem_ucRefs rfl) (by decide) (by decide),
      k main_arg6 (devRef_mem_ucRefs rfl) (by decide) (by decide),
      k main_arg7 (devRef_mem_ucRefs rfl) (by decide) (by decide),
      k main_arg8 (devRef_mem_ucRefs rfl) (by decide) (by decide),
      k main_arg9 (devRef_mem_ucRefs rfl) (by decide) (by decide),
      k main_arg10 (devRef_mem_ucRefs rfl) (by decide) (by decide),
      k main_arg11 (devRef_mem_ucRefs rfl) (by decide) (by decide)⟩, h.2⟩) (run_main m ρ hpre)

end Cert.Proof.KernelIdeal

end
-- ==== Proof.Taken.lean ====
/-
  The expansion read entry by entry, between the host operations round it: each half of the expanded stack laid out as one
  array again. Result `n` is the row its list names at `n`.
-/
module

public import proofs.«01_k».proof.Proof.IdealRows
public import Idealize.ShloMosaic.Lib.Pipeline.Value

@[expose] public section

noncomputable section

namespace Cert.Proof.KernelIdeal

open Cert.KernelIdeal Cert.KernelIdeal.Gen

open Idealize.ShloMosaic
open Idealize.ShloMosaic.ValueIdx

variable {α : Type}

/-- One table's rows at the row numbers of one list. -/
def taken (tb : S10240x128.Idx → α) (ix : S320000.Idx → BitVec 32) : S320000x128.Idx → α :=
  fun j => tb (ix2 (⟨(ix (ix1 (j 0 : Fin 320000))).toNat % 10240, Nat.mod_lt _ (by decide)⟩ : Fin 10240) (j 1 : Fin 128))

theorem one_table (a : S10240x128.Idx → α) (r : Fin 10240) (l : Fin 128) :
    broadcastInDim S1x10240x128 ![1, 2] bcast_S10240x128_S1x10240x128_1_2 a (ix3 (0 : Fin 1) r l) = a (ix2 r l) := by
  refine broadcastInDim_apply _ _ _ _ _ fun k => ?_
  match k with
  | ⟨0, _⟩ => rfl
  | ⟨1, _⟩ => rfl

theorem tables_zero (a b : S10240x128.Idx → α) (r : Fin 10240) (l : Fin 128) : tables a b (ix3 (0 : Fin 2) r l) = a (ix2 r l) := by
  refine (concatenate_pair_apply_left (t := S2x10240x128) (s₁ := S1x10240x128) (s₂ := S1x10240x128) 0 _ _ _ _ rfl (ix3 (0 : Fin 1) r l) fun k => ?_).trans (one_table a r l)
  match k with
  | ⟨0, _⟩ => rfl
  | ⟨1, _⟩ => rfl
  | ⟨2, _⟩ => rfl

theorem tables_one (a b : S10240x128.Idx → α) (r : Fin 10240) (l : Fin 128) : tables a b (ix3 (1 : Fin 2) r l) = b (ix2 r l) := by
  refine (concatenate_pair_apply_right (t := S2x10240x128) (s₁ := S1x10240x128) (s₂ := S1x10240x128) 0 _ _ _ _ rfl rfl (ix3 (0 : Fin 1) r l) (fun k hk => ?_) rfl).trans (one_table b r l)
  match k with
  | ⟨0, _⟩ => exact absurd rfl hk
  | ⟨1, _⟩ => rfl
  | ⟨2, _⟩ => rfl

/-- Half `0` of an expanded stack as one array. -/
def lower (x : S2x2500x128x128.Idx → α) : S320000x128.Idx → α :=
  shapeCast S320000x128 (shapeCast S2500x128x128
    (extractStridedSlice S1x2500x128x128 ![0, 0, 0, 0] x slices_S2x2500x128x128_S1x2500x128x128_0_0_0_0)
    shapeCasts_S1x2500x128x128_S2500x128x128) shapeCasts_S2500x128x128_S320000x128

/-- Half `1` of an expanded stack as one array. -/
def upper (x : S2x2500x128x128.Idx → α) : S320000x128.Idx → α :=
  shapeCast S320000x128 (shapeCast S2500x128x128
    (extractStridedSlice S1x2500x128x128 ![1, 0, 0, 0] x slices_S2x2500x128x128_S1x2500x128x128_1_0_0_0)
    shapeCasts_S1x2500x128x128_S2500x128x128) shapeCasts_S2500x128x128_S320000x128

theorem lower_apply (x : S2x2500x128x128.Idx → α) (b : Fin 2500) (r l : Fin 128) :
    lower x (ix2 (place b r) l) = x (ix4 (0 : Fin 2) b r l) := by
  unfold lower
  refine (shapeCast_apply _ _ _ (ix3 b r l) ?_).trans ((shapeCast_apply _ _ _ (ix4 (0 : Fin 1) b r l) ?_).trans ?_)
  · rw [Shape.rowMajor_val_two (d := ![320000, 128]), Shape.rowMajor_val_three (d := ![2500, 128, 128])]; rfl
  · rw [Shape.rowMajor_val_four (d := ![1, 2500, 128, 128]), Shape.rowMajor_val_three (d := ![2500, 128, 128])]
    simp [ix3, ix4]
  · unfold extractStridedSlice
    refine congrArg x (funext fun k => Fin.ext ?_)
    match k with
    | ⟨0, _⟩ => rfl
    | ⟨1, _⟩ => exact Nat.zero_add _
    | ⟨2, _⟩ => exact Nat.zero_add _
    | ⟨3, _⟩ => exact Nat.zero_add _

theorem upper_apply (x : S2x2500x128x128.Idx → α) (b : Fin 2500) (r l : Fin 128) :
    upper x (ix2 (place b r) l) = x (ix4 (1 : Fin 2) b r l) := by
  unfold upper
  refine (shapeCast_apply _ _ _ (ix3 b r l) ?_).trans ((shapeCast_apply _ _ _ (ix4 (0 : Fin 1) b r l) ?_).trans ?_)
  · rw [Shape.rowMajor_val_two (d := ![320000, 128]), Shape.rowMajor_val_three (d := ![2500, 128, 128])]; rfl
  · rw [Shape.rowMajor_val_four (d := ![1, 2500, 128, 128]), Shape.rowMajor_val_three (d := ![2500, 128, 128])]
    simp [ix3, ix4]
  · unfold extractStridedSlice
    refine congrArg x (funext fun k => Fin.ext ?_)
    match k with
    | ⟨0, _⟩ => rfl
    | ⟨1, _⟩ => exact Nat.zero_add _
    | ⟨2, _⟩ => exact Nat.zero_add _
    | ⟨3, _⟩ => exact Nat.zero_add _

/-- Every index of a result is one entry of one block. -/
theorem in_block (j : S320000x128.Idx) : ∃ (b : Fin 2500) (r l : Fin 128), j = ix2 (place b r) l := by
  have h0 := idx2_lt0 (n0 := 320000) (n1 := 128) j
  refine ⟨⟨(j 0).val / 128, by omega⟩, ⟨(j 0).val % 128, Nat.mod_lt _ (by decide)⟩, j 1, ?_⟩
  refine (eq_ix2 (n0 := 320000) (n1 := 128) j).trans ?_
  refine congrArg (fun u : Fin 320000 => ix2 u (j 1 : Fin 128)) (Fin.ext ?_)
  show (j 0).val = (j 0).val / 128 * 128 + (j 0).val % 128
  omega

/-- The lower half of the expanded stack is the first table's rows at the first list. -/
theorem lower_expand (a b : S10240x128.Idx → α) (ia ib : S320000.Idx → BitVec 32) :
    lower (expand (tables a b) (lists ia ib)) = taken a ia := by
  funext j
  obtain ⟨k, r, l, rfl⟩ := in_block j
  refine (lower_apply _ k r l).trans ?_
  refine (tables_zero a b (rowOf (lists ia ib) 0 k r) l).trans ?_
  refine congrArg (fun u : Fin 10240 => a (ix2 u l)) (Fin.ext ?_)
  exact congrArg (fun w : BitVec 32 => w.toNat % 10240) (lists_zero ia ib k r)

/-- The upper half is the second table's rows at the second list. -/
theorem upper_expand (a b : S10240x128.Idx → α) (ia ib : S320000.Idx → BitVec 32) :
    upper (expand (tables a b) (lists ia ib)) = taken b ib := by
  funext j
  obtain ⟨k, r, l, rfl⟩ := in_block j
  refine (upper_apply _ k r l).trans ?_
  refine (tables_one a b (rowOf (lists ia ib) 1 k r) l).trans ?_
  refine congrArg (fun u : Fin 10240 => b (ix2 u l)) (Fin.ext ?_)
  exact congrArg (fun w : BitVec 32 => w.toNat % 10240) (lists_one ia ib k r)

end Cert.Proof.KernelIdeal

end
-- ==== Proof.Spec.lean ====
/-
  The problem's mathematics over the extended reals, entry by entry: sums over a segment, means, the score of a node,
  sums weighted by scores and divided by their total, and the fusion of two rows. Beside it the laws of these sums
  that both programs are compared by.
-/
module

public import Idealize.ShloMosaic.Lib.Pointwise
public import Idealize.ShloMosaic.Lib.Pipeline.ValueKit.Acc

@[expose] public section

noncomputable section

namespace Cert.Proof.Spec

open Idealize.ShloMosaic

/-- The sum over the nodes of segment `r`. -/
def seg (ix : Fin 320000 → ℕ) (f : Fin 320000 → EReal) (r : ℕ) : EReal := ∑ e, if ix e = r then f e else 0

/-- The mean of segment `r`, at column `l`. -/
def mean (ix : Fin 320000 → ℕ) (h : Fin 320000 → Fin 128 → EReal) (r : ℕ) (l : Fin 128) : EReal :=
  Ideal.div (seg ix (fun e => h e l) r) (max (seg ix (fun _ => 1) r) 1)

/-- The lower half of the first layer's weights on a mean, and the bias. -/
def low (g : Fin 128 → EReal) (w : Fin 128 → Fin 64 → EReal) (b : Fin 64 → EReal) (j : Fin 64) : EReal :=
  ∑ k, g k * w k j + b j

/-- The score of a node with row `x` whose lower half is `v`. -/
def score (x : Fin 128 → EReal) (w : Fin 128 → Fin 64 → EReal) (v : Fin 64 → EReal) (w2 : Fin 64 → EReal) (b2 : EReal) : EReal :=
  Ideal.exp (∑ j, (if 0 < ∑ k, x k * w k j + v j then ∑ k, x k * w k j + v j
    else Ideal.ofBits FTy.f32 1045220557#32 * (∑ k, x k * w k j + v j)) * w2 j + b2)

/-- The small number added to every total of scores. -/
def eps : EReal := Ideal.ofBits FTy.f32 619091349#32

/-- The sum of the rows of segment `r` weighted by their scores, over the total of the scores. -/
def pooled (ix : Fin 320000 → ℕ) (h : Fin 320000 → Fin 128 → EReal) (s : Fin 320000 → EReal) (r : ℕ) (l : Fin 128) : EReal :=
  Ideal.div (seg ix (fun e => h e l * s e) r) (seg ix s r + eps)

/-- Two rows, their product and the size of their difference, side by side. -/
def cat (a b : Fin 128 → EReal) (k : Fin 512) : EReal :=
  if h : k.val < 128 then a ⟨k.val, h⟩ else
    if h : k.val - 128 < 128 then b ⟨k.val - 128, h⟩ else
      if h : k.val - 128 - 128 < 128 then a ⟨k.val - 128 - 128, h⟩ * b ⟨k.val - 128 - 128, h⟩ else
        max (a ⟨k.val - 128 - 128 - 128, by omega⟩ - b ⟨k.val - 128 - 128 - 128, by omega⟩)
          (-(a ⟨k.val - 128 - 128 - 128, by omega⟩ - b ⟨k.val - 128 - 128 - 128, by omega⟩))

/-- The two layers of the fusion. -/
def fused (a b : Fin 128 → EReal) (w : Fin 512 → Fin 256 → EReal) (c : Fin 256 → EReal) (w' : Fin 256 → Fin 128 → EReal) (c' : Fin 128 → EReal)
    (l : Fin 128) : EReal :=
  ∑ x, max (∑ k, cat a b k * w k x + c x) 0 * w' x l + c' l

theorem inv_nonneg {y : EReal} (h : 0 ≤ y) : 0 ≤ y⁻¹ := EReal.inv_nonneg_of_nonneg h

theorem inv_ne_top (y : EReal) : y⁻¹ ≠ ⊤ := by
  induction y using EReal.rec with
  | bot => simp
  | top => simp
  | coe x => rw [← EReal.coe_inv]; exact EReal.coe_ne_top _

theorem sum_mul {ι : Type} (s : Finset ι) (f : ι → EReal) (c : EReal) (h0 : 0 ≤ c) (h1 : c ≠ ⊤) : (∑ i ∈ s, f i) * c = ∑ i ∈ s, f i * c := by
  classical
  refine Finset.induction_on s (by simp) fun a s ha ih => ?_
  rw [Finset.sum_insert ha, Finset.sum_insert ha, EReal.right_distrib_of_nonneg_of_ne_top h0 h1, ih]

theorem eps_pos : 0 < eps := by
  have h1 : (BitVec.extractLsb' (8 + 23) 1 (619091349#32 : BitVec 32) == 1#1) = false := by decide
  unfold eps Ideal.ofBits Ideal.ieee
  dsimp only
  rw [if_neg (by decide), if_neg (by decide), h1, EReal.coe_pos]
  simp only [Bool.false_eq_true, if_false, one_mul]
  positivity

theorem score_nonneg (x w v w2 b2) : 0 ≤ score x w v w2 b2 := by
  unfold score
  generalize (∑ j, (if 0 < ∑ k, x k * w k j + v j then ∑ k, x k * w k j + v j
    else Ideal.ofBits FTy.f32 1045220557#32 * (∑ k, x k * w k j + v j)) * w2 j + b2) = y
  induction y using EReal.rec with
  | bot => exact le_rfl
  | top => exact le_top
  | coe x => exact EReal.coe_nonneg.mpr (Real.exp_pos x).le

theorem seg_nonneg (ix : Fin 320000 → ℕ) (f : Fin 320000 → EReal) (h : ∀ e, 0 ≤ f e) (r : ℕ) : 0 ≤ seg ix f r :=
  Finset.sum_nonneg fun e _ => by split; exacts [h e, le_rfl]

/-- Dividing every weight by its segment's total, or the weighted sum by it: the same. -/
theorem pooled_eq (ix : Fin 320000 → ℕ) (h : Fin 320000 → Fin 128 → EReal) (s : Fin 320000 → EReal) (hs : ∀ e, 0 ≤ s e) (r : ℕ) (l : Fin 128) :
    seg ix (fun e => Ideal.div (s e) (seg ix s (ix e) + eps) * h e l) r = pooled ix h s r l := by
  have pos : 0 < seg ix s r + eps := lt_of_lt_of_le eps_pos (le_add_of_nonneg_left (seg_nonneg ix s hs r))
  have hd : ∀ x, Ideal.div x (seg ix s r + eps) = x * (seg ix s r + eps)⁻¹ := fun x => by
    unfold Ideal.div; rw [if_neg pos.ne']
  unfold pooled
  rw [hd]
  conv_rhs => unfold seg
  rw [show (∑ e, if ix e = r then h e l * s e else 0) * (∑ e, (if ix e = r then s e else 0) + eps)⁻¹
    = (∑ e, if ix e = r then h e l * s e else 0) * (seg ix s r + eps)⁻¹ from rfl,
    sum_mul _ _ _ (inv_nonneg pos.le) (inv_ne_top _)]
  refine Finset.sum_congr rfl fun e _ => ?_
  by_cases he : ix e = r
  · rw [if_pos he, if_pos he]
    show Ideal.div (s e) (seg ix s (ix e) + eps) * h e l = _
    rw [he, hd, mul_comm (h e l), mul_right_comm]
  · rw [if_neg he, if_neg he, zero_mul]

/-- The nodes in 320 blocks of 1000. -/
theorem seg_blocks (ix : Fin 320000 → ℕ) (f : Fin 320000 → EReal) (r : ℕ) :
    seg ix f r = ∑ t : Fin 320, ∑ j : Fin 1000, if ix ⟨t.val * 1000 + j.val, by omega⟩ = r then f ⟨t.val * 1000 + j.val, by omega⟩ else 0 :=
  (Fin.sum_mul_add_fin 320 1000 (fun e : Fin 320000 => if ix e = r then f e else 0)).symm

end Cert.Proof.Spec

end
-- ==== Proof.SegVal.lean ====
/-
  The sorted segment sums over the extended reals, at an entry: a grid point adds to row `r` the rows of its block whose
  index is `r`, so the points together add the rows of segment `r`.
-/
module

public import proofs.«01_k».proof.Proof.IdealSeg
public import proofs.«01_k».proof.Proof.Spec
public import Idealize.ShloMosaic.Lib.Pointwise

@[expose] public section

set_option maxRecDepth 16384

noncomputable section

namespace Cert.Proof.KernelIdeal

open Cert.KernelIdeal Cert.KernelIdeal.Gen Cert.Proof.Seg
open Idealize.ShloMosaic

/-- 1 where the two words name one row, 0 elsewhere. -/
theorem hot_at (v : IVec S1000 32) (w : BitVec 32) (r : Fin 128) (j : Fin 1000) (hw : w.toNat + 128 ≤ 10240) :
    hot (F := Ideal) v w (ix2 r j) = if w.toNat + r.val = (v (ix1 j)).toNat then (1 : EReal) else 0 := by
  have hr : r.val < 128 := r.isLt
  have hn : (IntOp.addi w (BitVec.ofNat 32 r.val)).toNat = w.toNat + r.val := by
    show (w + BitVec.ofNat 32 r.val).toNat = _
    rw [BitVec.toNat_add, BitVec.toNat_ofNat]; omega
  pointwise [hot]
  by_cases h : w.toNat + r.val = (v (ix1 j)).toNat
  · rw [if_pos h, show IntOp.addi w (BitVec.ofNat 32 r.val) = v (ix1 j) from BitVec.eq_of_toNat_eq (hn.trans h)]
    have e : IntOp.cmpi .eq (v (ix1 j)) (v (ix1 j)) = 1#1 := by simp [IntOp.cmpi]
    rw [e]
    show (((BitVec.setWidth 32 1#1).toInt : ℝ) : EReal) = 1
    rw [show (BitVec.setWidth 32 1#1 : BitVec 32).toInt = 1 from by decide]; norm_num
  · have hne : IntOp.addi w (BitVec.ofNat 32 r.val) ≠ v (ix1 j) := fun he => h (hn.symm.trans (congrArg BitVec.toNat he))
    rw [if_neg h]
    have e : IntOp.cmpi .eq (IntOp.addi w (BitVec.ofNat 32 r.val)) (v (ix1 j)) = 0#1 := by
      show BitVec.ofBool (IntOp.addi w (BitVec.ofNat 32 r.val) == v (ix1 j)) = 0#1
      rw [beq_eq_false_iff_ne.mpr hne]; rfl
    rw [e]
    show (((BitVec.setWidth 32 0#1).toInt : ℝ) : EReal) = 0
    rw [show (BitVec.setWidth 32 0#1 : BitVec 32).toInt = 0 from by decide]; norm_num

/-- The sum of the entries of a block whose index is `r`. -/
def part (v : IVec S1000 32) (f : Fin 1000 → EReal) (r : ℕ) : EReal := ∑ j, if (v (ix1 j)).toNat = r then f j else 0

theorem hot_sum (v : IVec S1000 32) (w : BitVec 32) (r : Fin 128) (f : Fin 1000 → EReal) (hw : w.toNat + 128 ≤ 10240) :
    ∑ j, hot (F := Ideal) v w (ix2 r j) * f j = part v f (w.toNat + r.val) :=
  Finset.sum_congr rfl fun j _ => by
    rw [hot_at v w r j hw]
    by_cases h : w.toNat + r.val = (v (ix1 j)).toNat
    · rw [if_pos h, if_pos h.symm, one_mul]
    · rw [if_neg h, if_neg fun e => h e.symm, zero_mul]

theorem addRows_at (v : IVec S1000 32) (w : BitVec 32) (x : Vec Ideal S1000x128 .f32) (c : Vec Ideal S128x128 .f32) (r : Fin 128) (l : Fin 128)
    (hw : w.toNat + 128 ≤ 10240) :
    addRows (F := Ideal) v w x c (ix2 r l) = (c (ix2 r l) : EReal) + part v (fun j => x (ix2 j l)) (w.toNat + r.val) := by
  pointwise [addRows]
  rw [← hot_sum v w r _ hw]

theorem addCount_at (v : IVec S1000 32) (w : BitVec 32) (c : Vec Ideal S128x16 .f32) (r : Fin 128) (l : Fin 16) (hw : w.toNat + 128 ≤ 10240) :
    addCount (F := Ideal) v w c (ix2 r l) = (c (ix2 r l) : EReal) + part v (fun _ => 1) (w.toNat + r.val) := by
  pointwise [addCount]
  rw [← hot_sum v w r _ hw]
  simp only [mul_one]

theorem addPay_at (v : IVec S1000 32) (w : BitVec 32) (x : Vec Ideal S1000x16 .f32) (c : Vec Ideal S128x16 .f32) (r : Fin 128) (l : Fin 16)
    (hw : w.toNat + 128 ≤ 10240) :
    addPay (F := Ideal) v w x c (ix2 r l) = (c (ix2 r l) : EReal) + part v (fun j => x (ix2 j l)) (w.toNat + r.val) := by
  pointwise [addPay]
  rw [← hot_sum v w r _ hw]

/-! ## One trip at an entry -/

theorem put128_at (g : Vec Ideal S10240x128 .f32) (o : ℕ) (y : Vec Ideal S128x128 .f32) (r : Fin 10240) (l : Fin 128) :
    VecWindow.put (s := S10240x128) g ![o, 0] S128x128.size y (ix2 r l)
      = if h : o ≤ r.val ∧ r.val < o + 128 then y (ix2 ⟨r.val - o, by omega⟩ l) else g (ix2 r l) := by
  unfold VecWindow.put
  have hl : l.val < 128 := l.isLt
  by_cases h : o ≤ r.val ∧ r.val < o + 128
  · rw [dif_pos h, dif_pos (fun a => by
      match a with
      | 0 => exact h
      | 1 => exact ⟨Nat.zero_le _, by show l.val < 0 + 128; omega⟩)]
    refine congrArg y (funext fun a => Fin.ext ?_)
    match a with
    | 0 => rfl
    | 1 => exact Nat.sub_zero _
  · rw [dif_neg h, dif_neg fun h' => h (h' 0)]

theorem put16_at (g : Vec Ideal S10240x16 .f32) (o : ℕ) (y : Vec Ideal S128x16 .f32) (r : Fin 10240) (l : Fin 16) :
    VecWindow.put (s := S10240x16) g ![o, 0] S128x16.size y (ix2 r l)
      = if h : o ≤ r.val ∧ r.val < o + 128 then y (ix2 ⟨r.val - o, by omega⟩ l) else g (ix2 r l) := by
  unfold VecWindow.put
  have hl : l.val < 16 := l.isLt
  by_cases h : o ≤ r.val ∧ r.val < o + 128
  · rw [dif_pos h, dif_pos (fun a => by
      match a with
      | 0 => exact h
      | 1 => exact ⟨Nat.zero_le _, by show l.val < 0 + 16; omega⟩)]
    refine congrArg y (funext fun a => Fin.ext ?_)
    match a with
    | 0 => rfl
    | 1 => exact Nat.sub_zero _
  · rw [dif_neg h, dif_neg fun h' => h (h' 0)]

theorem win128_at (g : Vec Ideal S10240x128 .f32) (o : ℕ) (r : Fin 10240) (l : Fin 128) (h : o ≤ r.val ∧ r.val < o + 128) :
    win128 g o (ix2 ⟨r.val - o, by omega⟩ l) = g (ix2 r l) := by
  refine congrArg g (funext fun a => Fin.ext ?_)
  match a with
  | 0 => show min (o + (r.val - o)) 10239 = r.val; omega
  | 1 => rfl

theorem win16_at (g : Vec Ideal S10240x16 .f32) (o : ℕ) (r : Fin 10240) (l : Fin 16) (h : o ≤ r.val ∧ r.val < o + 128) :
    win16 g o (ix2 ⟨r.val - o, by omega⟩ l) = g (ix2 r l) := by
  refine congrArg g (funext fun a => Fin.ext ?_)
  match a with
  | 0 => show min (o + (r.val - o)) 10239 = r.val; omega
  | 1 => rfl

/-! ## All the trips of a block -/

/-- Trips that each add `S` to an entry where their window holds it: together they add it once, where some window does. -/
theorem trips_at {A : Type} (val : A → EReal) (f : ℕ → A → A) (b r : ℕ) (S : EReal) (n : ℕ)
    (h : ∀ k < n, ∀ g, val (f k g) = if b + k * 128 ≤ r ∧ r < b + k * 128 + 128 then val g + S else val g) (g : A) :
    val (runTrips f n g) = if b ≤ r ∧ r < b + n * 128 then val g + S else val g := by
  induction n with
  | zero => rw [runTrips_zero, if_neg (by omega)]
  | succ n ih =>
    rw [runTrips_succ, h n (Nat.lt_succ_self n), ih fun k hk => h k (Nat.lt_succ_of_lt hk)]
    by_cases h1 : b ≤ r ∧ r < b + n * 128
    · rw [if_neg (by omega), if_pos h1, if_pos (by omega)]
    · rw [if_neg h1]
      by_cases h2 : b + n * 128 ≤ r ∧ r < b + n * 128 + 128
      · rw [if_pos h2, if_pos (by omega)]
      · rw [if_neg h2, if_neg (by omega)]

section
variable {ix : Vec Ideal S1x1x1000 .i32} (h : InR ix)
include h

/-- Outside every window there is nothing to add. -/
theorem part_out (f : Fin 1000 → EReal) (r : ℕ) (hr : ¬ ((loW ix).toNat / 8 * 8 ≤ r ∧ r < (loW ix).toNat / 8 * 8 + wins ix * 128)) :
    part (flat ix) f r = 0 :=
  Finset.sum_eq_zero fun j _ => if_neg fun e => hr (by
    have h1 := (lo_spec h).1 (ix1 j)
    have h2 := (hi_spec h).1 (ix1 j)
    unfold wins nwin
    omega)

theorem step_at {A : Type} (val : A → EReal) (f : ℕ → A → A) (e : Fin 1000 → EReal) (r : ℕ)
    (hf : ∀ k < wins ix, ∀ g, val (f k g) = if (rowW (loW ix) k).toNat ≤ r ∧ r < (rowW (loW ix) k).toNat + 128 then val g + part (flat ix) e r else val g)
    (g : A) : val (runTrips f (wins ix) g) = val g + part (flat ix) e r := by
  rw [trips_at val f ((loW ix).toNat / 8 * 8) r (part (flat ix) e r) (wins ix) (fun k hk g => by
    rw [hf k hk, row_toNat (lo_le_hi h) (hi_lt h) hk]) g]
  split
  · rfl
  · next hr => rw [part_out h e r hr, add_zero]

theorem stepRows_at (x : Vec Ideal S1000x128 .f32) (g : Vec Ideal S10240x128 .f32) (r : Fin 10240) (l : Fin 128) :
    (stepRows ix x g (ix2 r l) : EReal) = g (ix2 r l) + part (flat ix) (fun j => x (ix2 j l)) r.val :=
  step_at h (fun g : Vec Ideal S10240x128 .f32 => (g (ix2 r l) : EReal)) (tripRows ix x) _ r.val (fun k hk g => by
    have hw := row_le (lo_le_hi h) (hi_lt h) hk
    show tripRows ix x k g (ix2 r l) = _
    unfold tripRows
    rw [put128_at]
    by_cases hc : (rowW (loW ix) k).toNat ≤ r.val ∧ r.val < (rowW (loW ix) k).toNat + 128
    · rw [dif_pos hc, if_pos hc, addRows_at _ _ _ _ _ _ hw, win128_at _ _ _ _ hc]
      rw [show (rowW (loW ix) k).toNat + (r.val - (rowW (loW ix) k).toNat) = r.val from by omega]
    · rw [dif_neg hc, if_neg hc]) g

theorem stepCount_at (g : Vec Ideal S10240x16 .f32) (r : Fin 10240) (l : Fin 16) :
    (stepCount ix g (ix2 r l) : EReal) = g (ix2 r l) + part (flat ix) (fun _ => 1) r.val :=
  step_at h (fun g : Vec Ideal S10240x16 .f32 => (g (ix2 r l) : EReal)) (tripCount ix) _ r.val (fun k hk g => by
    have hw := row_le (lo_le_hi h) (hi_lt h) hk
    show tripCount ix k g (ix2 r l) = _
    unfold tripCount
    rw [put16_at]
    by_cases hc : (rowW (loW ix) k).toNat ≤ r.val ∧ r.val < (rowW (loW ix) k).toNat + 128
    · rw [dif_pos hc, if_pos hc, addCount_at _ _ _ _ _ hw, win16_at _ _ _ _ hc]
      rw [show (rowW (loW ix) k).toNat + (r.val - (rowW (loW ix) k).toNat) = r.val from by omega]
    · rw [dif_neg hc, if_neg hc]) g

theorem stepPay_at (x : Vec Ideal S1000x16 .f32) (g : Vec Ideal S10240x16 .f32) (r : Fin 10240) (l : Fin 16) :
    (stepPay ix x g (ix2 r l) : EReal) = g (ix2 r l) + part (flat ix) (fun j => x (ix2 j l)) r.val :=
  step_at h (fun g : Vec Ideal S10240x16 .f32 => (g (ix2 r l) : EReal)) (tripPay ix x) _ r.val (fun k hk g => by
    have hw := row_le (lo_le_hi h) (hi_lt h) hk
    show tripPay ix x k g (ix2 r l) = _
    unfold tripPay
    rw [put16_at]
    by_cases hc : (rowW (loW ix) k).toNat ≤ r.val ∧ r.val < (rowW (loW ix) k).toNat + 128
    · rw [dif_pos hc, if_pos hc, addPay_at _ _ _ _ _ _ hw, win16_at _ _ _ _ hc]
      rw [show (rowW (loW ix) k).toNat + (r.val - (rowW (loW ix) k).toNat) = r.val from by omega]
    · rw [dif_neg hc, if_neg hc]) g

end

/-! ## All the blocks -/

theorem zeros128_at (r : Fin 10240) (l : Fin 128) : (zeros128 (F := Ideal) (ix2 r l) : EReal) = 0 := by
  pointwise [zeros128, k0_pay7]

theorem zeros16_at (r : Fin 10240) (l : Fin 16) : (zeros16 (F := Ideal) (ix2 r l) : EReal) = 0 := by
  pointwise [zeros16, k0_pay8]

/-- Steps that each add a part to an entry, from zero: the sum of the parts. -/
theorem blocks_at {A : Type} (val : A → EReal) (f : Fin 320 → A → A) (p : Fin 320 → EReal) (hf : ∀ t g, val (f t g) = val g + p t)
    (z : A) (hz : val z = 0) : val (runTrips (fun t g => if h : t < 320 then f ⟨t, h⟩ g else g) 320 z) = ∑ t, p t := by
  have hm : ∀ n ≤ 320, val (runTrips (fun t g => if h : t < 320 then f ⟨t, h⟩ g else g) n z)
      = ∑ t ∈ Finset.range n, if h : t < 320 then p ⟨t, h⟩ else 0 := by
    intro n
    induction n with
    | zero => intro _; rw [runTrips_zero, hz, Finset.range_zero, Finset.sum_empty]
    | succ n ih =>
      intro hn
      rw [runTrips_succ, dif_pos (by omega), hf, ih (by omega), Finset.sum_range_succ, dif_pos (by omega)]
  rw [hm 320 le_rfl, Finset.sum_range]
  exact Finset.sum_congr rfl fun t _ => dif_pos t.isLt

end Cert.Proof.KernelIdeal

end
-- ==== Proof.SumVal.lean ====
/-
  What the four segment sums leave in their two tables: at row `r` the sum over the nodes of segment `r`.
-/
module

public import proofs.«01_k».proof.Proof.SegVal
public import proofs.«01_k».proof.Proof.IdealSeg0
public import proofs.«01_k».proof.Proof.IdealSeg1
public import proofs.«01_k».proof.Proof.IdealSeg7
public import proofs.«01_k».proof.Proof.IdealSeg8
public import Idealize.ShloMosaic.Lib.Pipeline.ValueKit

@[expose] public section

set_option maxRecDepth 16384

noncomputable section

namespace Cert.Proof.KernelIdeal

open Cert.KernelIdeal Cert.KernelIdeal.Gen Cert.Proof.Seg Cert.Proof.Spec
open Idealize.ShloMosaic
open Idealize.ShloMosaic.Pipeline (Dat)

/-- The blocks of one segment sum together. -/
theorem parts_seg (ix : Fin 320000 → ℕ) (f : Fin 320000 → EReal) (v : Fin 320 → IVec S1000 32)
    (hv : ∀ (t : Fin 320) (j : Fin 1000), (v t (ix1 j)).toNat = ix ⟨t.val * 1000 + j.val, by omega⟩) (r : ℕ) :
    ∑ t : Fin 320, part (v t) (fun j => f ⟨t.val * 1000 + j.val, by omega⟩) r = seg ix f r := by
  rw [seg_blocks]
  exact Finset.sum_congr rfl fun t _ => Finset.sum_congr rfl fun j _ => by rw [hv t j]

theorem flat_at (y : Vec Ideal S1x1x1000 .i32) (j : Fin 1000) : flat y (ix1 j) = y (ix3 0 0 j) := by
  pointwise [flat, k0_pay9]

namespace C0
variable (n : ℕ) (W : Dev nD → Valuation τ sig (Elt Ideal)) (c : Dev nD)

abbrev lastPt : Fin (cfgs 0).N := ⟨319, by decide +kernel⟩

theorem rows_arr : (mkDat 0 n W (aft W) c).arrAt 2 (cfgs 0).N = rowsAt W c 320 := by
  refine Dat.arrAt_eq_of_after_last (mkDat 0 n W (aft W) c) 2 lastPt (by decide +kernel) _ fun j => ?_
  rfl

theorem side_arr : (mkDat 0 n W (aft W) c).arrAt 3 (cfgs 0).N = countAt W c 320 := by
  refine Dat.arrAt_eq_of_after_last (mkDat 0 n W (aft W) c) 3 lastPt (by decide +kernel) _ fun j => ?_
  rfl

theorem xB_at (t : Fin 320) (j : Fin 1000) (l : Fin 128) :
    xB W c t (ix2 j l) = W c (Proc.devRef .tc main_arg0) (ix2 ⟨t.val * 1000 + j.val, by omega⟩ l) := by
  have idx : ∀ t : Fin cfg0.N, win0_0.index t = ![t.val, 0] := by decide +kernel
  blk_ext [xB, idx t]

theorem iB_at (t : Fin 320) (j : Fin 1000) :
    iB W c t (ix3 0 0 j) = W c (Proc.devRef .tc main_v2) (ix3 t 0 j) := by
  have idx : ∀ t : Fin cfg0.N, win0_1.index t = ![t.val, 0, 0] := by decide +kernel
  blk_ext [iB, idx t]

variable {n W c} (hr : ∀ t, InR (iB W c t)) (ix : Fin 320000 → ℕ)
  (hi : ∀ (t : Fin 320) (j : Fin 1000), BitVec.toNat (W c (Proc.devRef .tc main_v2) (ix3 t 0 j)) = ix ⟨t.val * 1000 + j.val, by omega⟩)
include hr hi

theorem rows_at (r : Fin 10240) (l : Fin 128) :
    (mkDat 0 n W (aft W) c).arrAt 2 (cfgs 0).N (ix2 r l) = seg ix (fun e => W c (Proc.devRef .tc main_arg0) (ix2 e l)) r.val := by
  rw [rows_arr]
  refine (blocks_at (fun g : Vec Ideal S10240x128 .f32 => (g (ix2 r l) : EReal)) (fun t => stepRows (iB W c t) (xB W c t))
    (fun t => part (flat (iB W c t)) (fun j => xB W c t (ix2 j l)) r.val) (fun t g => stepRows_at (hr t) (xB W c t) g r l) zeros128 (zeros128_at r l)).trans ?_
  refine (Finset.sum_congr rfl fun t _ => ?_).trans (parts_seg ix _ (fun t => flat (iB W c t)) (fun t j => ?_) r.val)
  · exact congrArg (fun f => part (flat (iB W c t)) f r.val) (funext fun j => xB_at W c t j l)
  · rw [flat_at, iB_at]; exact hi t j

theorem side_at (r : Fin 10240) (l : Fin 16) :
    (mkDat 0 n W (aft W) c).arrAt 3 (cfgs 0).N (ix2 r l) = seg ix (fun _ => 1) r.val := by
  rw [side_arr]
  refine (blocks_at (fun g : Vec Ideal S10240x16 .f32 => (g (ix2 r l) : EReal)) (fun t => stepCount (iB W c t))
    (fun t => part (flat (iB W c t)) (fun _ => 1) r.val) (fun t g => stepCount_at (hr t) g r l) zeros16 (zeros16_at r l)).trans ?_
  refine parts_seg ix (fun _ => 1) (fun t => flat (iB W c t)) (fun t j => ?_) r.val
  rw [flat_at, iB_at]; exact hi t j

end C0

namespace C1
variable (n : ℕ) (W : Dev nD → Valuation τ sig (Elt Ideal)) (c : Dev nD)

abbrev lastPt : Fin (cfgs 1).N := ⟨319, by decide +kernel⟩

theorem rows_arr : (mkDat 1 n W (aft W) c).arrAt 2 (cfgs 1).N = rowsAt W c 320 := by
  refine Dat.arrAt_eq_of_after_last (mkDat 1 n W (aft W) c) 2 lastPt (by decide +kernel) _ fun j => ?_
  rfl

theorem side_arr : (mkDat 1 n W (aft W) c).arrAt 3 (cfgs 1).N = countAt W c 320 := by
  refine Dat.arrAt_eq_of_after_last (mkDat 1 n W (aft W) c) 3 lastPt (by decide +kernel) _ fun j => ?_
  rfl

theorem xB_at (t : Fin 320) (j : Fin 1000) (l : Fin 128) :
    xB W c t (ix2 j l) = W c (Proc.devRef .tc main_arg2) (ix2 ⟨t.val * 1000 + j.val, by omega⟩ l) := by
  have idx : ∀ t : Fin cfg1.N, win1_0.index t = ![t.val, 0] := by decide +kernel
  blk_ext [xB, idx t]

theorem iB_at (t : Fin 320) (j : Fin 1000) :
    iB W c t (ix3 0 0 j) = W c (Proc.devRef .tc main_v3) (ix3 t 0 j) := by
  have idx : ∀ t : Fin cfg1.N, win1_1.index t = ![t.val, 0, 0] := by decide +kernel
  blk_ext [iB, idx t]

variable {n W c} (hr : ∀ t, InR (iB W c t)) (ix : Fin 320000 → ℕ)
  (hi : ∀ (t : Fin 320) (j : Fin 1000), BitVec.toNat (W c (Proc.devRef .tc main_v3) (ix3 t 0 j)) = ix ⟨t.val * 1000 + j.val, by omega⟩)
include hr hi

theorem rows_at (r : Fin 10240) (l : Fin 128) :
    (mkDat 1 n W (aft W) c).arrAt 2 (cfgs 1).N (ix2 r l) = seg ix (fun e => W c (Proc.devRef .tc main_arg2) (ix2 e l)) r.val := by
  rw [rows_arr]
  refine (blocks_at (fun g : Vec Ideal S10240x128 .f32 => (g (ix2 r l) : EReal)) (fun t => stepRows (iB W c t) (xB W c t))
    (fun t => part (flat (iB W c t)) (fun j => xB W c t (ix2 j l)) r.val) (fun t g => stepRows_at (hr t) (xB W c t) g r l) zeros128 (zeros128_at r l)).trans ?_
  refine (Finset.sum_congr rfl fun t _ => ?_).trans (parts_seg ix _ (fun t => flat (iB W c t)) (fun t j => ?_) r.val)
  · exact congrArg (fun f => part (flat (iB W c t)) f r.val) (funext fun j => xB_at W c t j l)
  · rw [flat_at, iB_at]; exact hi t j

theorem side_at (r : Fin 10240) (l : Fin 16) :
    (mkDat 1 n W (aft W) c).arrAt 3 (cfgs 1).N (ix2 r l) = seg ix (fun _ => 1) r.val := by
  rw [side_arr]
  refine (blocks_at (fun g : Vec Ideal S10240x16 .f32 => (g (ix2 r l) : EReal)) (fun t => stepCount (iB W c t))
    (fun t => part (flat (iB W c t)) (fun _ => 1) r.val) (fun t g => stepCount_at (hr t) g r l) zeros16 (zeros16_at r l)).trans ?_
  refine parts_seg ix (fun _ => 1) (fun t => flat (iB W c t)) (fun t j => ?_) r.val
  rw [flat_at, iB_at]; exact hi t j

end C1

namespace C7
variable (n : ℕ) (W : Dev nD → Valuation τ sig (Elt Ideal)) (c : Dev nD)

abbrev lastPt : Fin (cfgs 6).N := ⟨319, by decide +kernel⟩

theorem rows_arr : (mkDat 6 n W (aft W) c).arrAt 3 (cfgs 6).N = rowsAt W c 320 := by
  refine Dat.arrAt_eq_of_after_last (mkDat 6 n W (aft W) c) 3 lastPt (by decide +kernel) _ fun j => ?_
  rfl

theorem side_arr : (mkDat 6 n W (aft W) c).arrAt 4 (cfgs 6).N = payAt W c 320 := by
  refine Dat.arrAt_eq_of_after_last (mkDat 6 n W (aft W) c) 4 lastPt (by decide +kernel) _ fun j => ?_
  rfl

theorem xB_at (t : Fin 320) (j : Fin 1000) (l : Fin 128) :
    xB W c t (ix2 j l) = W c (Proc.devRef .tc main_v26_1) (ix2 ⟨t.val * 1000 + j.val, by omega⟩ l) := by
  have idx : ∀ t : Fin cfg7.N, win7_0.index t = ![t.val, 0] := by decide +kernel
  blk_ext [xB, idx t]

theorem iB_at (t : Fin 320) (j : Fin 1000) :
    iB W c t (ix3 0 0 j) = W c (Proc.devRef .tc main_v2) (ix3 t 0 j) := by
  have idx : ∀ t : Fin cfg7.N, win7_2.index t = ![t.val, 0, 0] := by decide +kernel
  blk_ext [iB, idx t]

theorem pB_at (t : Fin 320) (j : Fin 1000) (l : Fin 16) :
    pB W c t (ix2 j l) = W c (Proc.devRef .tc main_v26_0) (ix2 ⟨t.val * 1000 + j.val, by omega⟩ l) := by
  have idx : ∀ t : Fin cfg7.N, win7_1.index t = ![t.val, 0] := by decide +kernel
  blk_ext [pB, idx t]

variable {n W c} (hr : ∀ t, InR (iB W c t)) (ix : Fin 320000 → ℕ)
  (hi : ∀ (t : Fin 320) (j : Fin 1000), BitVec.toNat (W c (Proc.devRef .tc main_v2) (ix3 t 0 j)) = ix ⟨t.val * 1000 + j.val, by omega⟩)
include hr hi

theorem rows_at (r : Fin 10240) (l : Fin 128) :
    (mkDat 6 n W (aft W) c).arrAt 3 (cfgs 6).N (ix2 r l) = seg ix (fun e => W c (Proc.devRef .tc main_v26_1) (ix2 e l)) r.val := by
  rw [rows_arr]
  refine (blocks_at (fun g : Vec Ideal S10240x128 .f32 => (g (ix2 r l) : EReal)) (fun t => stepRows (iB W c t) (xB W c t))
    (fun t => part (flat (iB W c t)) (fun j => xB W c t (ix2 j l)) r.val) (fun t g => stepRows_at (hr t) (xB W c t) g r l) zeros128 (zeros128_at r l)).trans ?_
  refine (Finset.sum_congr rfl fun t _ => ?_).trans (parts_seg ix _ (fun t => flat (iB W c t)) (fun t j => ?_) r.val)
  · exact congrArg (fun f => part (flat (iB W c t)) f r.val) (funext fun j => xB_at W c t j l)
  · rw [flat_at, iB_at]; exact hi t j

theorem side_at (r : Fin 10240) (l : Fin 16) :
    (mkDat 6 n W (aft W) c).arrAt 4 (cfgs 6).N (ix2 r l) = seg ix (fun e => W c (Proc.devRef .tc main_v26_0) (ix2 e l)) r.val := by
  rw [side_arr]
  refine (blocks_at (fun g : Vec Ideal S10240x16 .f32 => (g (ix2 r l) : EReal)) (fun t => stepPay (iB W c t) (pB W c t))
    (fun t => part (flat (iB W c t)) (fun j => pB W c t (ix2 j l)) r.val) (fun t g => stepPay_at (hr t) (pB W c t) g r l) zeros16 (zeros16_at r l)).trans ?_
  refine (Finset.sum_congr rfl fun t _ => ?_).trans (parts_seg ix _ (fun t => flat (iB W c t)) (fun t j => ?_) r.val)
  · exact congrArg (fun f => part (flat (iB W c t)) f r.val) (funext fun j => pB_at W c t j l)
  · rw [flat_at, iB_at]; exact hi t j

end C7

namespace C8
variable (n : ℕ) (W : Dev nD → Valuation τ sig (Elt Ideal)) (c : Dev nD)

abbrev lastPt : Fin (cfgs 7).N := ⟨319, by decide +kernel⟩

theorem rows_arr : (mkDat 7 n W (aft W) c).arrAt 3 (cfgs 7).N = rowsAt W c 320 := by
  refine Dat.arrAt_eq_of_after_last (mkDat 7 n W (aft W) c) 3 lastPt (by decide +kernel) _ fun j => ?_
  rfl

theorem side_arr : (mkDat 7 n W (aft W) c).arrAt 4 (cfgs 7).N = payAt W c 320 := by
  refine Dat.arrAt_eq_of_after_last (mkDat 7 n W (aft W) c) 4 lastPt (by decide +kernel) _ fun j => ?_
  rfl

theorem xB_at (t : Fin 320) (j : Fin 1000) (l : Fin 128) :
    xB W c t (ix2 j l) = W c (Proc.devRef .tc main_v27_1) (ix2 ⟨t.val * 1000 + j.val, by omega⟩ l) := by
  have idx : ∀ t : Fin cfg8.N, win8_0.index t = ![t.val, 0] := by decide +kernel
  blk_ext [xB, idx t]

theorem iB_at (t : Fin 320) (j : Fin 1000) :
    iB W c t (ix3 0 0 j) = W c (Proc.devRef .tc main_v3) (ix3 t 0 j) := by
  have idx : ∀ t : Fin cfg8.N, win8_2.index t = ![t.val, 0, 0] := by decide +kernel
  blk_ext [iB, idx t]

theorem pB_at (t : Fin 320) (j : Fin 1000) (l : Fin 16) :
    pB W c t (ix2 j l) = W c (Proc.devRef .tc main_v27_0) (ix2 ⟨t.val * 1000 + j.val, by omega⟩ l) := by
  have idx : ∀ t : Fin cfg8.N, win8_1.index t = ![t.val, 0] := by decide +kernel
  blk_ext [pB, idx t]

variable {n W c} (hr : ∀ t, InR (iB W c t)) (ix : Fin 320000 → ℕ)
  (hi : ∀ (t : Fin 320) (j : Fin 1000), BitVec.toNat (W c (Proc.devRef .tc main_v3) (ix3 t 0 j)) = ix ⟨t.val * 1000 + j.val, by omega⟩)
include hr hi

theorem rows_at (r : Fin 10240) (l : Fin 128) :
    (mkDat 7 n W (aft W) c).arrAt 3 (cfgs 7).N (ix2 r l) = seg ix (fun e => W c (Proc.devRef .tc main_v27_1) (ix2 e l)) r.val := by
  rw [rows_arr]
  refine (blocks_at (fun g : Vec Ideal S10240x128 .f32 => (g (ix2 r l) : EReal)) (fun t => stepRows (iB W c t) (xB W c t))
    (fun t => part (flat (iB W c t)) (fun j => xB W c t (ix2 j l)) r.val) (fun t g => stepRows_at (hr t) (xB W c t) g r l) zeros128 (zeros128_at r l)).trans ?_
  refine (Finset.sum_congr rfl fun t _ => ?_).trans (parts_seg ix _ (fun t => flat (iB W c t)) (fun t j => ?_) r.val)
  · exact congrArg (fun f => part (flat (iB W c t)) f r.val) (funext fun j => xB_at W c t j l)
  · rw [flat_at, iB_at]; exact hi t j

theorem side_at (r : Fin 10240) (l : Fin 16) :
    (mkDat 7 n W (aft W) c).arrAt 4 (cfgs 7).N (ix2 r l) = seg ix (fun e => W c (Proc.devRef .tc main_v27_0) (ix2 e l)) r.val := by
  rw [side_arr]
  refine (blocks_at (fun g : Vec Ideal S10240x16 .f32 => (g (ix2 r l) : EReal)) (fun t => stepPay (iB W c t) (pB W c t))
    (fun t => part (flat (iB W c t)) (fun j => pB W c t (ix2 j l)) r.val) (fun t g => stepPay_at (hr t) (pB W c t) g r l) zeros16 (zeros16_at r l)).trans ?_
  refine (Finset.sum_congr rfl fun t _ => ?_).trans (parts_seg ix _ (fun t => flat (iB W c t)) (fun t j => ?_) r.val)
  · exact congrArg (fun f => part (flat (iB W c t)) f r.val) (funext fun j => pB_at W c t j l)
  · rw [flat_at, iB_at]; exact hi t j

end C8

end Cert.Proof.KernelIdeal

end
-- ==== Proof.PtVal23.lean ====
/-
  What the first layer's two calls leave, entry by entry.
-/
module

public import proofs.«01_k».proof.Proof.SegVal
public import proofs.«01_k».proof.Proof.IdealPt2
public import proofs.«01_k».proof.Proof.IdealPt3
public import Idealize.ShloMosaic.Lib.Pipeline.ValueKit

@[expose] public section

set_option maxRecDepth 16384

noncomputable section

namespace Cert.Proof.KernelIdeal

open Cert.KernelIdeal Cert.KernelIdeal.Gen Cert.Proof.Seg Cert.Proof.Spec
open Idealize.ShloMosaic
open Idealize.ShloMosaic.Pipeline (Dat)

/-- An array's entry where a block's lies. -/
theorem at_entry {ι : Type} {g : ι → EReal} {i i' : ι} {x : EReal} (h : i' = i) (e : x = g i) : x = g i' := h ▸ e

namespace C2
variable (n : ℕ) (W : Dev nD → Valuation τ sig (Elt Ideal)) (c : Dev nD)

theorem b0_at (t : Fin 10) (a : Fin 1024) (l : Fin 128) :
    b0 W c t (ix2 a l) = W c (Proc.devRef .tc main_v4_0) (ix2 ⟨t.val * 1024 + a.val, by omega⟩ l) := by
  have idx : ∀ t : Fin cfg2.N, win2_0.index t = ![t.val, 0] := by decide +kernel
  blk_ext [b0, idx t]

theorem b1_at (t : Fin 10) (a : Fin 1024) (l : Fin 16) :
    b1 W c t (ix2 a l) = W c (Proc.devRef .tc main_v4_1) (ix2 ⟨t.val * 1024 + a.val, by omega⟩ l) := by
  have idx : ∀ t : Fin cfg2.N, win2_1.index t = ![t.val, 0] := by decide +kernel
  blk_ext [b1, idx t]

theorem b2_at (t : Fin 10) (a : Fin 128) (l : Fin 64) :
    b2 W c t (ix2 a l) = W c (Proc.devRef .tc main_v7) (ix2 a l) := by
  have idx : ∀ t : Fin cfg2.N, win2_2.index t = ![0, 0] := by decide +kernel
  blk_ext [b2, idx t]

theorem b3_at (t : Fin 10) (a : Fin 1) (l : Fin 64) :
    b3 W c t (ix2 a l) = W c (Proc.devRef .tc main_v8) (ix2 a l) := by
  have idx : ∀ t : Fin cfg2.N, win2_3.index t = ![0, 0] := by decide +kernel
  blk_ext [b3, idx t]

theorem col1_at (x : Vec Ideal S1024x16 .f32) (a : Fin 1024) (l : Fin 1) : col1 x (ix2 a l) = x (ix2 a ⟨l.val, by omega⟩) := by
  refine congrArg x (funext fun q => Fin.ext ?_)
  match q with
  | 0 => exact (Nat.zero_add _).trans (Nat.one_mul _)
  | 1 => exact (Nat.zero_add _).trans (Nat.one_mul _)

/-- The lower half of the first layer on the mean in row `r`. -/
def row (r : Fin 10240) : Fin 64 → EReal :=
  low (fun k => Ideal.div (W c (Proc.devRef .tc main_v4_0) (ix2 r k)) (max (W c (Proc.devRef .tc main_v4_1) (ix2 r 0)) 1))
    (fun k j => W c (Proc.devRef .tc main_v7) (ix2 k j)) (fun j => W c (Proc.devRef .tc main_v8) (ix2 0 j))

/-- Result 0, entry by entry. -/
def out (i : S10240x128.Idx) : EReal := if h : (i 1).val < 64 then row W c (i 0) ⟨(i 1).val, h⟩ else 0

theorem out_arr : (mkDat 2 n W (aft W) c).arrAt 4 (cfgs 2).N = out W c := by
  have idx : ∀ t : Fin cfg2.N, win2_4.index t = ![t.val, 0] := by decide +kernel
  refine Dat.arrAt_eq_of_covers (mkDat 2 n W (aft W) c) 4 (out W c) (by decide +kernel) fun t hf y => ?_
  show o0 W c t y = _
  obtain ⟨a, b, rfl⟩ : ∃ (a : Fin 1024) (b : Fin 128), y = ix2 a b := ⟨y 0, y 1, eq_ix2 y⟩
  have ht : t.val < 10 := t.isLt
  refine at_entry (i := ix2 ⟨t.val * 1024 + a.val, by omega⟩ b) ?_ ?_
  · blk_ext [show ((pcfgs 2).win (adm 2) 4).index t = ![t.val, 0] from idx t]
  unfold o0 out
  pointwise [k2_pay1]
  by_cases h : b.val < 64
  · refine (dif_pos h).trans (Eq.trans ?_ (dif_pos h).symm)
    unfold row low
    rw [b3_at W c t]
    simp only [col1_at, b0_at W c t, b1_at W c t, b2_at W c t]
    rfl
  · refine (dif_neg h).trans ?_
    first | rw [dif_neg h] | exact (dif_neg (c := (b.val < 64)) h).symm

end C2

namespace C3
variable (n : ℕ) (W : Dev nD → Valuation τ sig (Elt Ideal)) (c : Dev nD)

theorem b0_at (t : Fin 10) (a : Fin 1024) (l : Fin 128) :
    b0 W c t (ix2 a l) = W c (Proc.devRef .tc main_v5_0) (ix2 ⟨t.val * 1024 + a.val, by omega⟩ l) := by
  have idx : ∀ t : Fin cfg3.N, win3_0.index t = ![t.val, 0] := by decide +kernel
  blk_ext [b0, idx t]

theorem b1_at (t : Fin 10) (a : Fin 1024) (l : Fin 16) :
    b1 W c t (ix2 a l) = W c (Proc.devRef .tc main_v5_1) (ix2 ⟨t.val * 1024 + a.val, by omega⟩ l) := by
  have idx : ∀ t : Fin cfg3.N, win3_1.index t = ![t.val, 0] := by decide +kernel
  blk_ext [b1, idx t]

theorem b2_at (t : Fin 10) (a : Fin 128) (l : Fin 64) :
    b2 W c t (ix2 a l) = W c (Proc.devRef .tc main_v7) (ix2 a l) := by
  have idx : ∀ t : Fin cfg3.N, win3_2.index t = ![0, 0] := by decide +kernel
  blk_ext [b2, idx t]

theorem b3_at (t : Fin 10) (a : Fin 1) (l : Fin 64) :
    b3 W c t (ix2 a l) = W c (Proc.devRef .tc main_v8) (ix2 a l) := by
  have idx : ∀ t : Fin cfg3.N, win3_3.index t = ![0, 0] := by decide +kernel
  blk_ext [b3, idx t]

theorem col1_at (x : Vec Ideal S1024x16 .f32) (a : Fin 1024) (l : Fin 1) : col1 x (ix2 a l) = x (ix2 a ⟨l.val, by omega⟩) := by
  refine congrArg x (funext fun q => Fin.ext ?_)
  match q with
  | 0 => exact (Nat.zero_add _).trans (Nat.one_mul _)
  | 1 => exact (Nat.zero_add _).trans (Nat.one_mul _)

/-- The lower half of the first layer on the mean in row `r`. -/
def row (r : Fin 10240) : Fin 64 → EReal :=
  low (fun k => Ideal.div (W c (Proc.devRef .tc main_v5_0) (ix2 r k)) (max (W c (Proc.devRef .tc main_v5_1) (ix2 r 0)) 1))
    (fun k j => W c (Proc.devRef .tc main_v7) (ix2 k j)) (fun j => W c (Proc.devRef .tc main_v8) (ix2 0 j))

/-- Result 0, entry by entry. -/
def out (i : S10240x128.Idx) : EReal := if h : (i 1).val < 64 then row W c (i 0) ⟨(i 1).val, h⟩ else 0

theorem out_arr : (mkDat 3 n W (aft W) c).arrAt 4 (cfgs 3).N = out W c := by
  have idx : ∀ t : Fin cfg3.N, win3_4.index t = ![t.val, 0] := by decide +kernel
  refine Dat.arrAt_eq_of_covers (mkDat 3 n W (aft W) c) 4 (out W c) (by decide +kernel) fun t hf y => ?_
  show o0 W c t y = _
  obtain ⟨a, b, rfl⟩ : ∃ (a : Fin 1024) (b : Fin 128), y = ix2 a b := ⟨y 0, y 1, eq_ix2 y⟩
  have ht : t.val < 10 := t.isLt
  refine at_entry (i := ix2 ⟨t.val * 1024 + a.val, by omega⟩ b) ?_ ?_
  · blk_ext [show ((pcfgs 3).win (adm 3) 4).index t = ![t.val, 0] from idx t]
  unfold o0 out
  pointwise [k3_pay1]
  by_cases h : b.val < 64
  · refine (dif_pos h).trans (Eq.trans ?_ (dif_pos h).symm)
    unfold row low
    rw [b3_at W c t]
    simp only [col1_at, b0_at W c t, b1_at W c t, b2_at W c t]
    rfl
  · refine (dif_neg h).trans ?_
    first | rw [dif_neg h] | exact (dif_neg (c := (b.val < 64)) h).symm

end C3

end Cert.Proof.KernelIdeal

end
-- ==== Proof.PtVal56.lean ====
/-
  What the two calls that score the nodes leave, entry by entry.
-/
module

public import proofs.«01_k».proof.Proof.SegVal
public import proofs.«01_k».proof.Proof.IdealPt5
public import proofs.«01_k».proof.Proof.IdealPt6
public import Idealize.ShloMosaic.Lib.Pipeline.ValueKit

@[expose] public section

set_option maxRecDepth 16384

noncomputable section

namespace Cert.Proof.KernelIdeal

open Cert.KernelIdeal Cert.KernelIdeal.Gen Cert.Proof.Seg Cert.Proof.Spec
open Idealize.ShloMosaic
open Idealize.ShloMosaic.Pipeline (Dat)

/-- An array's entry where a block's lies. -/
theorem at_entry5 {ι : Type} {g : ι → EReal} {i i' : ι} {x : EReal} (h : i' = i) (e : x = g i) : x = g i' := h ▸ e

namespace C5
variable (n : ℕ) (W : Dev nD → Valuation τ sig (Elt Ideal)) (c : Dev nD)

theorem b0_at (t : Fin 80) (a : Fin 4000) (l : Fin 128) :
    b0 W c t (ix2 a l) = W c (Proc.devRef .tc main_arg0) (ix2 ⟨t.val * 4000 + a.val, by omega⟩ l) := by
  have idx : ∀ t : Fin cfg5.N, win5_0.index t = ![t.val, 0] := by decide +kernel
  blk_ext [b0, idx t]

theorem b1_at (t : Fin 80) (a : Fin 4000) (l : Fin 128) :
    b1 W c t (ix2 a l) = W c (Proc.devRef .tc main_v20) (ix2 ⟨t.val * 4000 + a.val, by omega⟩ l) := by
  have idx : ∀ t : Fin cfg5.N, win5_1.index t = ![t.val, 0] := by decide +kernel
  blk_ext [b1, idx t]

theorem b2_at (t : Fin 80) (a : Fin 128) (l : Fin 64) :
    b2 W c t (ix2 a l) = W c (Proc.devRef .tc main_v6) (ix2 a l) := by
  have idx : ∀ t : Fin cfg5.N, win5_2.index t = ![0, 0] := by decide +kernel
  blk_ext [b2, idx t]

theorem b3_at (t : Fin 80) (a : Fin 1) (l : Fin 64) :
    b3 W c t (ix2 a l) = W c (Proc.devRef .tc main_v24) (ix2 a l) := by
  have idx : ∀ t : Fin cfg5.N, win5_3.index t = ![0, 0] := by decide +kernel
  blk_ext [b3, idx t]

theorem b4_at (t : Fin 80) (a : Fin 1) (l : Fin 1) :
    b4 W c t (ix2 a l) = W c (Proc.devRef .tc main_v25) (ix2 a l) := by
  have idx : ∀ t : Fin cfg5.N, win5_4.index t = ![0, 0] := by decide +kernel
  blk_ext [b4, idx t]

theorem col1_at (x : Vec Ideal S4000x128 .f32) (a : Fin 4000) (l : Fin 64) : col1 x (ix2 a l) = x (ix2 a ⟨l.val, by omega⟩) := by
  refine congrArg x (funext fun q => Fin.ext ?_)
  match q with
  | 0 => exact (Nat.zero_add _).trans (Nat.one_mul _)
  | 1 => exact (Nat.zero_add _).trans (Nat.one_mul _)

/-- The score of node `e`. -/
def sc (e : Fin 320000) : EReal :=
  score (fun k => W c (Proc.devRef .tc main_arg0) (ix2 e k)) (fun k j => W c (Proc.devRef .tc main_v6) (ix2 k j))
    (fun j => W c (Proc.devRef .tc main_v20) (ix2 e ⟨j.val, by omega⟩)) (fun j => W c (Proc.devRef .tc main_v24) (ix2 0 j))
    (W c (Proc.devRef .tc main_v25) (ix2 0 0))

/-- Result 0, entry by entry. -/
def out0 (i : S320000x16.Idx) : EReal := if (i 1).val < 1 then sc W c (i 0) else 0

theorem out0_arr : (mkDat 4 n W (aft W) c).arrAt 5 (cfgs 4).N = out0 W c := by
  have idx : ∀ t : Fin cfg5.N, win5_5.index t = ![t.val, 0] := by decide +kernel
  refine Dat.arrAt_eq_of_covers (mkDat 4 n W (aft W) c) 5 (out0 W c) (by decide +kernel) fun t hf y => ?_
  show o0 W c t y = _
  obtain ⟨a, b, rfl⟩ : ∃ (a : Fin 4000) (b : Fin 16), y = ix2 a b := ⟨y 0, y 1, eq_ix2 y⟩
  have ht : t.val < 80 := t.isLt
  refine at_entry5 (i := ix2 ⟨t.val * 4000 + a.val, by omega⟩ b) ?_ ?_
  · blk_ext [show ((pcfgs 4).win (adm 4) 5).index t = ![t.val, 0] from idx t]
  unfold o0 out0
  pointwise [k5_pay2, k5_pay1]
  by_cases h : b.val < 1
  · refine (dif_pos h).trans (Eq.trans ?_ (if_pos h).symm)
    unfold sc score
    simp only [col1_at, b0_at W c t, b1_at W c t, b2_at W c t, b3_at W c t, b4_at W c t]
  · exact (dif_neg h).trans (if_neg h).symm

/-- Result 1, entry by entry. -/
def out1 (i : S320000x128.Idx) : EReal := (show EReal from W c (Proc.devRef .tc main_arg0) i) * sc W c (i 0)

theorem out1_arr : (mkDat 4 n W (aft W) c).arrAt 6 (cfgs 4).N = out1 W c := by
  have idx : ∀ t : Fin cfg5.N, win5_6.index t = ![t.val, 0] := by decide +kernel
  refine Dat.arrAt_eq_of_covers (mkDat 4 n W (aft W) c) 6 (out1 W c) (by decide +kernel) fun t hf y => ?_
  show o1 W c t y = _
  obtain ⟨a, b, rfl⟩ : ∃ (a : Fin 4000) (b : Fin 128), y = ix2 a b := ⟨y 0, y 1, eq_ix2 y⟩
  have ht : t.val < 80 := t.isLt
  refine at_entry5 (i := ix2 ⟨t.val * 4000 + a.val, by omega⟩ b) ?_ ?_
  · blk_ext [show ((pcfgs 4).win (adm 4) 6).index t = ![t.val, 0] from idx t]
  unfold o1 out1
  pointwise [k5_pay3, k5_pay1]
  unfold sc score
  simp only [col1_at, b0_at W c t, b1_at W c t, b2_at W c t, b3_at W c t, b4_at W c t]

end C5

namespace C6
variable (n : ℕ) (W : Dev nD → Valuation τ sig (Elt Ideal)) (c : Dev nD)

theorem b0_at (t : Fin 80) (a : Fin 4000) (l : Fin 128) :
    b0 W c t (ix2 a l) = W c (Proc.devRef .tc main_arg2) (ix2 ⟨t.val * 4000 + a.val, by omega⟩ l) := by
  have idx : ∀ t : Fin cfg6.N, win6_0.index t = ![t.val, 0] := by decide +kernel
  blk_ext [b0, idx t]

theorem b1_at (t : Fin 80) (a : Fin 4000) (l : Fin 128) :
    b1 W c t (ix2 a l) = W c (Proc.devRef .tc main_v23) (ix2 ⟨t.val * 4000 + a.val, by omega⟩ l) := by
  have idx : ∀ t : Fin cfg6.N, win6_1.index t = ![t.val, 0] := by decide +kernel
  blk_ext [b1, idx t]

theorem b2_at (t : Fin 80) (a : Fin 128) (l : Fin 64) :
    b2 W c t (ix2 a l) = W c (Proc.devRef .tc main_v6) (ix2 a l) := by
  have idx : ∀ t : Fin cfg6.N, win6_2.index t = ![0, 0] := by decide +kernel
  blk_ext [b2, idx t]

theorem b3_at (t : Fin 80) (a : Fin 1) (l : Fin 64) :
    b3 W c t (ix2 a l) = W c (Proc.devRef .tc main_v24) (ix2 a l) := by
  have idx : ∀ t : Fin cfg6.N, win6_3.index t = ![0, 0] := by decide +kernel
  blk_ext [b3, idx t]

theorem b4_at (t : Fin 80) (a : Fin 1) (l : Fin 1) :
    b4 W c t (ix2 a l) = W c (Proc.devRef .tc main_v25) (ix2 a l) := by
  have idx : ∀ t : Fin cfg6.N, win6_4.index t = ![0, 0] := by decide +kernel
  blk_ext [b4, idx t]

theorem col1_at (x : Vec Ideal S4000x128 .f32) (a : Fin 4000) (l : Fin 64) : col1 x (ix2 a l) = x (ix2 a ⟨l.val, by omega⟩) := by
  refine congrArg x (funext fun q => Fin.ext ?_)
  match q with
  | 0 => exact (Nat.zero_add _).trans (Nat.one_mul _)
  | 1 => exact (Nat.zero_add _).trans (Nat.one_mul _)

/-- The score of node `e`. -/
def sc (e : Fin 320000) : EReal :=
  score (fun k => W c (Proc.devRef .tc main_arg2) (ix2 e k)) (fun k j => W c (Proc.devRef .tc main_v6) (ix2 k j))
    (fun j => W c (Proc.devRef .tc main_v23) (ix2 e ⟨j.val, by omega⟩)) (fun j => W c (Proc.devRef .tc main_v24) (ix2 0 j))
    (W c (Proc.devRef .tc main_v25) (ix2 0 0))

/-- Result 0, entry by entry. -/
def out0 (i : S320000x16.Idx) : EReal := if (i 1).val < 1 then sc W c (i 0) else 0

theorem out0_arr : (mkDat 5 n W (aft W) c).arrAt 5 (cfgs 5).N = out0 W c := by
  have idx : ∀ t : Fin cfg6.N, win6_5.index t = ![t.val, 0] := by decide +kernel
  refine Dat.arrAt_eq_of_covers (mkDat 5 n W (aft W) c) 5 (out0 W c) (by decide +kernel) fun t hf y => ?_
  show o0 W c t y = _
  obtain ⟨a, b, rfl⟩ : ∃ (a : Fin 4000) (b : Fin 16), y = ix2 a b := ⟨y 0, y 1, eq_ix2 y⟩
  have ht : t.val < 80 := t.isLt
  refine at_entry5 (i := ix2 ⟨t.val * 4000 + a.val, by omega⟩ b) ?_ ?_
  · blk_ext [show ((pcfgs 5).win (adm 5) 5).index t = ![t.val, 0] from idx t]
  unfold o0 out0
  pointwise [k6_pay2, k6_pay1]
  by_cases h : b.val < 1
  · refine (dif_pos h).trans (Eq.trans ?_ (if_pos h).symm)
    unfold sc score
    simp only [col1_at, b0_at W c t, b1_at W c t, b2_at W c t, b3_at W c t, b4_at W c t]
  · exact (dif_neg h).trans (if_neg h).symm

/-- Result 1, entry by entry. -/
def out1 (i : S320000x128.Idx) : EReal := (show EReal from W c (Proc.devRef .tc main_arg2) i) * sc W c (i 0)

theorem out1_arr : (mkDat 5 n W (aft W) c).arrAt 6 (cfgs 5).N = out1 W c := by
  have idx : ∀ t : Fin cfg6.N, win6_6.index t = ![t.val, 0] := by decide +kernel
  refine Dat.arrAt_eq_of_covers (mkDat 5 n W (aft W) c) 6 (out1 W c) (by decide +kernel) fun t hf y => ?_
  show o1 W c t y = _
  obtain ⟨a, b, rfl⟩ : ∃ (a : Fin 4000) (b : Fin 128), y = ix2 a b := ⟨y 0, y 1, eq_ix2 y⟩
  have ht : t.val < 80 := t.isLt
  refine at_entry5 (i := ix2 ⟨t.val * 4000 + a.val, by omega⟩ b) ?_ ?_
  · blk_ext [show ((pcfgs 5).win (adm 5) 6).index t = ![t.val, 0] from idx t]
  unfold o1 out1
  pointwise [k6_pay3, k6_pay1]
  unfold sc score
  simp only [col1_at, b0_at W c t, b1_at W c t, b2_at W c t, b3_at W c t, b4_at W c t]

end C6

end Cert.Proof.KernelIdeal

end
-- ==== Proof.PtVal9.lean ====
/-
  What the last call leaves in its three results, entry by entry.
-/
module

public import proofs.«01_k».proof.Proof.SegVal
public import proofs.«01_k».proof.Proof.IdealPt9
public import Idealize.ShloMosaic.Lib.Pipeline.ValueKit

@[expose] public section

set_option maxRecDepth 16384

noncomputable section

namespace Cert.Proof.KernelIdeal

open Cert.KernelIdeal Cert.KernelIdeal.Gen Cert.Proof.Seg Cert.Proof.Spec
open Idealize.ShloMosaic
open Idealize.ShloMosaic.Pipeline (Dat)

/-- An array's entry where a block's lies. -/
theorem at_entry9 {ι : Type} {g : ι → EReal} {i i' : ι} {x : EReal} (h : i' = i) (e : x = g i) : x = g i' := h ▸ e

namespace C9
variable (n : ℕ) (W : Dev nD → Valuation τ sig (Elt Ideal)) (c : Dev nD)

theorem b0_at (t : Fin 10) (a : Fin 1000) (l : Fin 128) :
    b0 W c t (ix2 a l) = W c (Proc.devRef .tc main_v28_0) (ix2 ⟨t.val * 1000 + a.val, by omega⟩ l) := by
  have idx : ∀ t : Fin cfg9.N, win9_0.index t = ![t.val, 0] := by decide +kernel
  have hm : win9_0.moved (grid9.coords t) (ix2 a l) = true :=
    (win9_0.moved_iff _ (ix2 a l)).mpr fun q => by have := ((ix2 a l : S1000x128.Idx) q).isLt; unfold Pipeline.Window.xsize; rw [clip0 t q]; exact this
  unfold b0 Pipeline.Window.fill
  rw [dif_pos hm]
  blk_ext [idx t]

theorem b1_at (t : Fin 10) (a : Fin 1000) (l : Fin 16) :
    b1 W c t (ix2 a l) = W c (Proc.devRef .tc main_v28_1) (ix2 ⟨t.val * 1000 + a.val, by omega⟩ l) := by
  have idx : ∀ t : Fin cfg9.N, win9_1.index t = ![t.val, 0] := by decide +kernel
  have hm : win9_1.moved (grid9.coords t) (ix2 a l) = true :=
    (win9_1.moved_iff _ (ix2 a l)).mpr fun q => by have := ((ix2 a l : S1000x16.Idx) q).isLt; unfold Pipeline.Window.xsize; rw [clip1 t q]; exact this
  unfold b1 Pipeline.Window.fill
  rw [dif_pos hm]
  blk_ext [idx t]

theorem b2_at (t : Fin 10) (a : Fin 1000) (l : Fin 128) :
    b2 W c t (ix2 a l) = W c (Proc.devRef .tc main_v29_0) (ix2 ⟨t.val * 1000 + a.val, by omega⟩ l) := by
  have idx : ∀ t : Fin cfg9.N, win9_2.index t = ![t.val, 0] := by decide +kernel
  have hm : win9_2.moved (grid9.coords t) (ix2 a l) = true :=
    (win9_2.moved_iff _ (ix2 a l)).mpr fun q => by have := ((ix2 a l : S1000x128.Idx) q).isLt; unfold Pipeline.Window.xsize; rw [clip2 t q]; exact this
  unfold b2 Pipeline.Window.fill
  rw [dif_pos hm]
  blk_ext [idx t]

theorem b3_at (t : Fin 10) (a : Fin 1000) (l : Fin 16) :
    b3 W c t (ix2 a l) = W c (Proc.devRef .tc main_v29_1) (ix2 ⟨t.val * 1000 + a.val, by omega⟩ l) := by
  have idx : ∀ t : Fin cfg9.N, win9_3.index t = ![t.val, 0] := by decide +kernel
  have hm : win9_3.moved (grid9.coords t) (ix2 a l) = true :=
    (win9_3.moved_iff _ (ix2 a l)).mpr fun q => by have := ((ix2 a l : S1000x16.Idx) q).isLt; unfold Pipeline.Window.xsize; rw [clip3 t q]; exact this
  unfold b3 Pipeline.Window.fill
  rw [dif_pos hm]
  blk_ext [idx t]

theorem b4_at (t : Fin 10) (a : Fin 512) (l : Fin 256) :
    b4 W c t (ix2 a l) = W c (Proc.devRef .tc main_arg8) (ix2 a l) := by
  have idx : ∀ t : Fin cfg9.N, win9_4.index t = ![0, 0] := by decide +kernel
  blk_ext [b4, idx t]

theorem b5_at (t : Fin 10) (a : Fin 1) (l : Fin 256) :
    b5 W c t (ix2 a l) = W c (Proc.devRef .tc main_v30) (ix2 a l) := by
  have idx : ∀ t : Fin cfg9.N, win9_5.index t = ![0, 0] := by decide +kernel
  blk_ext [b5, idx t]

theorem b6_at (t : Fin 10) (a : Fin 256) (l : Fin 128) :
    b6 W c t (ix2 a l) = W c (Proc.devRef .tc main_arg10) (ix2 a l) := by
  have idx : ∀ t : Fin cfg9.N, win9_6.index t = ![0, 0] := by decide +kernel
  blk_ext [b6, idx t]

theorem b7_at (t : Fin 10) (a : Fin 1) (l : Fin 128) :
    b7 W c t (ix2 a l) = W c (Proc.devRef .tc main_v31) (ix2 a l) := by
  have idx : ∀ t : Fin cfg9.N, win9_7.index t = ![0, 0] := by decide +kernel
  blk_ext [b7, idx t]

theorem col1_at (x : Vec Ideal S1000x16 .f32) (a : Fin 1000) (l : Fin 1) : col1 x (ix2 a l) = x (ix2 a ⟨l.val, by omega⟩) := by
  refine congrArg x (funext fun q => Fin.ext ?_)
  match q with
  | 0 => exact (Nat.zero_add _).trans (Nat.one_mul _)
  | 1 => exact (Nat.zero_add _).trans (Nat.one_mul _)

theorem col3_at (x : Vec Ideal S1000x16 .f32) (a : Fin 1000) (l : Fin 1) : col3 x (ix2 a l) = x (ix2 a ⟨l.val, by omega⟩) := by
  refine congrArg x (funext fun q => Fin.ext ?_)
  match q with
  | 0 => exact (Nat.zero_add _).trans (Nat.one_mul _)
  | 1 => exact (Nat.zero_add _).trans (Nat.one_mul _)

theorem pay2_at (z : Vec Ideal S1000x1 .f32) (x : Vec Ideal S1000x128 .f32) (a : Fin 1000) (l : Fin 128) :
    k9_pay2 z x (ix2 a l) = Ideal.div (x (ix2 a l)) (z (ix2 a 0) + Ideal.ofBits FTy.f32 619091349#32) := by
  pointwise [k9_pay2]

theorem pay3_at (z : Vec Ideal S1000x1 .f32) (x : Vec Ideal S1000x128 .f32) (a : Fin 1000) (l : Fin 128) :
    k9_pay3 z x (ix2 a l) = Ideal.div (x (ix2 a l)) (z (ix2 a 0) + Ideal.ofBits FTy.f32 619091349#32) := by
  pointwise [k9_pay3]

/-- One side's weighted sum over its total, in row `r`. -/
def pa (r : Fin 10000) (l : Fin 128) : EReal :=
  Ideal.div (W c (Proc.devRef .tc main_v28_0) (ix2 ⟨r.val, by omega⟩ l)) ((show EReal from W c (Proc.devRef .tc main_v28_1) (ix2 ⟨r.val, by omega⟩ 0)) + eps)

/-- One side's weighted sum over its total, in row `r`. -/
def pb (r : Fin 10000) (l : Fin 128) : EReal :=
  Ideal.div (W c (Proc.devRef .tc main_v29_0) (ix2 ⟨r.val, by omega⟩ l)) ((show EReal from W c (Proc.devRef .tc main_v29_1) (ix2 ⟨r.val, by omega⟩ 0)) + eps)

/-- The fusion of the two sides in row `r`. -/
def fu (r : Fin 10000) (l : Fin 128) : EReal :=
  fused (pa W c r) (pb W c r) (fun k x => W c (Proc.devRef .tc main_arg8) (ix2 k x)) (fun x => W c (Proc.devRef .tc main_v30) (ix2 0 x))
    (fun x l => W c (Proc.devRef .tc main_arg10) (ix2 x l)) (fun l => W c (Proc.devRef .tc main_v31) (ix2 0 l)) l

/-- Result 1, entry by entry. -/
def out1 (i : S10000x128.Idx) : EReal := pa W c (i 0) (i 1)

theorem out1_arr : (mkDat 8 n W (aft W) c).arrAt 9 (cfgs 8).N = out1 W c := by
  have idx : ∀ t : Fin cfg9.N, win9_9.index t = ![t.val, 0] := by decide +kernel
  refine Dat.arrAt_eq_of_covers (mkDat 8 n W (aft W) c) 9 (out1 W c) (by decide +kernel) fun t hf y => ?_
  show o1 W c t y = _
  obtain ⟨a, b, rfl⟩ : ∃ (a : Fin 1000) (b : Fin 128), y = ix2 a b := ⟨y 0, y 1, eq_ix2 y⟩
  have ht : t.val < 10 := t.isLt
  refine at_entry9 (i := ix2 ⟨t.val * 1000 + a.val, by omega⟩ b) ?_ ?_
  · blk_ext [show ((pcfgs 8).win (adm 8) 9).index t = ![t.val, 0] from idx t]
  unfold o1 out1
  pointwise [k9_pay2]
  unfold pa eps
  simp only [col1_at, col3_at, b0_at W c t, b1_at W c t, b2_at W c t, b3_at W c t]
  rfl

/-- Result 2, entry by entry. -/
def out2 (i : S10000x128.Idx) : EReal := pb W c (i 0) (i 1)

theorem out2_arr : (mkDat 8 n W (aft W) c).arrAt 10 (cfgs 8).N = out2 W c := by
  have idx : ∀ t : Fin cfg9.N, win9_10.index t = ![t.val, 0] := by decide +kernel
  refine Dat.arrAt_eq_of_covers (mkDat 8 n W (aft W) c) 10 (out2 W c) (by decide +kernel) fun t hf y => ?_
  show o2 W c t y = _
  obtain ⟨a, b, rfl⟩ : ∃ (a : Fin 1000) (b : Fin 128), y = ix2 a b := ⟨y 0, y 1, eq_ix2 y⟩
  have ht : t.val < 10 := t.isLt
  refine at_entry9 (i := ix2 ⟨t.val * 1000 + a.val, by omega⟩ b) ?_ ?_
  · blk_ext [show ((pcfgs 8).win (adm 8) 10).index t = ![t.val, 0] from idx t]
  unfold o2 out2
  pointwise [k9_pay3]
  unfold pb eps
  simp only [col1_at, col3_at, b0_at W c t, b1_at W c t, b2_at W c t, b3_at W c t]
  rfl

/-- Result 0, entry by entry. -/
def out0 (i : S10000x128.Idx) : EReal := fu W c (i 0) (i 1)

theorem out0_arr : (mkDat 8 n W (aft W) c).arrAt 8 (cfgs 8).N = out0 W c := by
  have idx : ∀ t : Fin cfg9.N, win9_8.index t = ![t.val, 0] := by decide +kernel
  refine Dat.arrAt_eq_of_covers (mkDat 8 n W (aft W) c) 8 (out0 W c) (by decide +kernel) fun t hf y => ?_
  show o0 W c t y = _
  obtain ⟨a, b, rfl⟩ : ∃ (a : Fin 1000) (b : Fin 128), y = ix2 a b := ⟨y 0, y 1, eq_ix2 y⟩
  have ht : t.val < 10 := t.isLt
  refine at_entry9 (i := ix2 ⟨t.val * 1000 + a.val, by omega⟩ b) ?_ ?_
  · blk_ext [show ((pcfgs 8).win (adm 8) 8).index t = ![t.val, 0] from idx t]
  unfold o0 out0
  pointwise [k9_pay1, k9_pay4]
  unfold fu fused cat pa pb eps
  simp only [pay2_at, pay3_at, col1_at, col3_at, b0_at W c t, b1_at W c t, b2_at W c t, b3_at W c t, b4_at W c t, b5_at W c t, b6_at W c t, b7_at W c t]
  rfl

end C9

end Cert.Proof.KernelIdeal

end
-- ==== Proof.Whole.lean ====
/-
  The score of every node from the arguments, and the two layers' sums split where two rows lie side by side.
-/
module

public import proofs.«01_k».proof.Proof.Spec

@[expose] public section

noncomputable section

namespace Cert.Proof.Spec

open Idealize.ShloMosaic

/-- The score of node `e`: from its own row and from the mean of the other side's segment of the same number. -/
def node (h g : Fin 320000 → Fin 128 → EReal) (ix iy : Fin 320000 → ℕ) (w : Fin 256 → Fin 64 → EReal) (b : Fin 64 → EReal)
    (w2 : Fin 64 → EReal) (b2 : EReal) (e : Fin 320000) : EReal :=
  score (h e) (fun k j => w ⟨k.val, by omega⟩ j) (low (mean iy g (ix e)) (fun k j => w ⟨128 + k.val, by omega⟩ j) b) w2 b2

/-- A row of 256 entries that is two rows of 128, times a column: the sum of the two halves. -/
theorem sum_halves (x g : Fin 128 → EReal) (w : Fin 256 → EReal) (b : EReal) :
    ∑ k : Fin 256, (if h : k.val < 128 then x ⟨k.val, h⟩ else g ⟨k.val - 128, by omega⟩) * w k + b
      = ∑ k : Fin 128, x k * w ⟨k.val, by omega⟩ + (∑ k : Fin 128, g k * w ⟨128 + k.val, by omega⟩ + b) := by
  rw [← add_assoc]
  refine congrArg (· + b) ((Fin.sum_univ_add (a := 128) (b := 128) _).trans (congrArg₂ (· + ·) ?_ ?_))
  · refine Finset.sum_congr rfl fun k _ => ?_
    exact congrArg (· * _) (dif_pos k.isLt)
  · refine Finset.sum_congr rfl fun k _ => ?_
    refine congrArg (· * _) ((dif_neg (show ¬ 128 + k.val < 128 by omega)).trans (congrArg g (Fin.ext ?_)))
    show 128 + k.val - 128 = k.val
    omega

theorem node_nonneg (h g ix iy w b w2 b2 e) : 0 ≤ node h g ix iy w b w2 b2 e := score_nonneg _ _ _ _ _

end Cert.Proof.Spec

end
-- ==== Proof.KVal.lean ====
/-
  The program's results, entry by entry, in the terms of the problem's mathematics: the arrays' contents followed from the
  arguments through the calls and the host operations.
-/
module

public import proofs.«01_k».proof.Proof.IdealMain
public import proofs.«01_k».proof.Proof.Taken
public import proofs.«01_k».proof.Proof.SumVal
public import proofs.«01_k».proof.Proof.PtVal23
public import proofs.«01_k».proof.Proof.PtVal56
public import proofs.«01_k».proof.Proof.PtVal9
public import proofs.«01_k».proof.Proof.Whole
public import Idealize.ShloMosaic.Lib.Pipeline.ValueKit

@[expose] public section

set_option maxRecDepth 16384

noncomputable section

namespace Cert.Proof.KernelIdeal

open Cert.KernelIdeal Cert.KernelIdeal.Gen Cert.Proof.Seg Cert.Proof.Spec
open Idealize.ShloMosaic
open Idealize.ShloMosaic.StableHlo (after)
open Idealize.ShloMosaic.Pipeline (Dat arrRef afterRegion)

variable (m : (ℓ : Loc nD τ sig) → Buf (Elt Ideal) ℓ) (c : Dev nD)

/-! ## The arguments -/

def hA (e : Fin 320000) (l : Fin 128) : EReal := m ((SparseCore.T c).loc main_arg0) (ix2 e l)
def hB (e : Fin 320000) (l : Fin 128) : EReal := m ((SparseCore.T c).loc main_arg2) (ix2 e l)
def nA (e : Fin 320000) : ℕ := BitVec.toNat (m ((SparseCore.T c).loc main_arg1) (ix1 e))
def nB (e : Fin 320000) : ℕ := BitVec.toNat (m ((SparseCore.T c).loc main_arg3) (ix1 e))
def w1 (k : Fin 256) (j : Fin 64) : EReal := m ((SparseCore.T c).loc main_arg4) (ix2 k j)
def c1 (j : Fin 64) : EReal := m ((SparseCore.T c).loc main_arg5) (ix1 j)
def w2 (j : Fin 64) : EReal := m ((SparseCore.T c).loc main_arg6) (ix2 j 0)
def c2 : EReal := m ((SparseCore.T c).loc main_arg7) (ix1 0)
def w3 (k : Fin 512) (x : Fin 256) : EReal := m ((SparseCore.T c).loc main_arg8) (ix2 k x)
def c3 (x : Fin 256) : EReal := m ((SparseCore.T c).loc main_arg9) (ix1 x)
def w4 (x : Fin 256) (l : Fin 128) : EReal := m ((SparseCore.T c).loc main_arg10) (ix2 x l)
def c4 (l : Fin 128) : EReal := m ((SparseCore.T c).loc main_arg11) (ix1 l)

/-- The scores of one side's nodes. -/
def sA : Fin 320000 → EReal := node (hA m c) (hB m c) (nA m c) (nB m c) (w1 m c) (c1 m c) (w2 m c) (c2 m c)
/-- The scores of the other's. -/
def sB : Fin 320000 → EReal := node (hB m c) (hA m c) (nB m c) (nA m c) (w1 m c) (c1 m c) (w2 m c) (c2 m c)

/-! ## The host operations -/

theorem blocks_num (x : S320000.Idx → BitVec 32) (t : Fin 320) (j : Fin 1000) :
    shapeCast S320x1x1000 x shapeCasts_S320000_S320x1x1000 (ix3 t 0 j) = x (ix1 ⟨t.val * 1000 + j.val, by omega⟩) := by
  refine shapeCast_apply _ _ _ _ ?_
  rw [Shape.rowMajor_val_one (d := ![320000]), Shape.rowMajor_val_three (d := ![320, 1, 1000])]
  show t.val * 1000 + j.val = _
  simp [ix3]

theorem numA (t : Fin 320) (j : Fin 1000) :
    BitVec.toNat (V1 m c (Proc.devRef .tc main_v2) (ix3 t 0 j)) = nA m c ⟨t.val * 1000 + j.val, by omega⟩ := by
  rw [v2_eq]
  exact congrArg BitVec.toNat (blocks_num _ t j)

theorem numB (t : Fin 320) (j : Fin 1000) :
    BitVec.toNat (V1 m c (Proc.devRef .tc main_v3) (ix3 t 0 j)) = nB m c ⟨t.val * 1000 + j.val, by omega⟩ := by
  rw [v3_eq]
  exact congrArg BitVec.toNat (blocks_num _ t j)

theorem v6_eq : V4 m c (Proc.devRef .tc main_v6) = extractStridedSlice S128x64 ![0, 0] (m ((SparseCore.T c).loc main_arg4)) slices_S256x64_S128x64_0_0 := by
  unfold V4
  after_results
  rw [show V3 m c (Proc.devRef .tc main_arg4) = m ((SparseCore.T c).loc main_arg4) from ((from3 m c main_arg4 (by decide)).trans (K1 m c main_arg4 (by decide)))]

theorem v7_eq : V4 m c (Proc.devRef .tc main_v7) = extractStridedSlice S128x64 ![128, 0] (m ((SparseCore.T c).loc main_arg4)) slices_S256x64_S128x64_128_0 := by
  unfold V4
  after_results
  rw [show V3 m c (Proc.devRef .tc main_arg4) = m ((SparseCore.T c).loc main_arg4) from ((from3 m c main_arg4 (by decide)).trans (K1 m c main_arg4 (by decide)))]

theorem v8_eq : V4 m c (Proc.devRef .tc main_v8) = shapeCast S1x64 (m ((SparseCore.T c).loc main_arg5)) shapeCasts_S64_S1x64 := by
  unfold V4
  after_results
  rw [show V3 m c (Proc.devRef .tc main_arg5) = m ((SparseCore.T c).loc main_arg5) from ((from3 m c main_arg5 (by decide)).trans (K1 m c main_arg5 (by decide)))]
  rfl
theorem v24_eq : V9 m c (Proc.devRef .tc main_v24) = shapeCast S1x64 (m ((SparseCore.T c).loc main_arg6)) shapeCasts_S64x1_S1x64 := by
  unfold V9
  after_results
  rw [show V8 m c (Proc.devRef .tc main_arg6) = m ((SparseCore.T c).loc main_arg6) from ((from8 m c main_arg6 (by decide)).trans (K1 m c main_arg6 (by decide)))]
  rfl
theorem v25_eq : V9 m c (Proc.devRef .tc main_v25) = shapeCast S1x1 (m ((SparseCore.T c).loc main_arg7)) shapeCasts_S1_S1x1 := by
  unfold V9
  after_results
  rw [show V8 m c (Proc.devRef .tc main_arg7) = m ((SparseCore.T c).loc main_arg7) from ((from8 m c main_arg7 (by decide)).trans (K1 m c main_arg7 (by decide)))]
  rfl
theorem v30_eq : V14 m c (Proc.devRef .tc main_v30) = shapeCast S1x256 (m ((SparseCore.T c).loc main_arg9)) shapeCasts_S256_S1x256 := by
  unfold V14
  after_results
  rw [show V13 m c (Proc.devRef .tc main_arg9) = m ((SparseCore.T c).loc main_arg9) from ((from13 m c main_arg9 (by decide)).trans (K1 m c main_arg9 (by decide)))]
  rfl
theorem v31_eq : V14 m c (Proc.devRef .tc main_v31) = shapeCast S1x128 (m ((SparseCore.T c).loc main_arg11)) shapeCasts_S128_S1x128 := by
  unfold V14
  after_results
  rw [show V13 m c (Proc.devRef .tc main_arg11) = m ((SparseCore.T c).loc main_arg11) from ((from13 m c main_arg11 (by decide)).trans (K1 m c main_arg11 (by decide)))]
  rfl

theorem v6_at (k : Fin 128) (j : Fin 64) : Eq (α := EReal) (V4 m c (Proc.devRef .tc main_v6) (ix2 k j)) (w1 m c ⟨k.val, by omega⟩ j) := by
  rw [v6_eq]
  unfold extractStridedSlice
  refine congrArg (m ((SparseCore.T c).loc main_arg4)) (funext fun q => Fin.ext ?_)
  match q with
  | ⟨0, _⟩ => exact Nat.zero_add _
  | ⟨1, _⟩ => exact Nat.zero_add _

theorem v7_at (k : Fin 128) (j : Fin 64) : Eq (α := EReal) (V4 m c (Proc.devRef .tc main_v7) (ix2 k j)) (w1 m c ⟨128 + k.val, by omega⟩ j) := by
  rw [v7_eq]
  unfold extractStridedSlice
  refine congrArg (m ((SparseCore.T c).loc main_arg4)) (funext fun q => Fin.ext ?_)
  match q with
  | ⟨0, _⟩ => exact rfl
  | ⟨1, _⟩ => exact Nat.zero_add _

theorem v8_at (j : Fin 64) : Eq (α := EReal) (V4 m c (Proc.devRef .tc main_v8) (ix2 0 j)) (c1 m c j) := by
  rw [v8_eq]
  refine shapeCast_apply _ _ _ (ix1 j) ?_
  rw [Shape.rowMajor_val_one (d := ![64]), Shape.rowMajor_val_two (d := ![1, 64])]
  simp [ix1, ix2]

theorem v24_at (j : Fin 64) : Eq (α := EReal) (V9 m c (Proc.devRef .tc main_v24) (ix2 0 j)) (w2 m c j) := by
  rw [v24_eq]
  refine shapeCast_apply _ _ _ (ix2 j 0) ?_
  rw [Shape.rowMajor_val_two (d := ![64, 1]), Shape.rowMajor_val_two (d := ![1, 64])]
  simp [ix1, ix2]

theorem v25_at  : Eq (α := EReal) (V9 m c (Proc.devRef .tc main_v25) (ix2 0 0)) (c2 m c) := by
  rw [v25_eq]
  refine shapeCast_apply _ _ _ (ix1 0) ?_
  rw [Shape.rowMajor_val_one (d := ![1]), Shape.rowMajor_val_two (d := ![1, 1])]
  simp [ix1, ix2]

theorem v30_at (x : Fin 256) : Eq (α := EReal) (V14 m c (Proc.devRef .tc main_v30) (ix2 0 x)) (c3 m c x) := by
  rw [v30_eq]
  refine shapeCast_apply _ _ _ (ix1 x) ?_
  rw [Shape.rowMajor_val_one (d := ![256]), Shape.rowMajor_val_two (d := ![1, 256])]
  simp [ix1, ix2]

theorem v31_at (l : Fin 128) : Eq (α := EReal) (V14 m c (Proc.devRef .tc main_v31) (ix2 0 l)) (c4 m c l) := by
  rw [v31_eq]
  refine shapeCast_apply _ _ _ (ix1 l) ?_
  rw [Shape.rowMajor_val_one (d := ![128]), Shape.rowMajor_val_two (d := ![1, 128])]
  simp [ix1, ix2]

/-! ## The means -/

theorem sumA (hp : PreOK m) (r : Fin 10240) (l : Fin 128) :
    Eq (α := EReal) (V2 m c (Proc.devRef .tc main_v4_0) (ix2 r l)) (seg (nA m c) (fun e => hA m c e l) r.val) :=
  ((congrFun (Pipeline.afterRegion_arr (mkDat 0 0 (V1 m) (C0.aft (V1 m)) c) (V1 m c) launch0.win.arr_inj 2) (ix2 r l)).trans
    (C0.rows_at (inR0 m hp c) (nA m c) (fun t j => numA m c t j) r l)).trans
    (congrArg (fun f => seg (nA m c) f r.val) (funext fun e => congrFun (K1 m c main_arg0 (by decide)) (ix2 e l)))

theorem countA (hp : PreOK m) (r : Fin 10240) :
    Eq (α := EReal) (V2 m c (Proc.devRef .tc main_v4_1) (ix2 r 0)) (seg (nA m c) (fun _ => 1) r.val) :=
  (congrFun (Pipeline.afterRegion_arr (mkDat 0 0 (V1 m) (C0.aft (V1 m)) c) (V1 m c) launch0.win.arr_inj 3) (ix2 r 0)).trans
    (C0.side_at (inR0 m hp c) (nA m c) (fun t j => numA m c t j) r 0)

theorem sumB (hp : PreOK m) (r : Fin 10240) (l : Fin 128) :
    Eq (α := EReal) (V3 m c (Proc.devRef .tc main_v5_0) (ix2 r l)) (seg (nB m c) (fun e => hB m c e l) r.val) :=
  ((congrFun (Pipeline.afterRegion_arr (mkDat 1 0 (V2 m) (C1.aft (V2 m)) c) (V2 m c) launch1.win.arr_inj 2) (ix2 r l)).trans
    (C1.rows_at (inR1 m hp c) (nB m c) (fun t j => (congrArg BitVec.toNat (congrFun (v3_at2 m c) _)).trans (numB m c t j)) r l)).trans
    (congrArg (fun f => seg (nB m c) f r.val) (funext fun e => congrFun ((from2 m c main_arg2 (by decide)).trans (K1 m c main_arg2 (by decide))) (ix2 e l)))

theorem countB (hp : PreOK m) (r : Fin 10240) :
    Eq (α := EReal) (V3 m c (Proc.devRef .tc main_v5_1) (ix2 r 0)) (seg (nB m c) (fun _ => 1) r.val) :=
  (congrFun (Pipeline.afterRegion_arr (mkDat 1 0 (V2 m) (C1.aft (V2 m)) c) (V2 m c) launch1.win.arr_inj 3) (ix2 r 0)).trans
    (C1.side_at (inR1 m hp c) (nB m c) (fun t j => (congrArg BitVec.toNat (congrFun (v3_at2 m c) _)).trans (numB m c t j)) r 0)

theorem lowA (hp : PreOK m) (r : Fin 10240) (j : Fin 64) :
    Eq (α := EReal) (V5 m c (Proc.devRef .tc main_v9) (ix2 r ⟨j.val, by omega⟩))
      (low (mean (nA m c) (hA m c) r.val) (fun k j => w1 m c ⟨128 + k.val, by omega⟩ j) (c1 m c) j) := by
  refine (congrFun ((Pipeline.afterRegion_arr (mkDat 2 0 (V4 m) (C2.aft (V4 m)) c) (V4 m c) launch2.win.arr_inj 4).trans (C2.out_arr 0 (V4 m) c)) (ix2 r ⟨j.val, by omega⟩)).trans ?_
  refine (dif_pos (show j.val < 64 from j.isLt)).trans ?_
  refine congrFun (congr (congr (congrArg low (funext fun k => ?_)) (funext fun k => funext fun j => ?_)) (funext fun j => ?_)) j
  · refine congrArg₂ Ideal.div ?_ (congrArg (fun z : EReal => max z 1) ?_)
    · exact (congrFun ((K4 m c main_v4_0 (by decide)).trans (K3 m c main_v4_0 (by decide))) _).trans (sumA m c hp r k)
    · exact (congrFun ((K4 m c main_v4_1 (by decide)).trans (K3 m c main_v4_1 (by decide))) _).trans (countA m c hp r)
  · exact v7_at m c k j
  · exact v8_at m c j

theorem lowB (hp : PreOK m) (r : Fin 10240) (j : Fin 64) :
    Eq (α := EReal) (V6 m c (Proc.devRef .tc main_v10) (ix2 r ⟨j.val, by omega⟩))
      (low (mean (nB m c) (hB m c) r.val) (fun k j => w1 m c ⟨128 + k.val, by omega⟩ j) (c1 m c) j) := by
  refine (congrFun ((Pipeline.afterRegion_arr (mkDat 3 0 (V5 m) (C3.aft (V5 m)) c) (V5 m c) launch3.win.arr_inj 4).trans (C3.out_arr 0 (V5 m) c)) (ix2 r ⟨j.val, by omega⟩)).trans ?_
  refine (dif_pos (show j.val < 64 from j.isLt)).trans ?_
  refine congrFun (congr (congr (congrArg low (funext fun k => ?_)) (funext fun k => funext fun j => ?_)) (funext fun j => ?_)) j
  · refine congrArg₂ Ideal.div ?_ (congrArg (fun z : EReal => max z 1) ?_)
    · exact (congrFun ((K5 m c main_v5_0 (by decide)).trans (K4 m c main_v5_0 (by decide))) _).trans (sumB m c hp r k)
    · exact (congrFun ((K5 m c main_v5_1 (by decide)).trans (K4 m c main_v5_1 (by decide))) _).trans (countB m c hp r)
  · exact (congrFun (K5 m c main_v7 (by decide)) _).trans (v7_at m c k j)
  · exact (congrFun (K5 m c main_v8 (by decide)) _).trans (v8_at m c j)

/-! ## The rows at the nodes -/

theorem v17_eq : V8 m c (Proc.devRef .tc main_v17) = expand (tabs m c) (idxs m c) := Function.update_self _ _ _

theorem v20_eq : V9 m c (Proc.devRef .tc main_v20) = taken (V6 m c (Proc.devRef .tc main_v10)) (m ((SparseCore.T c).loc main_arg1)) := by
  unfold V9
  after_results
  rw [v17_eq, tabs_eq, idxs_eq]
  exact lower_expand _ _ _ _

theorem v20_at (hp : PreOK m) (e : Fin 320000) (j : Fin 64) :
    Eq (α := EReal) (V9 m c (Proc.devRef .tc main_v20) (ix2 e ⟨j.val, by omega⟩))
      (low (mean (nB m c) (hB m c) (nA m c e)) (fun k j => w1 m c ⟨128 + k.val, by omega⟩ j) (c1 m c) j) := by
  rw [v20_eq]
  have hb : nA m c e < 10000 := (hp c (ix1 e)).1
  have hz : nA m c e % 10240 = nA m c e := Nat.mod_eq_of_lt (by omega)
  refine ((lowB m c hp ⟨nA m c e % 10240, Nat.mod_lt _ (by decide)⟩ j)).trans ?_
  exact congrArg (fun z => low (mean (nB m c) (hB m c) z) (fun k j => w1 m c ⟨128 + k.val, by omega⟩ j) (c1 m c) j) hz

theorem v23_eq : V9 m c (Proc.devRef .tc main_v23) = taken (V6 m c (Proc.devRef .tc main_v9)) (m ((SparseCore.T c).loc main_arg3)) := by
  unfold V9
  after_results
  rw [v17_eq, tabs_eq, idxs_eq]
  exact upper_expand _ _ _ _

theorem v23_at (hp : PreOK m) (e : Fin 320000) (j : Fin 64) :
    Eq (α := EReal) (V9 m c (Proc.devRef .tc main_v23) (ix2 e ⟨j.val, by omega⟩))
      (low (mean (nA m c) (hA m c) (nB m c e)) (fun k j => w1 m c ⟨128 + k.val, by omega⟩ j) (c1 m c) j) := by
  rw [v23_eq]
  have hb : nB m c e < 10000 := (hp c (ix1 e)).2
  have hz : nB m c e % 10240 = nB m c e := Nat.mod_eq_of_lt (by omega)
  refine ((congrFun (K6 m c main_v9 (by decide)) _).trans (lowA m c hp ⟨nB m c e % 10240, Nat.mod_lt _ (by decide)⟩ j)).trans ?_
  exact congrArg (fun z => low (mean (nA m c) (hA m c) z) (fun k j => w1 m c ⟨128 + k.val, by omega⟩ j) (c1 m c) j) hz

/-! ## The scores -/

theorem scA (hp : PreOK m) (e : Fin 320000) : C5.sc (V9 m) c e = sA m c e := by
  unfold C5.sc sA node
  refine congr (congr (congr (congr (congrArg score (funext fun k => ?_)) (funext fun k => funext fun j => ?_)) (funext fun j => ?_)) (funext fun j => ?_)) ?_
  · exact congrFun ((from9 m c main_arg0 (by decide)).trans (K1 m c main_arg0 (by decide))) (ix2 e k)
  · exact (congrFun ((K9 m c main_v6 (by decide)).trans ((K8 m c main_v6 (by decide)).trans ((K7 m c main_v6 (by decide)).trans ((K6 m c main_v6 (by decide)).trans (K5 m c main_v6 (by decide)))))) _).trans (v6_at m c k j)
  · exact (v20_at m c hp e j)
  · exact (v24_at m c j)
  · exact (v25_at m c)

theorem sideA (hp : PreOK m) (e : Fin 320000) : Eq (α := EReal) (V10 m c (Proc.devRef .tc main_v26_0) (ix2 e 0)) (sA m c e) := by
  refine (congrFun ((Pipeline.afterRegion_arr (mkDat 4 1 (V9 m) (C5.aft (V9 m)) c) (V9 m c) launch5.win.arr_inj 5).trans (C5.out0_arr 1 (V9 m) c)) (ix2 e 0)).trans ?_
  exact (if_pos (show (0 : ℕ) < 1 by decide)).trans (scA m c hp e)

theorem scaledA (hp : PreOK m) (e : Fin 320000) (l : Fin 128) :
    Eq (α := EReal) (V10 m c (Proc.devRef .tc main_v26_1) (ix2 e l)) (hA m c e l * sA m c e) := by
  refine (congrFun ((Pipeline.afterRegion_arr (mkDat 4 1 (V9 m) (C5.aft (V9 m)) c) (V9 m c) launch5.win.arr_inj 6).trans (C5.out1_arr 1 (V9 m) c)) (ix2 e l)).trans ?_
  exact congrArg₂ (fun x y : EReal => x * y) (congrFun ((from9 m c main_arg0 (by decide)).trans (K1 m c main_arg0 (by decide))) (ix2 e l)) (scA m c hp e)

theorem scB (hp : PreOK m) (e : Fin 320000) : C6.sc (V10 m) c e = sB m c e := by
  unfold C6.sc sB node
  refine congr (congr (congr (congr (congrArg score (funext fun k => ?_)) (funext fun k => funext fun j => ?_)) (funext fun j => ?_)) (funext fun j => ?_)) ?_
  · exact congrFun ((from10 m c main_arg2 (by decide)).trans (K1 m c main_arg2 (by decide))) (ix2 e k)
  · exact (congrFun ((K10 m c main_v6 (by decide)).trans ((K9 m c main_v6 (by decide)).trans ((K8 m c main_v6 (by decide)).trans ((K7 m c main_v6 (by decide)).trans ((K6 m c main_v6 (by decide)).trans (K5 m c main_v6 (by decide))))))) _).trans (v6_at m c k j)
  · exact (congrFun (K10 m c main_v23 (by decide)) _).trans (v23_at m c hp e j)
  · exact (congrFun (K10 m c main_v24 (by decide)) _).trans (v24_at m c j)
  · exact (congrFun (K10 m c main_v25 (by decide)) _).trans (v25_at m c)

theorem sideB (hp : PreOK m) (e : Fin 320000) : Eq (α := EReal) (V11 m c (Proc.devRef .tc main_v27_0) (ix2 e 0)) (sB m c e) := by
  refine (congrFun ((Pipeline.afterRegion_arr (mkDat 5 1 (V10 m) (C6.aft (V10 m)) c) (V10 m c) launch6.win.arr_inj 5).trans (C6.out0_arr 1 (V10 m) c)) (ix2 e 0)).trans ?_
  exact (if_pos (show (0 : ℕ) < 1 by decide)).trans (scB m c hp e)

theorem scaledB (hp : PreOK m) (e : Fin 320000) (l : Fin 128) :
    Eq (α := EReal) (V11 m c (Proc.devRef .tc main_v27_1) (ix2 e l)) (hB m c e l * sB m c e) := by
  refine (congrFun ((Pipeline.afterRegion_arr (mkDat 5 1 (V10 m) (C6.aft (V10 m)) c) (V10 m c) launch6.win.arr_inj 6).trans (C6.out1_arr 1 (V10 m) c)) (ix2 e l)).trans ?_
  exact congrArg₂ (fun x y : EReal => x * y) (congrFun ((from10 m c main_arg2 (by decide)).trans (K1 m c main_arg2 (by decide))) (ix2 e l)) (scB m c hp e)

/-! ## The weighted sums -/

theorem totalA (hp : PreOK m) (r : Fin 10240) :
    Eq (α := EReal) (V12 m c (Proc.devRef .tc main_v28_1) (ix2 r 0)) (seg (nA m c) (sA m c) r.val) :=
  ((congrFun (Pipeline.afterRegion_arr (mkDat 6 1 (V11 m) (C7.aft (V11 m)) c) (V11 m c) launch7.win.arr_inj 4) (ix2 r 0)).trans
    (C7.side_at (inR6 m hp c) (nA m c) (fun t j => (congrArg BitVec.toNat (congrFun (v2_at11 m c) _)).trans (numA m c t j)) r 0)).trans
    (congrArg (fun f => seg (nA m c) f r.val) (funext fun e => (congrFun (K11 m c main_v26_0 (by decide)) (ix2 e 0)).trans (sideA m c hp e)))

theorem weightedA (hp : PreOK m) (r : Fin 10240) (l : Fin 128) :
    Eq (α := EReal) (V12 m c (Proc.devRef .tc main_v28_0) (ix2 r l)) (seg (nA m c) (fun e => hA m c e l * sA m c e) r.val) :=
  ((congrFun (Pipeline.afterRegion_arr (mkDat 6 1 (V11 m) (C7.aft (V11 m)) c) (V11 m c) launch7.win.arr_inj 3) (ix2 r l)).trans
    (C7.rows_at (inR6 m hp c) (nA m c) (fun t j => (congrArg BitVec.toNat (congrFun (v2_at11 m c) _)).trans (numA m c t j)) r l)).trans
    (congrArg (fun f => seg (nA m c) f r.val) (funext fun e => (congrFun (K11 m c main_v26_1 (by decide)) (ix2 e l)).trans (scaledA m c hp e l)))

theorem totalB (hp : PreOK m) (r : Fin 10240) :
    Eq (α := EReal) (V13 m c (Proc.devRef .tc main_v29_1) (ix2 r 0)) (seg (nB m c) (sB m c) r.val) :=
  ((congrFun (Pipeline.afterRegion_arr (mkDat 7 1 (V12 m) (C8.aft (V12 m)) c) (V12 m c) launch8.win.arr_inj 4) (ix2 r 0)).trans
    (C8.side_at (inR7 m hp c) (nB m c) (fun t j => (congrArg BitVec.toNat (congrFun (v3_at12 m c) _)).trans (numB m c t j)) r 0)).trans
    (congrArg (fun f => seg (nB m c) f r.val) (funext fun e => (congrFun (K12 m c main_v27_0 (by decide)) (ix2 e 0)).trans (sideB m c hp e)))

theorem weightedB (hp : PreOK m) (r : Fin 10240) (l : Fin 128) :
    Eq (α := EReal) (V13 m c (Proc.devRef .tc main_v29_0) (ix2 r l)) (seg (nB m c) (fun e => hB m c e l * sB m c e) r.val) :=
  ((congrFun (Pipeline.afterRegion_arr (mkDat 7 1 (V12 m) (C8.aft (V12 m)) c) (V12 m c) launch8.win.arr_inj 3) (ix2 r l)).trans
    (C8.rows_at (inR7 m hp c) (nB m c) (fun t j => (congrArg BitVec.toNat (congrFun (v3_at12 m c) _)).trans (numB m c t j)) r l)).trans
    (congrArg (fun f => seg (nB m c) f r.val) (funext fun e => (congrFun (K12 m c main_v27_1 (by decide)) (ix2 e l)).trans (scaledB m c hp e l)))

/-! ## The results -/

theorem pa_eq (hp : PreOK m) (r : Fin 10000) (l : Fin 128) : C9.pa (V14 m) c r l = pooled (nA m c) (hA m c) (sA m c) r.val l :=
  congrArg₂ Ideal.div ((congrFun ((K14 m c main_v28_0 (by decide)).trans (K13 m c main_v28_0 (by decide))) _).trans (weightedA m c hp ⟨r.val, by omega⟩ l))
    (congrArg (fun z : EReal => z + eps) ((congrFun ((K14 m c main_v28_1 (by decide)).trans (K13 m c main_v28_1 (by decide))) _).trans (totalA m c hp ⟨r.val, by omega⟩)))

theorem pb_eq (hp : PreOK m) (r : Fin 10000) (l : Fin 128) : C9.pb (V14 m) c r l = pooled (nB m c) (hB m c) (sB m c) r.val l :=
  congrArg₂ Ideal.div ((congrFun (K14 m c main_v29_0 (by decide)) _).trans (weightedB m c hp ⟨r.val, by omega⟩ l))
    (congrArg (fun z : EReal => z + eps) ((congrFun (K14 m c main_v29_1 (by decide)) _).trans (totalB m c hp ⟨r.val, by omega⟩)))

theorem res1 (hp : PreOK m) (r : Fin 10000) (l : Fin 128) :
    Eq (α := EReal) (V15 m c (Proc.devRef .tc main_v32_1) (ix2 r l)) (pooled (nA m c) (hA m c) (sA m c) r.val l) :=
  (congrFun ((Pipeline.afterRegion_arr (mkDat 8 1 (V14 m) (C9.aft (V14 m)) c) (V14 m c) launch9.win.arr_inj 9).trans (C9.out1_arr 1 (V14 m) c)) (ix2 r l)).trans (pa_eq m c hp r l)

theorem res2 (hp : PreOK m) (r : Fin 10000) (l : Fin 128) :
    Eq (α := EReal) (V15 m c (Proc.devRef .tc main_v32_2) (ix2 r l)) (pooled (nB m c) (hB m c) (sB m c) r.val l) :=
  (congrFun ((Pipeline.afterRegion_arr (mkDat 8 1 (V14 m) (C9.aft (V14 m)) c) (V14 m c) launch9.win.arr_inj 10).trans (C9.out2_arr 1 (V14 m) c)) (ix2 r l)).trans (pb_eq m c hp r l)

theorem res0 (hp : PreOK m) (r : Fin 10000) (l : Fin 128) :
    Eq (α := EReal) (V15 m c (Proc.devRef .tc main_v32_0) (ix2 r l))
      (fused (pooled (nA m c) (hA m c) (sA m c) r.val) (pooled (nB m c) (hB m c) (sB m c) r.val) (w3 m c) (c3 m c) (w4 m c) (c4 m c) l) := by
  refine (congrFun ((Pipeline.afterRegion_arr (mkDat 8 1 (V14 m) (C9.aft (V14 m)) c) (V14 m c) launch9.win.arr_inj 8).trans (C9.out0_arr 1 (V14 m) c)) (ix2 r l)).trans ?_
  show C9.fu (V14 m) c r l = _
  unfold C9.fu
  refine congrFun (congr (congr (congr (congr (congr (congrArg fused (funext fun l => ?_)) (funext fun l => ?_)) (funext fun k => funext fun x => ?_))
    (funext fun x => ?_)) (funext fun x => funext fun l => ?_)) (funext fun l => ?_)) l
  · exact pa_eq m c hp r l
  · exact pb_eq m c hp r l
  · exact congrFun ((from14 m c main_arg8 (by decide)).trans (K1 m c main_arg8 (by decide))) (ix2 k x)
  · exact v30_at m c x
  · exact congrFun ((from14 m c main_arg10 (by decide)).trans (K1 m c main_arg10 (by decide))) (ix2 x l)
  · exact v31_at m c l

end Cert.Proof.KernelIdeal

end
-- ==== Proof.Ref.lean ====
module

public import proofs.«01_k».proof.Proof.Gen.ReferenceIdeal.Run
public import proofs.«01_k».proof.Proof.Gen.ReferenceIdeal.Read
-- ==== Proof.RefOps.lean ====
/-
  The reference's sums over a segment and its lookups, entry by entry.
-/
module

public import proofs.«01_k».proof.Proof.Ref
public import proofs.«01_k».proof.Proof.Spec
public import proofs.«01_k».proof.Proof.Gen.ReferenceIdeal
public import Idealize.ShloMosaic.Lib.Routing.Ops
public import Idealize.ShloMosaic.Lib.Routing.OpsPair

@[expose] public section

set_option maxRecDepth 16384

noncomputable section

namespace Cert.Proof.RefVal

open Cert.ReferenceIdeal Cert.ReferenceIdeal.Gen Cert.ReferenceIdeal.Read Cert.Proof.Spec
open Idealize.ShloMosaic Idealize.ShloMosaic.Routing

/-- A list of row numbers as numbers. -/
def num (v : IVec S320000 32) (e : Fin 320000) : ℕ := (v (ix1 e)).toNat

theorem toInt_small (v : BitVec 32) (h : v.toNat < 10000) : v.toInt = (v.toNat : Int) := by
  rw [BitVec.toInt_eq_toNat_cond]
  split <;> omega

theorem lands128 (st : IVec S320000x1 32) (e : Fin 320000) (k : Fin 128) (r : Fin 10000) (l : Fin 128) (hb : (st (ix2 e 0)).toNat < 10000) :
    (scatter_S10000x128_S320000x1_S320000x128_1_0_0_1).resultIdx? (ix2 e k) st = some (ix2 r l) ↔ (st (ix2 e 0)).toNat = r.val ∧ k = l := by
  have s0 : (scatter_S10000x128_S320000x1_S320000x128_1_0_0_1).start (ix2 e k) st 0 = (st (ix2 e 0)).toInt := by
    have hin : (0 : Fin S10000x128.rank) ∈ (scatter_S10000x128_S320000x1_S320000x128_1_0_0_1).scatterDimsToOperandDims := List.mem_cons_self ..
    unfold ScatterDims.start
    refine (dif_pos hin).trans ?_
    refine congrArg (fun z => (st z).toInt) (funext fun b => Fin.ext ?_)
    match b with
    | ⟨0, _⟩ => rfl
    | ⟨1, _⟩ => rfl
  have s1 : (scatter_S10000x128_S320000x1_S320000x128_1_0_0_1).start (ix2 e k) st 1 = 0 := by
    have hin : ¬ (1 : Fin S10000x128.rank) ∈ (scatter_S10000x128_S320000x1_S320000x128_1_0_0_1).scatterDimsToOperandDims := by decide
    unfold ScatterDims.start
    exact dif_neg hin
  have w0 : (scatter_S10000x128_S320000x1_S320000x128_1_0_0_1).window (ix2 e k) 0 = 0 := by
    have hin : ¬ (0 : Fin S10000x128.rank) ∈ (scatter_S10000x128_S320000x1_S320000x128_1_0_0_1).sKept := by decide
    unfold ScatterDims.window
    exact dif_neg hin
  have w1 : (scatter_S10000x128_S320000x1_S320000x128_1_0_0_1).window (ix2 e k) 1 = k.val := by
    have hin : (1 : Fin S10000x128.rank) ∈ (scatter_S10000x128_S320000x1_S320000x128_1_0_0_1).sKept := by decide
    unfold ScatterDims.window
    refine (dif_pos hin).trans ?_
    rfl
  refine (resultIdx?_ix2 scatter_S10000x128_S320000x1_S320000x128_1_0_0_1 (ix2 e k) st r l).trans ?_
  rw [s0, s1, w0, w1, toInt_small _ hb, Fin.ext_iff]
  omega

/-- A sum over the updates, each added to the row its number names. -/
theorem scatter128_at (z : S10000x128.Idx → EReal) (hz : ∀ i, z i = 0) (st : IVec S320000x1 32) (u : S320000x128.Idx → EReal)
    (ix : Fin 320000 → ℕ) (hi : ∀ e, (st (ix2 e 0)).toNat = ix e) (hb : ∀ e, ix e < 10000) (r : Fin 10000) (l : Fin 128) :
    (Host.scatterAdd (F := Ideal) (φ := .f32) scatter_S10000x128_S320000x1_S320000x128_1_0_0_1 z st u (ix2 r l) : EReal)
      = seg ix (fun e => u (ix2 e l)) r.val := by
  show Ideal.hostScatterAdd scatter_S10000x128_S320000x1_S320000x128_1_0_0_1 z st u (ix2 r l) = _
  unfold Ideal.hostScatterAdd
  rw [hz, zero_add, Finset.sum_filter]
  refine (ValueIdx.sum_idx2 _).trans (Finset.sum_congr rfl fun e _ => ?_)
  have hl := fun k => lands128 st e k r l (by rw [hi]; exact hb e)
  simp only [hi] at hl
  by_cases h : ix e = r.val
  · rw [if_pos h]
    refine (Finset.sum_congr rfl fun k _ => ?_).trans (Finset.sum_ite_eq' Finset.univ l fun k => u (ix2 e k)) |>.trans (if_pos (Finset.mem_univ l))
    exact if_congr ((hl k).trans (and_iff_right h)) rfl rfl
  · rw [if_neg h]
    exact Finset.sum_eq_zero fun k _ => if_neg fun q => h ((hl k).1 q).1

/-- The row a number names. -/
theorem gather128_at {α : Type} (x : S10000x128.Idx → α) (st : IVec S320000x1 32) (e : Fin 320000) (l : Fin 128) (hb : (st (ix2 e 0)).toNat < 10000) :
    Host.gather gather_S10000x128_S320000x1_S320000x128_1_0_n_n_0_1_1128 x st (ix2 e l) = x (ix2 ⟨(st (ix2 e 0)).toNat, hb⟩ l) :=
  gather_row gather_S10000x128_S320000x1_S320000x128_1_0_n_n_0_1_1128 rfl rfl rfl rfl rfl x st e l ⟨(st (ix2 e 0)).toNat, hb⟩
    (BitVec.eq_of_toNat_eq (by rw [BitVec.toNat_ofNat]; exact (Nat.mod_eq_of_lt (by show _ < 2 ^ 32; have := hb; omega)).symm)) (by decide)

theorem lands1 (st : IVec S320000x1 32) (e : Fin 320000) (k : Fin 1) (r : Fin 10000) (l : Fin 1) (hb : (st (ix2 e 0)).toNat < 10000) :
    (scatter_S10000x1_S320000x1_S320000x1_1_0_0_1).resultIdx? (ix2 e k) st = some (ix2 r l) ↔ (st (ix2 e 0)).toNat = r.val ∧ k = l := by
  have s0 : (scatter_S10000x1_S320000x1_S320000x1_1_0_0_1).start (ix2 e k) st 0 = (st (ix2 e 0)).toInt := by
    have hin : (0 : Fin S10000x1.rank) ∈ (scatter_S10000x1_S320000x1_S320000x1_1_0_0_1).scatterDimsToOperandDims := List.mem_cons_self ..
    unfold ScatterDims.start
    refine (dif_pos hin).trans ?_
    refine congrArg (fun z => (st z).toInt) (funext fun b => Fin.ext ?_)
    match b with
    | ⟨0, _⟩ => rfl
    | ⟨1, _⟩ => rfl
  have s1 : (scatter_S10000x1_S320000x1_S320000x1_1_0_0_1).start (ix2 e k) st 1 = 0 := by
    have hin : ¬ (1 : Fin S10000x1.rank) ∈ (scatter_S10000x1_S320000x1_S320000x1_1_0_0_1).scatterDimsToOperandDims := by decide
    unfold ScatterDims.start
    exact dif_neg hin
  have w0 : (scatter_S10000x1_S320000x1_S320000x1_1_0_0_1).window (ix2 e k) 0 = 0 := by
    have hin : ¬ (0 : Fin S10000x1.rank) ∈ (scatter_S10000x1_S320000x1_S320000x1_1_0_0_1).sKept := by decide
    unfold ScatterDims.window
    exact dif_neg hin
  have w1 : (scatter_S10000x1_S320000x1_S320000x1_1_0_0_1).window (ix2 e k) 1 = k.val := by
    have hin : (1 : Fin S10000x1.rank) ∈ (scatter_S10000x1_S320000x1_S320000x1_1_0_0_1).sKept := by decide
    unfold ScatterDims.window
    refine (dif_pos hin).trans ?_
    rfl
  refine (resultIdx?_ix2 scatter_S10000x1_S320000x1_S320000x1_1_0_0_1 (ix2 e k) st r l).trans ?_
  rw [s0, s1, w0, w1, toInt_small _ hb, Fin.ext_iff]
  omega

/-- A sum over the updates, each added to the row its number names. -/
theorem scatter1_at (z : S10000x1.Idx → EReal) (hz : ∀ i, z i = 0) (st : IVec S320000x1 32) (u : S320000x1.Idx → EReal)
    (ix : Fin 320000 → ℕ) (hi : ∀ e, (st (ix2 e 0)).toNat = ix e) (hb : ∀ e, ix e < 10000) (r : Fin 10000) (l : Fin 1) :
    (Host.scatterAdd (F := Ideal) (φ := .f32) scatter_S10000x1_S320000x1_S320000x1_1_0_0_1 z st u (ix2 r l) : EReal)
      = seg ix (fun e => u (ix2 e l)) r.val := by
  show Ideal.hostScatterAdd scatter_S10000x1_S320000x1_S320000x1_1_0_0_1 z st u (ix2 r l) = _
  unfold Ideal.hostScatterAdd
  rw [hz, zero_add, Finset.sum_filter]
  refine (ValueIdx.sum_idx2 _).trans (Finset.sum_congr rfl fun e _ => ?_)
  have hl := fun k => lands1 st e k r l (by rw [hi]; exact hb e)
  simp only [hi] at hl
  by_cases h : ix e = r.val
  · rw [if_pos h]
    refine (Finset.sum_congr rfl fun k _ => ?_).trans (Finset.sum_ite_eq' Finset.univ l fun k => u (ix2 e k)) |>.trans (if_pos (Finset.mem_univ l))
    exact if_congr ((hl k).trans (and_iff_right h)) rfl rfl
  · rw [if_neg h]
    exact Finset.sum_eq_zero fun k _ => if_neg fun q => h ((hl k).1 q).1

/-- The row a number names. -/
theorem gather1_at {α : Type} (x : S10000x1.Idx → α) (st : IVec S320000x1 32) (e : Fin 320000) (l : Fin 1) (hb : (st (ix2 e 0)).toNat < 10000) :
    Host.gather gather_S10000x1_S320000x1_S320000x1_1_0_n_n_0_1_11 x st (ix2 e l) = x (ix2 ⟨(st (ix2 e 0)).toNat, hb⟩ l) :=
  gather_row gather_S10000x1_S320000x1_S320000x1_1_0_n_n_0_1_11 rfl rfl rfl rfl rfl x st e l ⟨(st (ix2 e 0)).toNat, hb⟩
    (BitVec.eq_of_toNat_eq (by rw [BitVec.toNat_ofNat]; exact (Nat.mod_eq_of_lt (by show _ < 2 ^ 32; have := hb; omega)).symm)) (by decide)

end Cert.Proof.RefVal

end
-- ==== Proof.RefVal.lean ====
/-
  The reference's results, entry by entry, in the terms of the problem's mathematics.
-/
module

public import proofs.«01_k».proof.Proof.RefOps
public import proofs.«01_k».proof.Proof.Whole
public import Idealize.ShloMosaic.Lib.Pipeline.ValueKit

@[expose] public section

set_option maxRecDepth 16384

noncomputable section

namespace Cert.Proof.RefVal

open Cert.ReferenceIdeal Cert.ReferenceIdeal.Gen Cert.ReferenceIdeal.Read Cert.Proof.Spec
open Idealize.ShloMosaic Idealize.ShloMosaic.Routing

/-- An array of two axes as a function of two numbers. -/
abbrev mat {a b : ℕ} (x : (⟨2, ![a, b]⟩ : Shape).Idx → EReal) (i : Fin a) (j : Fin b) : EReal := x (ix2 i j)

variable (x0 x2 : FVec Ideal S320000x128 .f32) (x1 x3 : IVec S320000 32) (x4 : FVec Ideal S256x64 .f32) (x5 : FVec Ideal S64 .f32)
  (x6 : FVec Ideal S64x1 .f32) (x7 : FVec Ideal S1 .f32) (x8 : FVec Ideal S512x256 .f32) (x9 : FVec Ideal S256 .f32)
  (x10 : FVec Ideal S256x128 .f32) (x11 : FVec Ideal S128 .f32)

/-- The nodes' scores on one side. -/
abbrev scores (h g : FVec Ideal S320000x128 .f32) (u v : IVec S320000 32) : Fin 320000 → EReal :=
  node (mat h) (mat g) (num u) (num v) (mat x4) (fun j => x5 (ix1 j)) (fun j => x6 (ix2 j 0)) (x7 (ix1 0))

theorem meanB_at (hb : ∀ e, num x3 e < 10000) (r : Fin 10000) (l : Fin 128) :
    val_main_v10 (F := Ideal) x2 x3 (ix2 r l) = mean (num x3) (mat x2) r.val l := by
  have e : val_main_v10 (F := Ideal) x2 x3 (ix2 r l)
      = Ideal.div (val_main_v2 (F := Ideal) x2 x3 (ix2 r l)) (max (val_main_v6 (F := Ideal) x3 (ix2 r 0)) 1) := by
    pointwise [val_main_v10, val_main_v9, val_main_v8, val_main_v7, val_main_cst_2]
  have a : val_main_v2 (F := Ideal) x2 x3 (ix2 r l) = seg (num x3) (fun e => x2 (ix2 e l)) r.val := by
    refine scatter128_at (val_main_v0 (F := Ideal)) (fun i => ?_) (val_main_v1 (F := Ideal) x3) x2 (num x3) (fun e => ?_) hb r l
    · pointwise [val_main_v0, val_main_cst]
    · refine congrArg BitVec.toNat ?_
      pointwise [val_main_v1]
  have b : val_main_v6 (F := Ideal) x3 (ix2 r 0) = seg (num x3) (fun _ => 1) r.val := by
    refine (scatter1_at (val_main_v4 (F := Ideal)) (fun i => ?_) (val_main_v5 (F := Ideal) x3) (val_main_v3 (F := Ideal)) (num x3) (fun e => ?_) hb r 0).trans ?_
    · pointwise [val_main_v4, val_main_cst_1]
    · refine congrArg BitVec.toNat ?_
      pointwise [val_main_v5]
    · refine congrArg (fun f => seg (num x3) f r.val) (funext fun e => ?_)
      pointwise [val_main_v3, val_main_cst_0]
  rw [e, a, b]
  rfl

theorem meanA_at (hb : ∀ e, num x1 e < 10000) (r : Fin 10000) (l : Fin 128) :
    val_main_v21 (F := Ideal) x0 x1 (ix2 r l) = mean (num x1) (mat x0) r.val l := by
  have e : val_main_v21 (F := Ideal) x0 x1 (ix2 r l)
      = Ideal.div (val_main_v13 (F := Ideal) x0 x1 (ix2 r l)) (max (val_main_v17 (F := Ideal) x1 (ix2 r 0)) 1) := by
    pointwise [val_main_v21, val_main_v20, val_main_v19, val_main_v18, val_main_cst_6]
  have a : val_main_v13 (F := Ideal) x0 x1 (ix2 r l) = seg (num x1) (fun e => x0 (ix2 e l)) r.val := by
    refine scatter128_at (val_main_v11 (F := Ideal)) (fun i => ?_) (val_main_v12 (F := Ideal) x1) x0 (num x1) (fun e => ?_) hb r l
    · pointwise [val_main_v11, val_main_cst_3]
    · refine congrArg BitVec.toNat ?_
      pointwise [val_main_v12]
  have b : val_main_v17 (F := Ideal) x1 (ix2 r 0) = seg (num x1) (fun _ => 1) r.val := by
    refine (scatter1_at (val_main_v15 (F := Ideal)) (fun i => ?_) (val_main_v16 (F := Ideal) x1) (val_main_v14 (F := Ideal)) (num x1) (fun e => ?_) hb r 0).trans ?_
    · pointwise [val_main_v15, val_main_cst_5]
    · refine congrArg BitVec.toNat ?_
      pointwise [val_main_v16]
    · refine congrArg (fun f => seg (num x1) f r.val) (funext fun e => ?_)
      pointwise [val_main_v14, val_main_cst_4]
  rw [e, a, b]
  rfl

theorem wrapA_at (hb : ∀ e, num x1 e < 10000) (e : Fin 320000) : val_main_v27 (F := Ideal) x1 (ix2 e 0) = x1 (ix1 e) := by
  have i1 : idx_main_v27 (ix2 e 0) = ix1 e := by funext a; match a with | ⟨0, _⟩ => rfl
  rw [val_main_v27_apply, i1, val_main_v26_apply, val_main_v23_apply, val_main_v22_apply, val_main_c_apply]
  have := hb e
  exact wrap_of_lt _ _ (by show (x1 (ix1 e)).toNat < 2 ^ 31; unfold num at this; omega)

theorem wrap2A_at (hb : ∀ e, num x1 e < 10000) (e : Fin 320000) : val_main_v52 (F := Ideal) x1 (ix2 e 0) = x1 (ix1 e) := by
  have i1 : idx_main_v52 (ix2 e 0) = ix1 e := by funext a; match a with | ⟨0, _⟩ => rfl
  rw [val_main_v52_apply, i1, val_main_v51_apply, val_main_v48_apply, val_main_v47_apply, val_main_c_11_apply]
  have := hb e
  exact wrap_of_lt _ _ (by show (x1 (ix1 e)).toNat < 2 ^ 31; unfold num at this; omega)

theorem takenA_at (hu : ∀ e, num x1 e < 10000) (hv : ∀ e, num x3 e < 10000) (e : Fin 320000) (l : Fin 128) :
    val_main_v28 (F := Ideal) x1 x2 x3 (ix2 e l) = mean (num x3) (mat x2) (num x1 e) l := by
  have hw := wrapA_at x1 hu e
  refine (gather128_at _ _ e l (by rw [hw]; exact hu e)).trans ((meanB_at x2 x3 hv _ l).trans ?_)
  exact congrArg (fun z : BitVec 32 => mean (num x3) (mat x2) z.toNat l) hw

theorem preA_at (hu : ∀ e, num x1 e < 10000) (hv : ∀ e, num x3 e < 10000) (e : Fin 320000) (j : Fin 64) :
    val_main_v33 (F := Ideal) x0 x1 x2 x3 x4 x5 (ix2 e j)
      = ∑ k : Fin 128, x0 (ix2 e k) * x4 (ix2 ⟨k.val, by omega⟩ j)
        + low (mean (num x3) (mat x2) (num x1 e)) (fun k j => x4 (ix2 ⟨128 + k.val, by omega⟩ j)) (fun j => x5 (ix1 j)) j := by
  have a : val_main_v33 (F := Ideal) x0 x1 x2 x3 x4 x5 (ix2 e j) = ∑ k : Fin 256, val_main_v29 (F := Ideal) x0 x1 x2 x3 (ix2 e k) * x4 (ix2 k j) + x5 (ix1 j) := by
    pointwise [val_main_v33, val_main_v32, val_main_v31, val_main_v30]
  have b : ∀ k : Fin 256, val_main_v29 (F := Ideal) x0 x1 x2 x3 (ix2 e k)
      = if h : k.val < 128 then x0 (ix2 e ⟨k.val, h⟩) else val_main_v28 (F := Ideal) x1 x2 x3 (ix2 e ⟨k.val - 128, by omega⟩) := by
    intro k
    pointwise [val_main_v29]
  rw [a]
  simp only [b, takenA_at x2 x1 x3 hu hv]
  exact sum_halves (fun k => x0 (ix2 e k)) (mean (num x3) (mat x2) (num x1 e)) (fun k => x4 (ix2 k j)) (x5 (ix1 j))

theorem scoreA_at (hu : ∀ e, num x1 e < 10000) (hv : ∀ e, num x3 e < 10000) (e : Fin 320000) :
    val_main_v43 (F := Ideal) x0 x1 x2 x3 x4 x5 x6 x7 (ix2 e 0) = scores x4 x5 x6 x7 x0 x2 x1 x3 e := by
  have a : val_main_v43 (F := Ideal) x0 x1 x2 x3 x4 x5 x6 x7 (ix2 e 0) = Ideal.exp (∑ j : Fin 64, (if 0 < val_main_v33 (F := Ideal) x0 x1 x2 x3 x4 x5 (ix2 e j) then val_main_v33 (F := Ideal) x0 x1 x2 x3 x4 x5 (ix2 e j)
      else Ideal.ofBits FTy.f32 1045220557#32 * val_main_v33 (F := Ideal) x0 x1 x2 x3 x4 x5 (ix2 e j)) * x6 (ix2 j 0) + x7 (ix1 0)) := by
    pointwise [val_main_v43, val_main_v42, val_main_v41, val_main_v40, val_main_v39, val_main_v38, val_main_v37, val_main_v36, val_main_v35, val_main_v34, val_main_cst_8, val_main_cst_9]
  rw [a]
  simp only [preA_at x0 x2 x1 x3 x4 x5 hu hv]
  rfl

theorem totalA_at (hu : ∀ e, num x1 e < 10000) (hv : ∀ e, num x3 e < 10000) (r : Fin 10000) :
    val_main_v46 (F := Ideal) x0 x1 x2 x3 x4 x5 x6 x7 (ix2 r 0) = seg (num x1) (scores x4 x5 x6 x7 x0 x2 x1 x3) r.val := by
  refine (scatter1_at (val_main_v44 (F := Ideal)) (fun i => ?_) (val_main_v45 (F := Ideal) x1) (val_main_v43 (F := Ideal) x0 x1 x2 x3 x4 x5 x6 x7) (num x1) (fun e => ?_) hu r 0).trans ?_
  · pointwise [val_main_v44, val_main_cst_10]
  · refine congrArg BitVec.toNat ?_
    pointwise [val_main_v45]
  · exact congrArg (fun f => seg (num x1) f r.val) (funext fun e => scoreA_at x0 x2 x1 x3 x4 x5 x6 x7 hu hv e)

theorem weightA_at (hu : ∀ e, num x1 e < 10000) (hv : ∀ e, num x3 e < 10000) (e : Fin 320000) :
    val_main_v56 (F := Ideal) x0 x1 x2 x3 x4 x5 x6 x7 (ix2 e 0)
      = Ideal.div (scores x4 x5 x6 x7 x0 x2 x1 x3 e) (seg (num x1) (scores x4 x5 x6 x7 x0 x2 x1 x3) (num x1 e) + eps) := by
  have a : val_main_v56 (F := Ideal) x0 x1 x2 x3 x4 x5 x6 x7 (ix2 e 0) = Ideal.div (val_main_v43 (F := Ideal) x0 x1 x2 x3 x4 x5 x6 x7 (ix2 e 0))
      (val_main_v53 (F := Ideal) x0 x1 x2 x3 x4 x5 x6 x7 (ix2 e 0) + Ideal.ofBits FTy.f32 619091349#32) := by
    pointwise [val_main_v56, val_main_v55, val_main_v54, val_main_cst_13]
  have hw := wrap2A_at x1 hu e
  have b : val_main_v53 (F := Ideal) x0 x1 x2 x3 x4 x5 x6 x7 (ix2 e 0) = seg (num x1) (scores x4 x5 x6 x7 x0 x2 x1 x3) (num x1 e) := by
    refine (gather1_at _ _ e 0 (by rw [hw]; exact hu e)).trans ((totalA_at x0 x2 x1 x3 x4 x5 x6 x7 hu hv _).trans ?_)
    exact congrArg (fun z : BitVec 32 => seg (num x1) (scores x4 x5 x6 x7 x0 x2 x1 x3) z.toNat) hw
  rw [a, b, scoreA_at x0 x2 x1 x3 x4 x5 x6 x7 hu hv e]
  rfl

/-- One side's weighted sum, entry by entry. -/
theorem pooledA_at (hu : ∀ e, num x1 e < 10000) (hv : ∀ e, num x3 e < 10000) (r : Fin 10000) (l : Fin 128) :
    val_main_v61 (F := Ideal) x0 x1 x2 x3 x4 x5 x6 x7 (ix2 r l) = pooled (num x1) (mat x0) (scores x4 x5 x6 x7 x0 x2 x1 x3) r.val l := by
  refine (scatter128_at (val_main_v59 (F := Ideal)) (fun i => ?_) (val_main_v60 (F := Ideal) x1) (val_main_v58 (F := Ideal) x0 x1 x2 x3 x4 x5 x6 x7) (num x1) (fun e => ?_) hu r l).trans ?_
  · pointwise [val_main_v59, val_main_cst_14]
  · refine congrArg BitVec.toNat ?_
    pointwise [val_main_v60]
  · refine Eq.trans (congrArg (fun f => seg (num x1) f r.val) (funext fun e => ?_))
      (pooled_eq (num x1) (mat x0) (scores x4 x5 x6 x7 x0 x2 x1 x3) (fun e => node_nonneg _ _ _ _ _ _ _ _ e) r.val l)
    have a : val_main_v58 (F := Ideal) x0 x1 x2 x3 x4 x5 x6 x7 (ix2 e l) = val_main_v56 (F := Ideal) x0 x1 x2 x3 x4 x5 x6 x7 (ix2 e 0) * x0 (ix2 e l) := by
      pointwise [val_main_v58, val_main_v57]
    rw [a, weightA_at x0 x2 x1 x3 x4 x5 x6 x7 hu hv e]

theorem wrapB_at (hb : ∀ e, num x3 e < 10000) (e : Fin 320000) : val_main_v67 (F := Ideal) x3 (ix2 e 0) = x3 (ix1 e) := by
  have i1 : idx_main_v67 (ix2 e 0) = ix1 e := by funext a; match a with | ⟨0, _⟩ => rfl
  rw [val_main_v67_apply, i1, val_main_v66_apply, val_main_v63_apply, val_main_v62_apply, val_main_c_15_apply]
  have := hb e
  exact wrap_of_lt _ _ (by show (x3 (ix1 e)).toNat < 2 ^ 31; unfold num at this; omega)

theorem wrap2B_at (hb : ∀ e, num x3 e < 10000) (e : Fin 320000) : val_main_v92 (F := Ideal) x3 (ix2 e 0) = x3 (ix1 e) := by
  have i1 : idx_main_v92 (ix2 e 0) = ix1 e := by funext a; match a with | ⟨0, _⟩ => rfl
  rw [val_main_v92_apply, i1, val_main_v91_apply, val_main_v88_apply, val_main_v87_apply, val_main_c_20_apply]
  have := hb e
  exact wrap_of_lt _ _ (by show (x3 (ix1 e)).toNat < 2 ^ 31; unfold num at this; omega)

theorem takenB_at (hu : ∀ e, num x3 e < 10000) (hv : ∀ e, num x1 e < 10000) (e : Fin 320000) (l : Fin 128) :
    val_main_v68 (F := Ideal) x0 x1 x3 (ix2 e l) = mean (num x1) (mat x0) (num x3 e) l := by
  have hw := wrapB_at x3 hu e
  refine (gather128_at _ _ e l (by rw [hw]; exact hu e)).trans ((meanA_at x0 x1 hv _ l).trans ?_)
  exact congrArg (fun z : BitVec 32 => mean (num x1) (mat x0) z.toNat l) hw

theorem preB_at (hu : ∀ e, num x3 e < 10000) (hv : ∀ e, num x1 e < 10000) (e : Fin 320000) (j : Fin 64) :
    val_main_v73 (F := Ideal) x0 x1 x2 x3 x4 x5 (ix2 e j)
      = ∑ k : Fin 128, x2 (ix2 e k) * x4 (ix2 ⟨k.val, by omega⟩ j)
        + low (mean (num x1) (mat x0) (num x3 e)) (fun k j => x4 (ix2 ⟨128 + k.val, by omega⟩ j)) (fun j => x5 (ix1 j)) j := by
  have a : val_main_v73 (F := Ideal) x0 x1 x2 x3 x4 x5 (ix2 e j) = ∑ k : Fin 256, val_main_v69 (F := Ideal) x0 x1 x2 x3 (ix2 e k) * x4 (ix2 k j) + x5 (ix1 j) := by
    pointwise [val_main_v73, val_main_v72, val_main_v71, val_main_v70]
  have b : ∀ k : Fin 256, val_main_v69 (F := Ideal) x0 x1 x2 x3 (ix2 e k)
      = if h : k.val < 128 then x2 (ix2 e ⟨k.val, h⟩) else val_main_v68 (F := Ideal) x0 x1 x3 (ix2 e ⟨k.val - 128, by omega⟩) := by
    intro k
    pointwise [val_main_v69]
  rw [a]
  simp only [b, takenB_at x0 x1 x3 hu hv]
  exact sum_halves (fun k => x2 (ix2 e k)) (mean (num x1) (mat x0) (num x3 e)) (fun k => x4 (ix2 k j)) (x5 (ix1 j))

theorem scoreB_at (hu : ∀ e, num x3 e < 10000) (hv : ∀ e, num x1 e < 10000) (e : Fin 320000) :
    val_main_v83 (F := Ideal) x0 x1 x2 x3 x4 x5 x6 x7 (ix2 e 0) = scores x4 x5 x6 x7 x2 x0 x3 x1 e := by
  have a : val_main_v83 (F := Ideal) x0 x1 x2 x3 x4 x5 x6 x7 (ix2 e 0) = Ideal.exp (∑ j : Fin 64, (if 0 < val_main_v73 (F := Ideal) x0 x1 x2 x3 x4 x5 (ix2 e j) then val_main_v73 (F := Ideal) x0 x1 x2 x3 x4 x5 (ix2 e j)
      else Ideal.ofBits FTy.f32 1045220557#32 * val_main_v73 (F := Ideal) x0 x1 x2 x3 x4 x5 (ix2 e j)) * x6 (ix2 j 0) + x7 (ix1 0)) := by
    pointwise [val_main_v83, val_main_v82, val_main_v81, val_main_v80, val_main_v79, val_main_v78, val_main_v77, val_main_v76, val_main_v75, val_main_v74, val_main_cst_17, val_main_cst_18]
  rw [a]
  simp only [preB_at x0 x2 x1 x3 x4 x5 hu hv]
  rfl

theorem totalB_at (hu : ∀ e, num x3 e < 10000) (hv : ∀ e, num x1 e < 10000) (r : Fin 10000) :
    val_main_v86 (F := Ideal) x0 x1 x2 x3 x4 x5 x6 x7 (ix2 r 0) = seg (num x3) (scores x4 x5 x6 x7 x2 x0 x3 x1) r.val := by
  refine (scatter1_at (val_main_v84 (F := Ideal)) (fun i => ?_) (val_main_v85 (F := Ideal) x3) (val_main_v83 (F := Ideal) x0 x1 x2 x3 x4 x5 x6 x7) (num x3) (fun e => ?_) hu r 0).trans ?_
  · pointwise [val_main_v84, val_main_cst_19]
  · refine congrArg BitVec.toNat ?_
    pointwise [val_main_v85]
  · exact congrArg (fun f => seg (num x3) f r.val) (funext fun e => scoreB_at x0 x2 x1 x3 x4 x5 x6 x7 hu hv e)

theorem weightB_at (hu : ∀ e, num x3 e < 10000) (hv : ∀ e, num x1 e < 10000) (e : Fin 320000) :
    val_main_v96 (F := Ideal) x0 x1 x2 x3 x4 x5 x6 x7 (ix2 e 0)
      = Ideal.div (scores x4 x5 x6 x7 x2 x0 x3 x1 e) (seg (num x3) (scores x4 x5 x6 x7 x2 x0 x3 x1) (num x3 e) + eps) := by
  have a : val_main_v96 (F := Ideal) x0 x1 x2 x3 x4 x5 x6 x7 (ix2 e 0) = Ideal.div (val_main_v83 (F := Ideal) x0 x1 x2 x3 x4 x5 x6 x7 (ix2 e 0))
      (val_main_v93 (F := Ideal) x0 x1 x2 x3 x4 x5 x6 x7 (ix2 e 0) + Ideal.ofBits FTy.f32 619091349#32) := by
    pointwise [val_main_v96, val_main_v95, val_main_v94, val_main_cst_22]
  have hw := wrap2B_at x3 hu e
  have b : val_main_v93 (F := Ideal) x0 x1 x2 x3 x4 x5 x6 x7 (ix2 e 0) = seg (num x3) (scores x4 x5 x6 x7 x2 x0 x3 x1) (num x3 e) := by
    refine (gather1_at _ _ e 0 (by rw [hw]; exact hu e)).trans ((totalB_at x0 x2 x1 x3 x4 x5 x6 x7 hu hv _).trans ?_)
    exact congrArg (fun z : BitVec 32 => seg (num x3) (scores x4 x5 x6 x7 x2 x0 x3 x1) z.toNat) hw
  rw [a, b, scoreB_at x0 x2 x1 x3 x4 x5 x6 x7 hu hv e]
  rfl

/-- One side's weighted sum, entry by entry. -/
theorem pooledB_at (hu : ∀ e, num x3 e < 10000) (hv : ∀ e, num x1 e < 10000) (r : Fin 10000) (l : Fin 128) :
    val_main_v101 (F := Ideal) x0 x1 x2 x3 x4 x5 x6 x7 (ix2 r l) = pooled (num x3) (mat x2) (scores x4 x5 x6 x7 x2 x0 x3 x1) r.val l := by
  refine (scatter128_at (val_main_v99 (F := Ideal)) (fun i => ?_) (val_main_v100 (F := Ideal) x3) (val_main_v98 (F := Ideal) x0 x1 x2 x3 x4 x5 x6 x7) (num x3) (fun e => ?_) hu r l).trans ?_
  · pointwise [val_main_v99, val_main_cst_23]
  · refine congrArg BitVec.toNat ?_
    pointwise [val_main_v100]
  · refine Eq.trans (congrArg (fun f => seg (num x3) f r.val) (funext fun e => ?_))
      (pooled_eq (num x3) (mat x2) (scores x4 x5 x6 x7 x2 x0 x3 x1) (fun e => node_nonneg _ _ _ _ _ _ _ _ e) r.val l)
    have a : val_main_v98 (F := Ideal) x0 x1 x2 x3 x4 x5 x6 x7 (ix2 e l) = val_main_v96 (F := Ideal) x0 x1 x2 x3 x4 x5 x6 x7 (ix2 e 0) * x2 (ix2 e l) := by
      pointwise [val_main_v98, val_main_v97]
    rw [a, weightB_at x0 x2 x1 x3 x4 x5 x6 x7 hu hv e]

/-- The fusion, entry by entry. -/
theorem fused_at (hu : ∀ e, num x1 e < 10000) (hv : ∀ e, num x3 e < 10000) (r : Fin 10000) (l : Fin 128) :
    val_main_v115 (F := Ideal) x0 x1 x2 x3 x4 x5 x6 x7 x8 x9 x10 x11 (ix2 r l)
      = fused (pooled (num x1) (mat x0) (scores x4 x5 x6 x7 x0 x2 x1 x3) r.val) (pooled (num x3) (mat x2) (scores x4 x5 x6 x7 x2 x0 x3 x1) r.val)
        (mat x8) (fun x => x9 (ix1 x)) (mat x10) (fun l => x11 (ix1 l)) l := by
  have a : val_main_v115 (F := Ideal) x0 x1 x2 x3 x4 x5 x6 x7 x8 x9 x10 x11 (ix2 r l)
      = ∑ x : Fin 256, max (∑ k : Fin 512, val_main_v105 (F := Ideal) x0 x1 x2 x3 x4 x5 x6 x7 (ix2 r k) * x8 (ix2 k x) + x9 (ix1 x)) 0 * x10 (ix2 x l) + x11 (ix1 l) := by
    pointwise [val_main_v115, val_main_v114, val_main_v113, val_main_v112, val_main_v111, val_main_v110, val_main_v109, val_main_v108, val_main_v107, val_main_v106, val_main_cst_24]
  have b : ∀ k : Fin 512, val_main_v105 (F := Ideal) x0 x1 x2 x3 x4 x5 x6 x7 (ix2 r k)
      = cat (fun l => val_main_v61 (F := Ideal) x0 x1 x2 x3 x4 x5 x6 x7 (ix2 r l)) (fun l => val_main_v101 (F := Ideal) x0 x1 x2 x3 x4 x5 x6 x7 (ix2 r l)) k := by
    intro k
    unfold cat
    pointwise [val_main_v105, val_main_v104, val_main_v103, val_main_v102]
    rfl
  rw [a]
  simp only [b, pooledA_at x0 x2 x1 x3 x4 x5 x6 x7 hu hv, pooledB_at x0 x2 x1 x3 x4 x5 x6 x7 hv hu]
  rfl

end Cert.Proof.RefVal

end
-- ==== Proof.Pre.lean ====
/-
  What the precondition says of the two lists of segment numbers.
-/
module

public import proofs.«01_k».proof.Pre_in_range
public import proofs.«01_k».proof.Proof.Gen.Pre_in_range
public import Idealize.ShloMosaic.Lib.ReduceAll

@[expose] public section

noncomputable section

namespace Cert.Proof

open Idealize.ShloMosaic

/-- The two comparisons on one word: it is a segment number below 10000. -/
theorem below (v : BitVec 32) (h₁ : IntOp.cmpi .sge v 0#32 = 1#1) (h₂ : IntOp.cmpi .slt v 10000#32 = 1#1) :
    v.toNat < 10000 := by
  have bit (p : Bool) (h : BitVec.ofBool p = 1#1) : p = true := by cases p <;> simp_all
  have a := bit _ h₁
  have b := bit _ h₂
  simp only [BitVec.sle_eq_decide, BitVec.slt_eq_decide, decide_eq_true_eq, BitVec.toInt_eq_toNat_cond,
    BitVec.toNat_ofNat, Nat.reducePow, Nat.reduceMod] at a b
  omega

/-- Everything the precondition gives: both lists hold segment numbers below 10000. -/
theorem rows_of_pre {F : FTy → Type} [FloatOps F] (x0 : FVec F Cert.Pre_in_range.S320000x128 .f32) (p : IVec Cert.Pre_in_range.S320000 32)
    (x2 : FVec F Cert.Pre_in_range.S320000x128 .f32) (q : IVec Cert.Pre_in_range.S320000 32)
    (x4 : FVec F Cert.Pre_in_range.S256x64 .f32) (x5 : FVec F Cert.Pre_in_range.S64 .f32) (x6 : FVec F Cert.Pre_in_range.S64x1 .f32)
    (x7 : FVec F Cert.Pre_in_range.S1 .f32) (x8 : FVec F Cert.Pre_in_range.S512x256 .f32) (x9 : FVec F Cert.Pre_in_range.S256 .f32)
    (x10 : FVec F Cert.Pre_in_range.S256x128 .f32) (x11 : FVec F Cert.Pre_in_range.S128 .f32)
    (h : Cert.Pre_in_range.fn (F := F) x0 p x2 q x4 x5 x6 x7 x8 x9 x10 x11 = fun _ => 1#1) (i : Cert.Pre_in_range.S320000.Idx) :
    (p i).toNat < 10000 ∧ (q i).toNat < 10000 := by
  haveI : Subsingleton Cert.Pre_in_range.S_.Idx := ⟨fun a b => funext fun k => k.elim0⟩
  have e := Host.reduce_andi_all _ _ _ _ _ (congrFun h (fun k => k.elim0)) i
  obtain ⟨e₁, b₂⟩ := IntOp.andi_eq_one.1 e
  obtain ⟨e₂, b₁⟩ := IntOp.andi_eq_one.1 e₁
  obtain ⟨a₁, a₂⟩ := IntOp.andi_eq_one.1 e₂
  exact ⟨below _ a₁ a₂, below _ b₁ b₂⟩

end Cert.Proof

end
-- ==== Proof.lean ====
/- The whole kernel computes the reference's three results. The kernel's run is `run_all` of Proof/Main.lean (at `Bits`) and
   Proof/IdealMain.lean (over the reals); Proof/KVal.lean reads its results entry by entry, Proof/RefVal.lean the reference's,
   both in the terms of Proof/Spec.lean. -/
module

public import proofs.«01_k».proof.Defs
public import proofs.«01_k».proof.Proof.Main
public import proofs.«01_k».proof.Proof.IdealMain
public import proofs.«01_k».proof.Proof.KVal
public import proofs.«01_k».proof.Proof.RefVal
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem

theorem in_range (m : (ℓ : Loc Cert.Kernel.nD Cert.Kernel.τ Cert.Kernel.sig) → Buf (Elt Bits) ℓ) (h : Cert.Pre_Kernel m) :
    Cert.Proof.Kernel.PreOK (F := Bits) m := fun d i => rows_of_pre _ _ _ _ _ _ _ _ _ _ _ _ (h d) i

theorem in_range_ideal (m : (ℓ : Loc Cert.KernelIdeal.nD Cert.KernelIdeal.τ Cert.KernelIdeal.sig) → Buf (Elt Ideal) ℓ)
    (h : Cert.Pre_KernelIdeal m) : Cert.Proof.KernelIdeal.PreOK (F := Ideal) m := fun d i => rows_of_pre _ _ _ _ _ _ _ _ _ _ _ _ (h d) i

theorem frame_kernel : Cert.quiescent_Kernel := fun m ρ h =>
  (θ_run Cert.Kernel.defs _ _).mono (fun _ q => ⟨fun c => (q.1 c).2.2.2, q.2⟩)
    (Cert.Proof.Kernel.run_all (F := Bits) m ρ (in_range m h))

theorem frame_kernel_ideal : Cert.quiescent_KernelIdeal := fun m ρ h =>
  (θ_run Cert.KernelIdeal.defs _ _).mono (fun _ q => ⟨fun c => (q.1 c).2.2.2, q.2⟩)
    (Cert.Proof.KernelIdeal.run_all (F := Ideal) m ρ (in_range_ideal m h))

theorem frame_reference : Cert.quiescent_ReferenceIdeal := fun m ρ _ =>
  (θ_run Cert.ReferenceIdeal.defs _ _).mono (fun r q => ⟨fun c => (q c).2.2.2, sem_eq_zero_of_no_sems (by decide) r.2⟩)
    (Cert.ReferenceIdeal.Value.run (F := Ideal) m ρ)

/-- Both programs end with the same three results, entry by entry. -/
theorem same_results : Cert.algebraic_KernelIdeal_ReferenceIdeal := by
  intro m ρ m' ρ' hpre hsame
  have hp := in_range_ideal m hpre
  refine ⟨fun c => Cert.Proof.KernelIdeal.V15 m c (Proc.devRef .tc Cert.KernelIdeal.main_v32_0),
    fun c => Cert.Proof.KernelIdeal.V15 m c (Proc.devRef .tc Cert.KernelIdeal.main_v32_1),
    fun c => Cert.Proof.KernelIdeal.V15 m c (Proc.devRef .tc Cert.KernelIdeal.main_v32_2),
    (θ_run Cert.KernelIdeal.defs _ _).mono (fun _ q c => q.1 c)
      (Cert.Proof.KernelIdeal.run_all (F := Ideal) m ρ hp), ?_⟩
  refine (θ_run Cert.ReferenceIdeal.defs _ _).mono
    (fun _ q c => ⟨(q c).1.trans ?_, (q c).2.1.trans ?_, (q c).2.2.1.trans ?_, (q c).2.2.2⟩)
    (Cert.ReferenceIdeal.Value.run (F := Ideal) m' ρ')
  · obtain ⟨h0, h1, h2, h3, h4, h5, h6, h7, h8, h9, h10, h11⟩ := hsame c
    rw [Cert.ReferenceIdeal.Read.val_main_v115_eq, h0, h1, h2, h3, h4, h5, h6, h7, h8, h9, h10, h11]
    funext i
    obtain ⟨r, l, rfl⟩ : ∃ (r : Fin 10000) (l : Fin 128), i = ix2 r l := ⟨i 0, i 1, eq_ix2 i⟩
    exact (RefVal.fused_at _ _ _ _ _ _ _ _ _ _ _ _ (fun e => (hp c (ix1 e)).1) (fun e => (hp c (ix1 e)).2) r l).trans
      (Cert.Proof.KernelIdeal.res0 m c hp r l).symm
  · obtain ⟨h0, h1, h2, h3, h4, h5, h6, h7, h8, h9, h10, h11⟩ := hsame c
    rw [Cert.ReferenceIdeal.Read.val_main_v61_eq, h0, h1, h2, h3, h4, h5, h6, h7]
    funext i
    obtain ⟨r, l, rfl⟩ : ∃ (r : Fin 10000) (l : Fin 128), i = ix2 r l := ⟨i 0, i 1, eq_ix2 i⟩
    exact (RefVal.pooledA_at _ _ _ _ _ _ _ _ (fun e => (hp c (ix1 e)).1) (fun e => (hp c (ix1 e)).2) r l).trans
      (Cert.Proof.KernelIdeal.res1 m c hp r l).symm
  · obtain ⟨h0, h1, h2, h3, h4, h5, h6, h7, h8, h9, h10, h11⟩ := hsame c
    rw [Cert.ReferenceIdeal.Read.val_main_v101_eq, h0, h1, h2, h3, h4, h5, h6, h7]
    funext i
    obtain ⟨r, l, rfl⟩ : ∃ (r : Fin 10000) (l : Fin 128), i = ix2 r l := ⟨i 0, i 1, eq_ix2 i⟩
    exact (RefVal.pooledB_at _ _ _ _ _ _ _ _ (fun e => (hp c (ix1 e)).2) (fun e => (hp c (ix1 e)).1) r l).trans
      (Cert.Proof.KernelIdeal.res2 m c hp r l).symm

theorem claim : Cert.Claim :=
  ⟨Cert.Kernel.Gen.facts, Cert.KernelIdeal.Gen.facts, Cert.ReferenceIdeal.Gen.facts, Cert.Pre_in_range.Gen.facts,
    frame_kernel, frame_kernel_ideal, frame_reference, fun m ρ _ => frame_reference m ρ trivial, trivial, same_results⟩

end Cert.Proof

end
